-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_HeadS (m : (ℓ : Loc Cert.HeadS.nD Cert.HeadS.τ Cert.HeadS.sig) → Buf (Elt Bits) ℓ) : Prop :=
  True

def Pre_HeadSIdeal (m : (ℓ : Loc Cert.HeadSIdeal.nD Cert.HeadSIdeal.τ Cert.HeadSIdeal.sig) → Buf (Elt Ideal) ℓ) : Prop :=
  True

def Pre_HeadSRefIdeal (m : (ℓ : Loc Cert.HeadSRefIdeal.nD Cert.HeadSRefIdeal.τ Cert.HeadSRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_OddS (m : (ℓ : Loc Cert.OddS.nD Cert.OddS.τ Cert.OddS.sig) → Buf (Elt Bits) ℓ) : Prop :=
  True

def Pre_OddSIdeal (m : (ℓ : Loc Cert.OddSIdeal.nD Cert.OddSIdeal.τ Cert.OddSIdeal.sig) → Buf (Elt Ideal) ℓ) : Prop :=
  True

def Pre_OddSRefIdeal (m : (ℓ : Loc Cert.OddSRefIdeal.nD Cert.OddSRefIdeal.τ Cert.OddSRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_HeadS [hHeadS : Cert.HeadS.Facts] : Prop :=
  ∀ (m : (ℓ : Loc Cert.HeadS.nD Cert.HeadS.τ Cert.HeadS.sig) → Buf (Elt Bits) ℓ) (g : Dev Cert.HeadS.nD → PrngReg), Pre_HeadS m →
    θ_run (Cert.HeadS.defs (F := Bits)) (onTc (τ := Cert.HeadS.τ) (Cert.HeadS.main (F := Bits))) ⟨m, fun _ => 0, g⟩ (fun r => (∀ c : Dev Cert.HeadS.nD,
      r.2.mem ((c.tc : Thread Cert.HeadS.nD Cert.HeadS.τ).loc Cert.HeadS.main_arg0) = m ((c.tc : Thread Cert.HeadS.nD Cert.HeadS.τ).loc Cert.HeadS.main_arg0)
      ∧ r.2.mem ((c.tc : Thread Cert.HeadS.nD Cert.HeadS.τ).loc Cert.HeadS.main_arg1) = m ((c.tc : Thread Cert.HeadS.nD Cert.HeadS.τ).loc Cert.HeadS.main_arg1)
      ∧ r.2.mem ((c.tc : Thread Cert.HeadS.nD Cert.HeadS.τ).loc Cert.HeadS.main_arg2) = m ((c.tc : Thread Cert.HeadS.nD Cert.HeadS.τ).loc Cert.HeadS.main_arg2)
      ∧ r.2.mem ((c.tc : Thread Cert.HeadS.nD Cert.HeadS.τ).loc Cert.HeadS.main_arg3) = m ((c.tc : Thread Cert.HeadS.nD Cert.HeadS.τ).loc Cert.HeadS.main_arg3)
      ∧ r.2.mem ((c.tc : Thread Cert.HeadS.nD Cert.HeadS.τ).loc Cert.HeadS.main_arg4) = m ((c.tc : Thread Cert.HeadS.nD Cert.HeadS.τ).loc Cert.HeadS.main_arg4)
      ∧ r.2.mem ((c.tc : Thread Cert.HeadS.nD Cert.HeadS.τ).loc Cert.HeadS.main_arg5) = m ((c.tc : Thread Cert.HeadS.nD Cert.HeadS.τ).loc Cert.HeadS.main_arg5))
      ∧ r.2.sem = fun _ => 0)

def quiescent_HeadSIdeal [hHeadSIdeal : Cert.HeadSIdeal.Facts] : Prop :=
  ∀ (m : (ℓ : Loc Cert.HeadSIdeal.nD Cert.HeadSIdeal.τ Cert.HeadSIdeal.sig) → Buf (Elt Ideal) ℓ) (g : Dev Cert.HeadSIdeal.nD → PrngReg), Pre_HeadSIdeal m →
    θ_run (Cert.HeadSIdeal.defs (F := Ideal)) (onTc (τ := Cert.HeadSIdeal.τ) (Cert.HeadSIdeal.main (F := Ideal))) ⟨m, fun _ => 0, g⟩ (fun r => (∀ c : Dev Cert.HeadSIdeal.nD,
      r.2.mem ((c.tc : Thread Cert.HeadSIdeal.nD Cert.HeadSIdeal.τ).loc Cert.HeadSIdeal.main_arg0) = m ((c.tc : Thread Cert.HeadSIdeal.nD Cert.HeadSIdeal.τ).loc Cert.HeadSIdeal.main_arg0)
      ∧ r.2.mem ((c.tc : Thread Cert.HeadSIdeal.nD Cert.HeadSIdeal.τ).loc Cert.HeadSIdeal.main_arg1) = m ((c.tc : Thread Cert.HeadSIdeal.nD Cert.HeadSIdeal.τ).loc Cert.HeadSIdeal.main_arg1)
      ∧ r.2.mem ((c.tc : Thread Cert.HeadSIdeal.nD Cert.HeadSIdeal.τ).loc Cert.HeadSIdeal.main_arg2) = m ((c.tc : Thread Cert.HeadSIdeal.nD Cert.HeadSIdeal.τ).loc Cert.HeadSIdeal.main_arg2)
      ∧ r.2.mem ((c.tc : Thread Cert.HeadSIdeal.nD Cert.HeadSIdeal.τ).loc Cert.HeadSIdeal.main_arg3) = m ((c.tc : Thread Cert.HeadSIdeal.nD Cert.HeadSIdeal.τ).loc Cert.HeadSIdeal.main_arg3)
      ∧ r.2.mem ((c.tc : Thread Cert.HeadSIdeal.nD Cert.HeadSIdeal.τ).loc Cert.HeadSIdeal.main_arg4) = m ((c.tc : Thread Cert.HeadSIdeal.nD Cert.HeadSIdeal.τ).loc Cert.HeadSIdeal.main_arg4)
      ∧ r.2.mem ((c.tc : Thread Cert.HeadSIdeal.nD Cert.HeadSIdeal.τ).loc Cert.HeadSIdeal.main_arg5) = m ((c.tc : Thread Cert.HeadSIdeal.nD Cert.HeadSIdeal.τ).loc Cert.HeadSIdeal.main_arg5))
      ∧ r.2.sem = fun _ => 0)

def quiescent_HeadSRefIdeal [hHeadSRefIdeal : Cert.HeadSRefIdeal.Facts] : Prop :=
  ∀ (m : (ℓ : Loc Cert.HeadSRefIdeal.nD Cert.HeadSRefIdeal.τ Cert.HeadSRefIdeal.sig) → Buf (Elt Ideal) ℓ) (g : Dev Cert.HeadSRefIdeal.nD → PrngReg), Pre_HeadSRefIdeal m →
    θ_run (Cert.HeadSRefIdeal.defs (F := Ideal)) (onTc (τ := Cert.HeadSRefIdeal.τ) (Cert.HeadSRefIdeal.main (F := Ideal))) ⟨m, fun _ => 0, g⟩ (fun r => (∀ c : Dev Cert.HeadSRefIdeal.nD,
      r.2.mem ((c.tc : Thread Cert.HeadSRefIdeal.nD Cert.HeadSRefIdeal.τ).loc Cert.HeadSRefIdeal.main_arg0) = m ((c.tc : Thread Cert.HeadSRefIdeal.nD Cert.HeadSRefIdeal.τ).loc Cert.HeadSRefIdeal.main_arg0)
      ∧ r.2.mem ((c.tc : Thread Cert.HeadSRefIdeal.nD Cert.HeadSRefIdeal.τ).loc Cert.HeadSRefIdeal.main_arg1) = m ((c.tc : Thread Cert.HeadSRefIdeal.nD Cert.HeadSRefIdeal.τ).loc Cert.HeadSRefIdeal.main_arg1)
      ∧ r.2.mem ((c.tc : Thread Cert.HeadSRefIdeal.nD Cert.HeadSRefIdeal.τ).loc Cert.HeadSRefIdeal.main_arg2) = m ((c.tc : Thread Cert.HeadSRefIdeal.nD Cert.HeadSRefIdeal.τ).loc Cert.HeadSRefIdeal.main_arg2)
      ∧ r.2.mem ((c.tc : Thread Cert.HeadSRefIdeal.nD Cert.HeadSRefIdeal.τ).loc Cert.HeadSRefIdeal.main_arg3) = m ((c.tc : Thread Cert.HeadSRefIdeal.nD Cert.HeadSRefIdeal.τ).loc Cert.HeadSRefIdeal.main_arg3)
      ∧ r.2.mem ((c.tc : Thread Cert.HeadSRefIdeal.nD Cert.HeadSRefIdeal.τ).loc Cert.HeadSRefIdeal.main_arg4) = m ((c.tc : Thread Cert.HeadSRefIdeal.nD Cert.HeadSRefIdeal.τ).loc Cert.HeadSRefIdeal.main_arg4)
      ∧ r.2.mem ((c.tc : Thread Cert.HeadSRefIdeal.nD Cert.HeadSRefIdeal.τ).loc Cert.HeadSRefIdeal.main_arg5) = m ((c.tc : Thread Cert.HeadSRefIdeal.nD Cert.HeadSRefIdeal.τ).loc Cert.HeadSRefIdeal.main_arg5))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_OddS [hOddS : Cert.OddS.Facts] : Prop :=
  ∀ (m : (ℓ : Loc Cert.OddS.nD Cert.OddS.τ Cert.OddS.sig) → Buf (Elt Bits) ℓ) (g : Dev Cert.OddS.nD → PrngReg), Pre_OddS m →
    θ_run (Cert.OddS.defs (F := Bits)) (onTc (τ := Cert.OddS.τ) (Cert.OddS.main (F := Bits))) ⟨m, fun _ => 0, g⟩ (fun r => (∀ c : Dev Cert.OddS.nD,
      r.2.mem ((c.tc : Thread Cert.OddS.nD Cert.OddS.τ).loc Cert.OddS.main_arg0) = m ((c.tc : Thread Cert.OddS.nD Cert.OddS.τ).loc Cert.OddS.main_arg0)
      ∧ r.2.mem ((c.tc : Thread Cert.OddS.nD Cert.OddS.τ).loc Cert.OddS.main_arg1) = m ((c.tc : Thread Cert.OddS.nD Cert.OddS.τ).loc Cert.OddS.main_arg1)
      ∧ r.2.mem ((c.tc : Thread Cert.OddS.nD Cert.OddS.τ).loc Cert.OddS.main_arg2) = m ((c.tc : Thread Cert.OddS.nD Cert.OddS.τ).loc Cert.OddS.main_arg2)
      ∧ r.2.mem ((c.tc : Thread Cert.OddS.nD Cert.OddS.τ).loc Cert.OddS.main_arg3) = m ((c.tc : Thread Cert.OddS.nD Cert.OddS.τ).loc Cert.OddS.main_arg3)
      ∧ r.2.mem ((c.tc : Thread Cert.OddS.nD Cert.OddS.τ).loc Cert.OddS.main_arg4) = m ((c.tc : Thread Cert.OddS.nD Cert.OddS.τ).loc Cert.OddS.main_arg4)
      ∧ r.2.mem ((c.tc : Thread Cert.OddS.nD Cert.OddS.τ).loc Cert.OddS.main_arg5) = m ((c.tc : Thread Cert.OddS.nD Cert.OddS.τ).loc Cert.OddS.main_arg5))
      ∧ r.2.sem = fun _ => 0)

def quiescent_OddSIdeal [hOddSIdeal : Cert.OddSIdeal.Facts] : Prop :=
  ∀ (m : (ℓ : Loc Cert.OddSIdeal.nD Cert.OddSIdeal.τ Cert.OddSIdeal.sig) → Buf (Elt Ideal) ℓ) (g : Dev Cert.OddSIdeal.nD → PrngReg), Pre_OddSIdeal m →
    θ_run (Cert.OddSIdeal.defs (F := Ideal)) (onTc (τ := Cert.OddSIdeal.τ) (Cert.OddSIdeal.main (F := Ideal))) ⟨m, fun _ => 0, g⟩ (fun r => (∀ c : Dev Cert.OddSIdeal.nD,
      r.2.mem ((c.tc : Thread Cert.OddSIdeal.nD Cert.OddSIdeal.τ).loc Cert.OddSIdeal.main_arg0) = m ((c.tc : Thread Cert.OddSIdeal.nD Cert.OddSIdeal.τ).loc Cert.OddSIdeal.main_arg0)
      ∧ r.2.mem ((c.tc : Thread Cert.OddSIdeal.nD Cert.OddSIdeal.τ).loc Cert.OddSIdeal.main_arg1) = m ((c.tc : Thread Cert.OddSIdeal.nD Cert.OddSIdeal.τ).loc Cert.OddSIdeal.main_arg1)
      ∧ r.2.mem ((c.tc : Thread Cert.OddSIdeal.nD Cert.OddSIdeal.τ).loc Cert.OddSIdeal.main_arg2) = m ((c.tc : Thread Cert.OddSIdeal.nD Cert.OddSIdeal.τ).loc Cert.OddSIdeal.main_arg2)
      ∧ r.2.mem ((c.tc : Thread Cert.OddSIdeal.nD Cert.OddSIdeal.τ).loc Cert.OddSIdeal.main_arg3) = m ((c.tc : Thread Cert.OddSIdeal.nD Cert.OddSIdeal.τ).loc Cert.OddSIdeal.main_arg3)
      ∧ r.2.mem ((c.tc : Thread Cert.OddSIdeal.nD Cert.OddSIdeal.τ).loc Cert.OddSIdeal.main_arg4) = m ((c.tc : Thread Cert.OddSIdeal.nD Cert.OddSIdeal.τ).loc Cert.OddSIdeal.main_arg4)
      ∧ r.2.mem ((c.tc : Thread Cert.OddSIdeal.nD Cert.OddSIdeal.τ).loc Cert.OddSIdeal.main_arg5) = m ((c.tc : Thread Cert.OddSIdeal.nD Cert.OddSIdeal.τ).loc Cert.OddSIdeal.main_arg5))
      ∧ r.2.sem = fun _ => 0)

def quiescent_OddSRefIdeal [hOddSRefIdeal : Cert.OddSRefIdeal.Facts] : Prop :=
  ∀ (m : (ℓ : Loc Cert.OddSRefIdeal.nD Cert.OddSRefIdeal.τ Cert.OddSRefIdeal.sig) → Buf (Elt Ideal) ℓ) (g : Dev Cert.OddSRefIdeal.nD → PrngReg), Pre_OddSRefIdeal m →
    θ_run (Cert.OddSRefIdeal.defs (F := Ideal)) (onTc (τ := Cert.OddSRefIdeal.τ) (Cert.OddSRefIdeal.main (F := Ideal))) ⟨m, fun _ => 0, g⟩ (fun r => (∀ c : Dev Cert.OddSRefIdeal.nD,
      r.2.mem ((c.tc : Thread Cert.OddSRefIdeal.nD Cert.OddSRefIdeal.τ).loc Cert.OddSRefIdeal.main_arg0) = m ((c.tc : Thread Cert.OddSRefIdeal.nD Cert.OddSRefIdeal.τ).loc Cert.OddSRefIdeal.main_arg0)
      ∧ r.2.mem ((c.tc : Thread Cert.OddSRefIdeal.nD Cert.OddSRefIdeal.τ).loc Cert.OddSRefIdeal.main_arg1) = m ((c.tc : Thread Cert.OddSRefIdeal.nD Cert.OddSRefIdeal.τ).loc Cert.OddSRefIdeal.main_arg1)
      ∧ r.2.mem ((c.tc : Thread Cert.OddSRefIdeal.nD Cert.OddSRefIdeal.τ).loc Cert.OddSRefIdeal.main_arg2) = m ((c.tc : Thread Cert.OddSRefIdeal.nD Cert.OddSRefIdeal.τ).loc Cert.OddSRefIdeal.main_arg2)
      ∧ r.2.mem ((c.tc : Thread Cert.OddSRefIdeal.nD Cert.OddSRefIdeal.τ).loc Cert.OddSRefIdeal.main_arg3) = m ((c.tc : Thread Cert.OddSRefIdeal.nD Cert.OddSRefIdeal.τ).loc Cert.OddSRefIdeal.main_arg3)
      ∧ r.2.mem ((c.tc : Thread Cert.OddSRefIdeal.nD Cert.OddSRefIdeal.τ).loc Cert.OddSRefIdeal.main_arg4) = m ((c.tc : Thread Cert.OddSRefIdeal.nD Cert.OddSRefIdeal.τ).loc Cert.OddSRefIdeal.main_arg4)
      ∧ r.2.mem ((c.tc : Thread Cert.OddSRefIdeal.nD Cert.OddSRefIdeal.τ).loc Cert.OddSRefIdeal.main_arg5) = m ((c.tc : Thread Cert.OddSRefIdeal.nD Cert.OddSRefIdeal.τ).loc Cert.OddSRefIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9)
      ∧ r.2.mem ((c.tc : Thread Cert.TailS.nD Cert.TailS.τ).loc Cert.TailS.main_arg10) = m ((c.tc : Thread Cert.TailS.nD Cert.TailS.τ).loc Cert.TailS.main_arg10))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
      ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9)
      ∧ r.2.mem ((c.tc : Thread Cert.TailSRefIdeal.nD Cert.TailSRefIdeal.τ).loc Cert.TailSRefIdeal.main_arg10) = m ((c.tc : Thread Cert.TailSRefIdeal.nD Cert.TailSRefIdeal.τ).loc Cert.TailSRefIdeal.main_arg10))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3)
      ∧ r.2.mem ((c.tc : Thread Cert.State.nD Cert.State.τ).loc Cert.State.main_arg4) = m ((c.tc : Thread Cert.State.nD Cert.State.τ).loc Cert.State.main_arg4)
      ∧ r.2.mem ((c.tc : Thread Cert.State.nD Cert.State.τ).loc Cert.State.main_arg5) = m ((c.tc : Thread Cert.State.nD Cert.State.τ).loc Cert.State.main_arg5)
      ∧ r.2.mem ((c.tc : Thread Cert.State.nD Cert.State.τ).loc Cert.State.main_arg6) = m ((c.tc : Thread Cert.State.nD Cert.State.τ).loc Cert.State.main_arg6)
      ∧ r.2.mem ((c.tc : Thread Cert.State.nD Cert.State.τ).loc Cert.State.main_arg7) = m ((c.tc : Thread Cert.State.nD Cert.State.τ).loc Cert.State.main_arg7)
      ∧ r.2.mem ((c.tc : Thread Cert.State.nD Cert.State.τ).loc Cert.State.main_arg8) = m ((c.tc : Thread Cert.State.nD Cert.State.τ).loc Cert.State.main_arg8)
      ∧ r.2.mem ((c.tc : Thread Cert.State.nD Cert.State.τ).loc Cert.State.main_arg9) = m ((c.tc : Thread Cert.State.nD Cert.State.τ).loc Cert.State.main_arg9)
      ∧ r.2.mem ((c.tc : Thread Cert.State.nD Cert.State.τ).loc Cert.State.main_arg10) = m ((c.tc : Thread Cert.State.nD Cert.State.τ).loc Cert.State.main_arg10))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
      ∧ r.2.mem ((c.tc : Thread Cert.StateIdeal.nD Cert.StateIdeal.τ).loc Cert.StateIdeal.main_arg7) = m ((c.tc : Thread Cert.StateIdeal.nD Cert.StateIdeal.τ).loc Cert.StateIdeal.main_arg7)
      ∧ r.2.mem ((c.tc : Thread Cert.StateIdeal.nD Cert.StateIdeal.τ).loc Cert.StateIdeal.main_arg8) = m ((c.tc : Thread Cert.StateIdeal.nD Cert.StateIdeal.τ).loc Cert.StateIdeal.main_arg8)
      ∧ r.2.mem ((c.tc : Thread Cert.StateIdeal.nD Cert.StateIdeal.τ).loc Cert.StateIdeal.main_arg9) = m ((c.tc : Thread Cert.StateIdeal.nD Cert.StateIdeal.τ).loc Cert.StateIdeal.main_arg9)
      ∧ r.2.mem ((c.tc : Thread Cert.StateIdeal.nD Cert.StateIdeal.τ).loc Cert.StateIdeal.main_arg10) = m ((c.tc : Thread Cert.StateIdeal.nD Cert.StateIdeal.τ).loc Cert.StateIdeal.main_arg10))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3)
      ∧ r.2.mem ((c.tc : Thread Cert.StateRefIdeal.nD Cert.StateRefIdeal.τ).loc Cert.StateRefIdeal.main_arg4) = m ((c.tc : Thread Cert.StateRefIdeal.nD Cert.StateRefIdeal.τ).loc Cert.StateRefIdeal.main_arg4)
      ∧ r.2.mem ((c.tc : Thread Cert.StateRefIdeal.nD Cert.StateRefIdeal.τ).loc Cert.StateRefIdeal.main_arg5) = m ((c.tc : Thread Cert.StateRefIdeal.nD Cert.StateRefIdeal.τ).loc Cert.StateRefIdeal.main_arg5)
      ∧ r.2.mem ((c.tc : Thread Cert.StateRefIdeal.nD Cert.StateRefIdeal.τ).loc Cert.StateRefIdeal.main_arg6) = m ((c.tc : Thread Cert.StateRefIdeal.nD Cert.StateRefIdeal.τ).loc Cert.StateRefIdeal.main_arg6)
      ∧ r.2.mem ((c.tc : Thread Cert.StateRefIdeal.nD Cert.StateRefIdeal.τ).loc Cert.StateRefIdeal.main_arg7) = m ((c.tc : Thread Cert.StateRefIdeal.nD Cert.StateRefIdeal.τ).loc Cert.StateRefIdeal.main_arg7)
      ∧ r.2.mem ((c.tc : Thread Cert.StateRefIdeal.nD Cert.StateRefIdeal.τ).loc Cert.StateRefIdeal.main_arg8) = m ((c.tc : Thread Cert.StateRefIdeal.nD Cert.StateRefIdeal.τ).loc Cert.StateRefIdeal.main_arg8)
      ∧ r.2.mem ((c.tc : Thread Cert.StateRefIdeal.nD Cert.StateRefIdeal.τ).loc Cert.StateRefIdeal.main_arg9) = m ((c.tc : Thread Cert.StateRefIdeal.nD Cert.StateRefIdeal.τ).loc Cert.StateRefIdeal.main_arg9)
      ∧ r.2.mem ((c.tc : Thread Cert.StateRefIdeal.nD Cert.StateRefIdeal.τ).loc Cert.StateRefIdeal.main_arg10) = m ((c.tc : Thread Cert.StateRefIdeal.nD Cert.StateRefIdeal.τ).loc Cert.StateRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v27)) (v1 : (c : Dev Cert.HeadIdeal.nD) → Buf (Elt Ideal) ((c.tc : Thread Cert.HeadIdeal.nD Cert.HeadIdeal.τ).loc Cert.HeadIdeal.main_v28)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v27) = v0 c
          ∧ r.2.mem ((c.tc : Thread Cert.HeadIdeal.nD Cert.HeadIdeal.τ).loc Cert.HeadIdeal.main_v28) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v48) = v0 c
          ∧ r.2.mem ((c.tc : Thread Cert.HeadRefIdeal.nD Cert.HeadRefIdeal.τ).loc Cert.HeadRefIdeal.main_v50) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_HeadS_HeadSIdeal : Prop :=
  True

def algebraic_HeadSIdeal_HeadSRefIdeal [hHeadSIdeal : Cert.HeadSIdeal.Facts] [hHeadSRefIdeal : Cert.HeadSRefIdeal.Facts] : Prop :=
  ∀ (m : (ℓ : Loc Cert.HeadSIdeal.nD Cert.HeadSIdeal.τ Cert.HeadSIdeal.sig) → Buf (Elt Ideal) ℓ) (g : Dev Cert.HeadSIdeal.nD → PrngReg)
    (m' : (ℓ : Loc Cert.HeadSRefIdeal.nD Cert.HeadSRefIdeal.τ Cert.HeadSRefIdeal.sig) → Buf (Elt Ideal) ℓ) (g' : Dev Cert.HeadSRefIdeal.nD → PrngReg), Pre_HeadSIdeal m →
    (∀ c : Dev Cert.HeadSIdeal.nD,
      m' ((c.tc : Thread Cert.HeadSRefIdeal.nD Cert.HeadSRefIdeal.τ).loc Cert.HeadSRefIdeal.main_arg0) = m ((c.tc : Thread Cert.HeadSIdeal.nD Cert.HeadSIdeal.τ).loc Cert.HeadSIdeal.main_arg0)
      ∧ m' ((c.tc : Thread Cert.HeadSRefIdeal.nD Cert.HeadSRefIdeal.τ).loc Cert.HeadSRefIdeal.main_arg1) = m ((c.tc : Thread Cert.HeadSIdeal.nD Cert.HeadSIdeal.τ).loc Cert.HeadSIdeal.main_arg1)
      ∧ m' ((c.tc : Thread Cert.HeadSRefIdeal.nD Cert.HeadSRefIdeal.τ).loc Cert.HeadSRefIdeal.main_arg2) = m ((c.tc : Thread Cert.HeadSIdeal.nD Cert.HeadSIdeal.τ).loc Cert.HeadSIdeal.main_arg2)
      ∧ m' ((c.tc : Thread Cert.HeadSRefIdeal.nD Cert.HeadSRefIdeal.τ).loc Cert.HeadSRefIdeal.main_arg3) = m ((c.tc : Thread Cert.HeadSIdeal.nD Cert.HeadSIdeal.τ).loc Cert.HeadSIdeal.main_arg3)
      ∧ m' ((c.tc : Thread Cert.HeadSRefIdeal.nD Cert.HeadSRefIdeal.τ).loc Cert.HeadSRefIdeal.main_arg4) = m ((c.tc : Thread Cert.HeadSIdeal.nD Cert.HeadSIdeal.τ).loc Cert.HeadSIdeal.main_arg4)
      ∧ m' ((c.tc : Thread Cert.HeadSRefIdeal.nD Cert.HeadSRefIdeal.τ).loc Cert.HeadSRefIdeal.main_arg5) = m ((c.tc : Thread Cert.HeadSIdeal.nD Cert.HeadSIdeal.τ).loc Cert.HeadSIdeal.main_arg5)) →
    ∃ (v0 : (c : Dev Cert.HeadSIdeal.nD) → Buf (Elt Ideal) ((c.tc : Thread Cert.HeadSIdeal.nD Cert.HeadSIdeal.τ).loc Cert.HeadSIdeal.main_v27)) (v1 : (c : Dev Cert.HeadSIdeal.nD) → Buf (Elt Ideal) ((c.tc : Thread Cert.HeadSIdeal.nD Cert.HeadSIdeal.τ).loc Cert.HeadSIdeal.main_v28)),
      θ_run (Cert.HeadSIdeal.defs (F := Ideal)) (onTc (τ := Cert.HeadSIdeal.τ) (Cert.HeadSIdeal.main (F := Ideal))) ⟨m, fun _ => 0, g⟩ (fun r => ∀ c : Dev Cert.HeadSIdeal.nD,
          r.2.mem ((c.tc : Thread Cert.HeadSIdeal.nD Cert.HeadSIdeal.τ).loc Cert.HeadSIdeal.main_v27) = v0 c
          ∧ r.2.mem ((c.tc : Thread Cert.HeadSIdeal.nD Cert.HeadSIdeal.τ).loc Cert.HeadSIdeal.main_v28) = v1 c
          ∧ r.2.mem ((c.tc : Thread Cert.HeadSIdeal.nD Cert.HeadSIdeal.τ).loc Cert.HeadSIdeal.main_arg0) = m ((c.tc : Thread Cert.HeadSIdeal.nD Cert.HeadSIdeal.τ).loc Cert.HeadSIdeal.main_arg0)
          ∧ r.2.mem ((c.tc : Thread Cert.HeadSIdeal.nD Cert.HeadSIdeal.τ).loc Cert.HeadSIdeal.main_arg1) = m ((c.tc : Thread Cert.HeadSIdeal.nD Cert.HeadSIdeal.τ).loc Cert.HeadSIdeal.main_arg1)
          ∧ r.2.mem ((c.tc : Thread Cert.HeadSIdeal.nD Cert.HeadSIdeal.τ).loc Cert.HeadSIdeal.main_arg2) = m ((c.tc : Thread Cert.HeadSIdeal.nD Cert.HeadSIdeal.τ).loc Cert.HeadSIdeal.main_arg2)
          ∧ r.2.mem ((c.tc : Thread Cert.HeadSIdeal.nD Cert.HeadSIdeal.τ).loc Cert.HeadSIdeal.main_arg3) = m ((c.tc : Thread Cert.HeadSIdeal.nD Cert.HeadSIdeal.τ).loc Cert.HeadSIdeal.main_arg3)
          ∧ r.2.mem ((c.tc : Thread Cert.HeadSIdeal.nD Cert.HeadSIdeal.τ).loc Cert.HeadSIdeal.main_arg4) = m ((c.tc : Thread Cert.HeadSIdeal.nD Cert.HeadSIdeal.τ).loc Cert.HeadSIdeal.main_arg4)
          ∧ r.2.mem ((c.tc : Thread Cert.HeadSIdeal.nD Cert.HeadSIdeal.τ).loc Cert.HeadSIdeal.main_arg5) = m ((c.tc : Thread Cert.HeadSIdeal.nD Cert.HeadSIdeal.τ).loc Cert.HeadSIdeal.main_arg5))
      ∧ θ_run (Cert.HeadSRefIdeal.defs (F := Ideal)) (onTc (τ := Cert.HeadSRefIdeal.τ) (Cert.HeadSRefIdeal.main (F := Ideal))) ⟨m', fun _ => 0, g'⟩ (fun r => ∀ c : Dev Cert.HeadSRefIdeal.nD,
          r.2.mem ((c.tc : Thread Cert.HeadSRefIdeal.nD Cert.HeadSRefIdeal.τ).loc Cert.HeadSRefIdeal.main_v48) = v0 c
          ∧ r.2.mem ((c.tc : Thread Cert.HeadSRefIdeal.nD Cert.HeadSRefIdeal.τ).loc Cert.HeadSRefIdeal.main_v50) = v1 c
          ∧ r.2.mem ((c.tc : Thread Cert.HeadSRefIdeal.nD Cert.HeadSRefIdeal.τ).loc Cert.HeadSRefIdeal.main_arg0) = m' ((c.tc : Thread Cert.HeadSRefIdeal.nD Cert.HeadSRefIdeal.τ).loc Cert.HeadSRefIdeal.main_arg0)
          ∧ r.2.mem ((c.tc : Thread Cert.HeadSRefIdeal.nD Cert.HeadSRefIdeal.τ).loc Cert.HeadSRefIdeal.main_arg1) = m' ((c.tc : Thread Cert.HeadSRefIdeal.nD Cert.HeadSRefIdeal.τ).loc Cert.HeadSRefIdeal.main_arg1)
          ∧ r.2.mem ((c.tc : Thread Cert.HeadSRefIdeal.nD Cert.HeadSRefIdeal.τ).loc Cert.HeadSRefIdeal.main_arg2) = m' ((c.tc : Thread Cert.HeadSRefIdeal.nD Cert.HeadSRefIdeal.τ).loc Cert.HeadSRefIdeal.main_arg2)
          ∧ r.2.mem ((c.tc : Thread Cert.HeadSRefIdeal.nD Cert.HeadSRefIdeal.τ).loc Cert.HeadSRefIdeal.main_arg3) = m' ((c.tc : Thread Cert.HeadSRefIdeal.nD Cert.HeadSRefIdeal.τ).loc Cert.HeadSRefIdeal.main_arg3)
          ∧ r.2.mem ((c.tc : Thread Cert.HeadSRefIdeal.nD Cert.HeadSRefIdeal.τ).loc Cert.HeadSRefIdeal.main_arg4) = m' ((c.tc : Thread Cert.HeadSRefIdeal.nD Cert.HeadSRefIdeal.τ).loc Cert.HeadSRefIdeal.main_arg4)
          ∧ r.2.mem ((c.tc : Thread Cert.HeadSRefIdeal.nD Cert.HeadSRefIdeal.τ).loc Cert.HeadSRefIdeal.main_arg5) = m' ((c.tc : Thread Cert.HeadSRefIdeal.nD Cert.HeadSRefIdeal.τ).loc Cert.HeadSRefIdeal.main_arg5))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v18)) (v1 : (c : Dev Cert.OddIdeal.nD) → Buf (Elt Ideal) ((c.tc : Thread Cert.OddIdeal.nD Cert.OddIdeal.τ).loc Cert.OddIdeal.main_v22)) (v2 : (c : Dev Cert.OddIdeal.nD) → Buf (Elt Ideal) ((c.tc : Thread Cert.OddIdeal.nD Cert.OddIdeal.τ).loc Cert.OddIdeal.main_v24)) (v3 : (c : Dev Cert.OddIdeal.nD) → Buf (Elt Ideal) ((c.tc : Thread Cert.OddIdeal.nD Cert.OddIdeal.τ).loc Cert.OddIdeal.main_v26)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v18) = v0 c
          ∧ r.2.mem ((c.tc : Thread Cert.OddIdeal.nD Cert.OddIdeal.τ).loc Cert.OddIdeal.main_v22) = v1 c
          ∧ r.2.mem ((c.tc : Thread Cert.OddIdeal.nD Cert.OddIdeal.τ).loc Cert.OddIdeal.main_v24) = v2 c
          ∧ r.2.mem ((c.tc : Thread Cert.OddIdeal.nD Cert.OddIdeal.τ).loc Cert.OddIdeal.main_v26) = v3 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v53) = v0 c
          ∧ r.2.mem ((c.tc : Thread Cert.OddRefIdeal.nD Cert.OddRefIdeal.τ).loc Cert.OddRefIdeal.main_v49) = v1 c
          ∧ r.2.mem ((c.tc : Thread Cert.OddRefIdeal.nD Cert.OddRefIdeal.τ).loc Cert.OddRefIdeal.main_v50) = v2 c
          ∧ r.2.mem ((c.tc : Thread Cert.OddRefIdeal.nD Cert.OddRefIdeal.τ).loc Cert.OddRefIdeal.main_v51) = v3 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def preserves_OddS_OddSIdeal : Prop :=
  True

def algebraic_OddSIdeal_OddSRefIdeal [hOddSIdeal : Cert.OddSIdeal.Facts] [hOddSRefIdeal : Cert.OddSRefIdeal.Facts] : Prop :=
  ∀ (m : (ℓ : Loc Cert.OddSIdeal.nD Cert.OddSIdeal.τ Cert.OddSIdeal.sig) → Buf (Elt Ideal) ℓ) (g : Dev Cert.OddSIdeal.nD → PrngReg)
    (m' : (ℓ : Loc Cert.OddSRefIdeal.nD Cert.OddSRefIdeal.τ Cert.OddSRefIdeal.sig) → Buf (Elt Ideal) ℓ) (g' : Dev Cert.OddSRefIdeal.nD → PrngReg), Pre_OddSIdeal m →
    (∀ c : Dev Cert.OddSIdeal.nD,
      m' ((c.tc : Thread Cert.OddSRefIdeal.nD Cert.OddSRefIdeal.τ).loc Cert.OddSRefIdeal.main_arg0) = m ((c.tc : Thread Cert.OddSIdeal.nD Cert.OddSIdeal.τ).loc Cert.OddSIdeal.main_arg0)
      ∧ m' ((c.tc : Thread Cert.OddSRefIdeal.nD Cert.OddSRefIdeal.τ).loc Cert.OddSRefIdeal.main_arg1) = m ((c.tc : Thread Cert.OddSIdeal.nD Cert.OddSIdeal.τ).loc Cert.OddSIdeal.main_arg1)
      ∧ m' ((c.tc : Thread Cert.OddSRefIdeal.nD Cert.OddSRefIdeal.τ).loc Cert.OddSRefIdeal.main_arg2) = m ((c.tc : Thread Cert.OddSIdeal.nD Cert.OddSIdeal.τ).loc Cert.OddSIdeal.main_arg2)
      ∧ m' ((c.tc : Thread Cert.OddSRefIdeal.nD Cert.OddSRefIdeal.τ).loc Cert.OddSRefIdeal.main_arg3) = m ((c.tc : Thread Cert.OddSIdeal.nD Cert.OddSIdeal.τ).loc Cert.OddSIdeal.main_arg3)
      ∧ m' ((c.tc : Thread Cert.OddSRefIdeal.nD Cert.OddSRefIdeal.τ).loc Cert.OddSRefIdeal.main_arg4) = m ((c.tc : Thread Cert.OddSIdeal.nD Cert.OddSIdeal.τ).loc Cert.OddSIdeal.main_arg4)
      ∧ m' ((c.tc : Thread Cert.OddSRefIdeal.nD Cert.OddSRefIdeal.τ).loc Cert.OddSRefIdeal.main_arg5) = m ((c.tc : Thread Cert.OddSIdeal.nD Cert.OddSIdeal.τ).loc Cert.OddSIdeal.main_arg5)) →
    ∃ (v0 : (c : Dev Cert.OddSIdeal.nD) → Buf (Elt Ideal) ((c.tc : Thread Cert.OddSIdeal.nD Cert.OddSIdeal.τ).loc Cert.OddSIdeal.main_v18)) (v1 : (c : Dev Cert.OddSIdeal.nD) → Buf (Elt Ideal) ((c.tc : Thread Cert.OddSIdeal.nD Cert.OddSIdeal.τ).loc Cert.OddSIdeal.main_v22)) (v2 : (c : Dev Cert.OddSIdeal.nD) → Buf (Elt Ideal) ((c.tc : Thread Cert.OddSIdeal.nD Cert.OddSIdeal.τ).loc Cert.OddSIdeal.main_v24)) (v3 : (c : Dev Cert.OddSIdeal.nD) → Buf (Elt Ideal) ((c.tc : Thread Cert.OddSIdeal.nD Cert.OddSIdeal.τ).loc Cert.OddSIdeal.main_v26)),
      θ_run (Cert.OddSIdeal.defs (F := Ideal)) (onTc (τ := Cert.OddSIdeal.τ) (Cert.OddSIdeal.main (F := Ideal))) ⟨m, fun _ => 0, g⟩ (fun r => ∀ c : Dev Cert.OddSIdeal.nD,
          r.2.mem ((c.tc : Thread Cert.OddSIdeal.nD Cert.OddSIdeal.τ).loc Cert.OddSIdeal.main_v18) = v0 c
          ∧ r.2.mem ((c.tc : Thread Cert.OddSIdeal.nD Cert.OddSIdeal.τ).loc Cert.OddSIdeal.main_v22) = v1 c
          ∧ r.2.mem ((c.tc : Thread Cert.OddSIdeal.nD Cert.OddSIdeal.τ).loc Cert.OddSIdeal.main_v24) = v2 c
          ∧ r.2.mem ((c.tc : Thread Cert.OddSIdeal.nD Cert.OddSIdeal.τ).loc Cert.OddSIdeal.main_v26) = v3 c
          ∧ r.2.mem ((c.tc : Thread Cert.OddSIdeal.nD Cert.OddSIdeal.τ).loc Cert.OddSIdeal.main_arg0) = m ((c.tc : Thread Cert.OddSIdeal.nD Cert.OddSIdeal.τ).loc Cert.OddSIdeal.main_arg0)
          ∧ r.2.mem ((c.tc : Thread Cert.OddSIdeal.nD Cert.OddSIdeal.τ).loc Cert.OddSIdeal.main_arg1) = m ((c.tc : Thread Cert.OddSIdeal.nD Cert.OddSIdeal.τ).loc Cert.OddSIdeal.main_arg1)
          ∧ r.2.mem ((c.tc : Thread Cert.OddSIdeal.nD Cert.OddSIdeal.τ).loc Cert.OddSIdeal.main_arg2) = m ((c.tc : Thread Cert.OddSIdeal.nD Cert.OddSIdeal.τ).loc Cert.OddSIdeal.main_arg2)
          ∧ r.2.mem ((c.tc : Thread Cert.OddSIdeal.nD Cert.OddSIdeal.τ).loc Cert.OddSIdeal.main_arg3) = m ((c.tc : Thread Cert.OddSIdeal.nD Cert.OddSIdeal.τ).loc Cert.OddSIdeal.main_arg3)
          ∧ r.2.mem ((c.tc : Thread Cert.OddSIdeal.nD Cert.OddSIdeal.τ).loc Cert.OddSIdeal.main_arg4) = m ((c.tc : Thread Cert.OddSIdeal.nD Cert.OddSIdeal.τ).loc Cert.OddSIdeal.main_arg4)
          ∧ r.2.mem ((c.tc : Thread Cert.OddSIdeal.nD Cert.OddSIdeal.τ).loc Cert.OddSIdeal.main_arg5) = m ((c.tc : Thread Cert.OddSIdeal.nD Cert.OddSIdeal.τ).loc Cert.OddSIdeal.main_arg5))
      ∧ θ_run (Cert.OddSRefIdeal.defs (F := Ideal)) (onTc (τ := Cert.OddSRefIdeal.τ) (Cert.OddSRefIdeal.main (F := Ideal))) ⟨m', fun _ => 0, g'⟩ (fun r => ∀ c : Dev Cert.OddSRefIdeal.nD,
          r.2.mem ((c.tc : Thread Cert.OddSRefIdeal.nD Cert.OddSRefIdeal.τ).loc Cert.OddSRefIdeal.main_v53) = v0 c
          ∧ r.2.mem ((c.tc : Thread Cert.OddSRefIdeal.nD Cert.OddSRefIdeal.τ).loc Cert.OddSRefIdeal.main_v49) = v1 c
          ∧ r.2.mem ((c.tc : Thread Cert.OddSRefIdeal.nD Cert.OddSRefIdeal.τ).loc Cert.OddSRefIdeal.main_v50) = v2 c
          ∧ r.2.mem ((c.tc : Thread Cert.OddSRefIdeal.nD Cert.OddSRefIdeal.τ).loc Cert.OddSRefIdeal.main_v51) = v3 c
          ∧ r.2.mem ((c.tc : Thread Cert.OddSRefIdeal.nD Cert.OddSRefIdeal.τ).loc Cert.OddSRefIdeal.main_arg0) = m' ((c.tc : Thread Cert.OddSRefIdeal.nD Cert.OddSRefIdeal.τ).loc Cert.OddSRefIdeal.main_arg0)
          ∧ r.2.mem ((c.tc : Thread Cert.OddSRefIdeal.nD Cert.OddSRefIdeal.τ).loc Cert.OddSRefIdeal.main_arg1) = m' ((c.tc : Thread Cert.OddSRefIdeal.nD Cert.OddSRefIdeal.τ).loc Cert.OddSRefIdeal.main_arg1)
          ∧ r.2.mem ((c.tc : Thread Cert.OddSRefIdeal.nD Cert.OddSRefIdeal.τ).loc Cert.OddSRefIdeal.main_arg2) = m' ((c.tc : Thread Cert.OddSRefIdeal.nD Cert.OddSRefIdeal.τ).loc Cert.OddSRefIdeal.main_arg2)
          ∧ r.2.mem ((c.tc : Thread Cert.OddSRefIdeal.nD Cert.OddSRefIdeal.τ).loc Cert.OddSRefIdeal.main_arg3) = m' ((c.tc : Thread Cert.OddSRefIdeal.nD Cert.OddSRefIdeal.τ).loc Cert.OddSRefIdeal.main_arg3)
          ∧ r.2.mem ((c.tc : Thread Cert.OddSRefIdeal.nD Cert.OddSRefIdeal.τ).loc Cert.OddSRefIdeal.main_arg4) = m' ((c.tc : Thread Cert.OddSRefIdeal.nD Cert.OddSRefIdeal.τ).loc Cert.OddSRefIdeal.main_arg4)
          ∧ r.2.mem ((c.tc : Thread Cert.OddSRefIdeal.nD Cert.OddSRefIdeal.τ).loc Cert.OddSRefIdeal.main_arg5) = m' ((c.tc : Thread Cert.OddSRefIdeal.nD Cert.OddSRefIdeal.τ).loc Cert.OddSRefIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v30)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v30) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v79) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)
      ∧ m' ((c.tc : Thread Cert.TailSRefIdeal.nD Cert.TailSRefIdeal.τ).loc Cert.TailSRefIdeal.main_arg10) = m ((c.tc : Thread Cert.TailSIdeal.nD Cert.TailSIdeal.τ).loc Cert.TailSIdeal.main_arg10)) →
    ∃ (v0 : (c : Dev Cert.TailSIdeal.nD) → Buf (Elt Ideal) ((c.tc : Thread Cert.TailSIdeal.nD Cert.TailSIdeal.τ).loc Cert.TailSIdeal.main_v30)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v30) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
          ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v79) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9)
          ∧ r.2.mem ((c.tc : Thread Cert.TailSRefIdeal.nD Cert.TailSRefIdeal.τ).loc Cert.TailSRefIdeal.main_arg10) = m' ((c.tc : Thread Cert.TailSRefIdeal.nD Cert.TailSRefIdeal.τ).loc Cert.TailSRefIdeal.main_arg10))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)) →
    ∃ (v0 : (c : Dev Cert.EvenIdeal.nD) → Buf (Elt Ideal) ((c.tc : Thread Cert.EvenIdeal.nD Cert.EvenIdeal.τ).loc Cert.EvenIdeal.main_v1)) (v1 : (c : Dev Cert.EvenIdeal.nD) → Buf (Elt Ideal) ((c.tc : Thread Cert.EvenIdeal.nD Cert.EvenIdeal.τ).loc Cert.EvenIdeal.main_v12)) (v2 : (c : Dev Cert.EvenIdeal.nD) → Buf (Elt Ideal) ((c.tc : Thread Cert.EvenIdeal.nD Cert.EvenIdeal.τ).loc Cert.EvenIdeal.main_v11)) (v3 : (c : Dev Cert.EvenIdeal.nD) → Buf (Elt Ideal) ((c.tc : Thread Cert.EvenIdeal.nD Cert.EvenIdeal.τ).loc Cert.EvenIdeal.main_v10)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v1) = v0 c
          ∧ r.2.mem ((c.tc : Thread Cert.EvenIdeal.nD Cert.EvenIdeal.τ).loc Cert.EvenIdeal.main_v12) = v1 c
          ∧ r.2.mem ((c.tc : Thread Cert.EvenIdeal.nD Cert.EvenIdeal.τ).loc Cert.EvenIdeal.main_v11) = v2 c
          ∧ r.2.mem ((c.tc : Thread Cert.EvenIdeal.nD Cert.EvenIdeal.τ).loc Cert.EvenIdeal.main_v10) = v3 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v5) = v0 c
          ∧ r.2.mem ((c.tc : Thread Cert.EvenRefIdeal.nD Cert.EvenRefIdeal.τ).loc Cert.EvenRefIdeal.main_v6) = v1 c
          ∧ r.2.mem ((c.tc : Thread Cert.EvenRefIdeal.nD Cert.EvenRefIdeal.τ).loc Cert.EvenRefIdeal.main_v7) = v2 c
          ∧ r.2.mem ((c.tc : Thread Cert.EvenRefIdeal.nD Cert.EvenRefIdeal.τ).loc Cert.EvenRefIdeal.main_v8) = v3 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v4) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_State_StateIdeal : Prop :=
  True

def algebraic_StateIdeal_StateRefIdeal [hStateIdeal : Cert.StateIdeal.Facts] [hStateRefIdeal : Cert.StateRefIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)
      ∧ m' ((c.tc : Thread Cert.StateRefIdeal.nD Cert.StateRefIdeal.τ).loc Cert.StateRefIdeal.main_arg4) = m ((c.tc : Thread Cert.StateIdeal.nD Cert.StateIdeal.τ).loc Cert.StateIdeal.main_arg4)
      ∧ m' ((c.tc : Thread Cert.StateRefIdeal.nD Cert.StateRefIdeal.τ).loc Cert.StateRefIdeal.main_arg5) = m ((c.tc : Thread Cert.StateIdeal.nD Cert.StateIdeal.τ).loc Cert.StateIdeal.main_arg5)
      ∧ m' ((c.tc : Thread Cert.StateRefIdeal.nD Cert.StateRefIdeal.τ).loc Cert.StateRefIdeal.main_arg6) = m ((c.tc : Thread Cert.StateIdeal.nD Cert.StateIdeal.τ).loc Cert.StateIdeal.main_arg6)
      ∧ m' ((c.tc : Thread Cert.StateRefIdeal.nD Cert.StateRefIdeal.τ).loc Cert.StateRefIdeal.main_arg7) = m ((c.tc : Thread Cert.StateIdeal.nD Cert.StateIdeal.τ).loc Cert.StateIdeal.main_arg7)
      ∧ m' ((c.tc : Thread Cert.StateRefIdeal.nD Cert.StateRefIdeal.τ).loc Cert.StateRefIdeal.main_arg8) = m ((c.tc : Thread Cert.StateIdeal.nD Cert.StateIdeal.τ).loc Cert.StateIdeal.main_arg8)
      ∧ m' ((c.tc : Thread Cert.StateRefIdeal.nD Cert.StateRefIdeal.τ).loc Cert.StateRefIdeal.main_arg9) = m ((c.tc : Thread Cert.StateIdeal.nD Cert.StateIdeal.τ).loc Cert.StateIdeal.main_arg9)
      ∧ m' ((c.tc : Thread Cert.StateRefIdeal.nD Cert.StateRefIdeal.τ).loc Cert.StateRefIdeal.main_arg10) = m ((c.tc : Thread Cert.StateIdeal.nD Cert.StateIdeal.τ).loc Cert.StateIdeal.main_arg10)) →
    ∃ (v0 : (c : Dev Cert.StateIdeal.nD) → Buf (Elt Ideal) ((c.tc : Thread Cert.StateIdeal.nD Cert.StateIdeal.τ).loc Cert.StateIdeal.main_v74)) (v1 : (c : Dev Cert.StateIdeal.nD) → Buf (Elt Ideal) ((c.tc : Thread Cert.StateIdeal.nD Cert.StateIdeal.τ).loc Cert.StateIdeal.main_v75)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v74) = v0 c
          ∧ r.2.mem ((c.tc : Thread Cert.StateIdeal.nD Cert.StateIdeal.τ).loc Cert.StateIdeal.main_v75) = v1 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
          ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
          ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
          ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
          ∧ r.2.mem ((c.tc : Thread Cert.StateIdeal.nD Cert.StateIdeal.τ).loc Cert.StateIdeal.main_arg7) = m ((c.tc : Thread Cert.StateIdeal.nD Cert.StateIdeal.τ).loc Cert.StateIdeal.main_arg7)
          ∧ r.2.mem ((c.tc : Thread Cert.StateIdeal.nD Cert.StateIdeal.τ).loc Cert.StateIdeal.main_arg8) = m ((c.tc : Thread Cert.StateIdeal.nD Cert.StateIdeal.τ).loc Cert.StateIdeal.main_arg8)
          ∧ r.2.mem ((c.tc : Thread Cert.StateIdeal.nD Cert.StateIdeal.τ).loc Cert.StateIdeal.main_arg9) = m ((c.tc : Thread Cert.StateIdeal.nD Cert.StateIdeal.τ).loc Cert.StateIdeal.main_arg9)
          ∧ r.2.mem ((c.tc : Thread Cert.StateIdeal.nD Cert.StateIdeal.τ).loc Cert.StateIdeal.main_arg10) = m ((c.tc : Thread Cert.StateIdeal.nD Cert.StateIdeal.τ).loc Cert.StateIdeal.main_arg10))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v194) = v0 c
          ∧ r.2.mem ((c.tc : Thread Cert.StateRefIdeal.nD Cert.StateRefIdeal.τ).loc Cert.StateRefIdeal.main_v204) = v1 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3)
          ∧ r.2.mem ((c.tc : Thread Cert.StateRefIdeal.nD Cert.StateRefIdeal.τ).loc Cert.StateRefIdeal.main_arg4) = m' ((c.tc : Thread Cert.StateRefIdeal.nD Cert.StateRefIdeal.τ).loc Cert.StateRefIdeal.main_arg4)
          ∧ r.2.mem ((c.tc : Thread Cert.StateRefIdeal.nD Cert.StateRefIdeal.τ).loc Cert.StateRefIdeal.main_arg5) = m' ((c.tc : Thread Cert.StateRefIdeal.nD Cert.StateRefIdeal.τ).loc Cert.StateRefIdeal.main_arg5)
          ∧ r.2.mem ((c.tc : Thread Cert.StateRefIdeal.nD Cert.StateRefIdeal.τ).loc Cert.StateRefIdeal.main_arg6) = m' ((c.tc : Thread Cert.StateRefIdeal.nD Cert.StateRefIdeal.τ).loc Cert.StateRefIdeal.main_arg6)
          ∧ r.2.mem ((c.tc : Thread Cert.StateRefIdeal.nD Cert.StateRefIdeal.τ).loc Cert.StateRefIdeal.main_arg7) = m' ((c.tc : Thread Cert.StateRefIdeal.nD Cert.StateRefIdeal.τ).loc Cert.StateRefIdeal.main_arg7)
          ∧ r.2.mem ((c.tc : Thread Cert.StateRefIdeal.nD Cert.StateRefIdeal.τ).loc Cert.StateRefIdeal.main_arg8) = m' ((c.tc : Thread Cert.StateRefIdeal.nD Cert.StateRefIdeal.τ).loc Cert.StateRefIdeal.main_arg8)
          ∧ r.2.mem ((c.tc : Thread Cert.StateRefIdeal.nD Cert.StateRefIdeal.τ).loc Cert.StateRefIdeal.main_arg9) = m' ((c.tc : Thread Cert.StateRefIdeal.nD Cert.StateRefIdeal.τ).loc Cert.StateRefIdeal.main_arg9)
          ∧ r.2.mem ((c.tc : Thread Cert.StateRefIdeal.nD Cert.StateRefIdeal.τ).loc Cert.StateRefIdeal.main_arg10) = m' ((c.tc : Thread Cert.StateRefIdeal.nD Cert.StateRefIdeal.τ).loc Cert.StateRefIdeal.main_arg10))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hHead : Cert.Head.Facts) (hHeadIdeal : Cert.HeadIdeal.Facts) (hHeadRefIdeal : Cert.HeadRefIdeal.Facts) (hHeadS : Cert.HeadS.Facts) (hHeadSIdeal : Cert.HeadSIdeal.Facts) (hHeadSRefIdeal : Cert.HeadSRefIdeal.Facts) (hOdd : Cert.Odd.Facts) (hOddIdeal : Cert.OddIdeal.Facts) (hOddRefIdeal : Cert.OddRefIdeal.Facts) (hOddS : Cert.OddS.Facts) (hOddSIdeal : Cert.OddSIdeal.Facts) (hOddSRefIdeal : Cert.OddSRefIdeal.Facts) (hTail : Cert.Tail.Facts) (hTailIdeal : Cert.TailIdeal.Facts) (hTailRefIdeal : Cert.TailRefIdeal.Facts) (hTailS : Cert.TailS.Facts) (hTailSIdeal : Cert.TailSIdeal.Facts) (hTailSRefIdeal : Cert.TailSRefIdeal.Facts) (hEven : Cert.Even.Facts) (hEvenIdeal : Cert.EvenIdeal.Facts) (hEvenRefIdeal : Cert.EvenRefIdeal.Facts) (hMix : Cert.Mix.Facts) (hMixIdeal : Cert.MixIdeal.Facts) (hMixRefIdeal : Cert.MixRefIdeal.Facts) (hState : Cert.State.Facts) (hStateIdeal : Cert.StateIdeal.Facts) (hStateRefIdeal : Cert.StateRefIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Head (hHead := hHead)
    ∧ quiescent_HeadIdeal (hHeadIdeal := hHeadIdeal)
    ∧ quiescent_HeadRefIdeal (hHeadRefIdeal := hHeadRefIdeal)
    ∧ quiescent_HeadS (hHeadS := hHeadS)
    ∧ quiescent_HeadSIdeal (hHeadSIdeal := hHeadSIdeal)
    ∧ quiescent_HeadSRefIdeal (hHeadSRefIdeal := hHeadSRefIdeal)
    ∧ quiescent_Odd (hOdd := hOdd)
    ∧ quiescent_OddIdeal (hOddIdeal := hOddIdeal)
    ∧ quiescent_OddRefIdeal (hOddRefIdeal := hOddRefIdeal)
    ∧ quiescent_OddS (hOddS := hOddS)
    ∧ quiescent_OddSIdeal (hOddSIdeal := hOddSIdeal)
    ∧ quiescent_OddSRefIdeal (hOddSRefIdeal := hOddSRefIdeal)
    ∧ quiescent_Tail (hTail := hTail)
    ∧ quiescent_TailIdeal (hTailIdeal := hTailIdeal)
    ∧ quiescent_TailRefIdeal (hTailRefIdeal := hTailRefIdeal)
    ∧ quiescent_TailS (hTailS := hTailS)
    ∧ quiescent_TailSIdeal (hTailSIdeal := hTailSIdeal)
    ∧ quiescent_TailSRefIdeal (hTailSRefIdeal := hTailSRefIdeal)
    ∧ quiescent_Even (hEven := hEven)
    ∧ quiescent_EvenIdeal (hEvenIdeal := hEvenIdeal)
    ∧ quiescent_EvenRefIdeal (hEvenRefIdeal := hEvenRefIdeal)
    ∧ quiescent_Mix (hMix := hMix)
    ∧ quiescent_MixIdeal (hMixIdeal := hMixIdeal)
    ∧ quiescent_MixRefIdeal (hMixRefIdeal := hMixRefIdeal)
    ∧ quiescent_State (hState := hState)
    ∧ quiescent_StateIdeal (hStateIdeal := hStateIdeal)
    ∧ quiescent_StateRefIdeal (hStateRefIdeal := hStateRefIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Head_HeadIdeal
    ∧ algebraic_HeadIdeal_HeadRefIdeal (hHeadIdeal := hHeadIdeal) (hHeadRefIdeal := hHeadRefIdeal)
    ∧ preserves_HeadS_HeadSIdeal
    ∧ algebraic_HeadSIdeal_HeadSRefIdeal (hHeadSIdeal := hHeadSIdeal) (hHeadSRefIdeal := hHeadSRefIdeal)
    ∧ preserves_Odd_OddIdeal
    ∧ algebraic_OddIdeal_OddRefIdeal (hOddIdeal := hOddIdeal) (hOddRefIdeal := hOddRefIdeal)
    ∧ preserves_OddS_OddSIdeal
    ∧ algebraic_OddSIdeal_OddSRefIdeal (hOddSIdeal := hOddSIdeal) (hOddSRefIdeal := hOddSRefIdeal)
    ∧ preserves_Tail_TailIdeal
    ∧ algebraic_TailIdeal_TailRefIdeal (hTailIdeal := hTailIdeal) (hTailRefIdeal := hTailRefIdeal)
    ∧ preserves_TailS_TailSIdeal
    ∧ algebraic_TailSIdeal_TailSRefIdeal (hTailSIdeal := hTailSIdeal) (hTailSRefIdeal := hTailSRefIdeal)
    ∧ preserves_Even_EvenIdeal
    ∧ algebraic_EvenIdeal_EvenRefIdeal (hEvenIdeal := hEvenIdeal) (hEvenRefIdeal := hEvenRefIdeal)
    ∧ preserves_Mix_MixIdeal
    ∧ algebraic_MixIdeal_MixRefIdeal (hMixIdeal := hMixIdeal) (hMixRefIdeal := hMixRefIdeal)
    ∧ preserves_State_StateIdeal
    ∧ algebraic_StateIdeal_StateRefIdeal (hStateIdeal := hStateIdeal) (hStateRefIdeal := hStateRefIdeal)
-- ==== Kernel.lean ====
abbrev S8192x4096 : Shape := ⟨2, ![8192, 4096]⟩
abbrev S8192x1280 : Shape := ⟨2, ![8192, 1280]⟩
abbrev S8192x2048 : Shape := ⟨2, ![8192, 2048]⟩
abbrev S256x4096 : Shape := ⟨2, ![256, 4096]⟩
abbrev S256x128 : Shape := ⟨2, ![256, 128]⟩
abbrev S256x256 : Shape := ⟨2, ![256, 256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x1280, .f32⟩
  | .hbm, ⟨2, _⟩ => ⟨S8192x2048, .f32⟩
  | .local _ .vmem, ⟨0, _⟩ => ⟨S256x4096, .bf16⟩
  | .local _ .vmem, ⟨1, _⟩ => ⟨S256x4096, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_cond1 (i : grid0.Coords) : BitVec 1 :=
  let arg2 : BitVec 32 := BitVec.ofNat 32 (i 2).val
  let arg1 : BitVec 32 := BitVec.ofNat 32 (i 1).val
  let v0 : BitVec 1 := Scalar.cmpi .sgt arg2 arg1
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c8_i32_0 : BitVec 32 := 8#32
  let c0_i32 : BitVec 32 := 0#32
  ![v2.toNat, c8_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8192x4096 : Shape := ⟨2, ![8192, 4096]⟩
abbrev S8192x1280 : Shape := ⟨2, ![8192, 1280]⟩
abbrev S4x2048x32x128 : Shape := ⟨4, ![4, 2048, 32, 128]⟩
abbrev S4x2048x1280 : Shape := ⟨3, ![4, 2048, 1280]⟩
abbrev S4x2048x128 : Shape := ⟨3, ![4, 2048, 128]⟩
abbrev S4x2048x32 : Shape := ⟨3, ![4, 2048, 32]⟩
abbrev S_ : Shape := ⟨0, ![]⟩
abbrev S4x2048x32x2048 : Shape := ⟨4, ![4, 2048, 32, 2048]⟩
abbrev S4x2048x2048 : Shape := ⟨3, ![4, 2048, 2048]⟩
abbrev S2048 : Shape := ⟨1, ![2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1280, .f32⟩
  | .hbm, ⟨2, _⟩ => ⟨S8192x4096, .f32⟩
  | .hbm, ⟨3, _⟩ => ⟨S4x2048x32x128, .f32⟩
  | .hbm, ⟨4, _⟩ => ⟨S4x2048x1280, .f32⟩
  | .hbm, ⟨5, _⟩ => ⟨S4x2048x128, .f32⟩
  | .hbm, ⟨6, _⟩ => ⟨S4x2048x32, .f32⟩
  | .hbm, ⟨7, _⟩ => ⟨S_, .f32⟩
  | .hbm, ⟨8, _⟩ => ⟨S_, .f32⟩
  | .hbm, ⟨9, _⟩ => ⟨S4x2048x32, .f32⟩
  | .hbm, ⟨10, _⟩ => ⟨S4x2048x32, .f32⟩
  | .hbm, ⟨11, _⟩ => ⟨S4x2048x32x2048, .f32⟩
  | .hbm, ⟨12, _⟩ => ⟨S_, .f32⟩
  | .hbm, ⟨13, _⟩ => ⟨S_, .f32⟩
  | .hbm, ⟨14, _⟩ => ⟨S4x2048x32x2048, .f32⟩
  | .hbm, ⟨15, _⟩ => ⟨S4x2048x32x2048, .f32⟩
  | .hbm, ⟨16, _⟩ => ⟨S_, .f32⟩
  | .hbm, ⟨17, _⟩ => ⟨S4x2048x32x2048, .f32⟩
  | .hbm, ⟨18, _⟩ => ⟨S4x2048x32x2048, .f32⟩
  | .hbm, ⟨19, _⟩ => ⟨S4x2048x2048, .f32⟩
  | .hbm, ⟨20, _⟩ => ⟨S2048, .i32⟩
  | .hbm, ⟨21, _⟩ => ⟨S1x1x2048, .i32⟩
  | .hbm, ⟨22, _⟩ => ⟨S1x2048x1, .i32⟩
  | .hbm, ⟨23, _⟩ => ⟨S1x2048x2048, .i32⟩
  | .hbm, ⟨24, _⟩ => ⟨S1x2048x2048, .i32⟩
  | .hbm, ⟨25, _⟩ => ⟨S1x2048x2048, .i1⟩
  | .hbm, ⟨26, _⟩ => ⟨S_, .f32⟩
  | .hbm, ⟨27, _⟩ => ⟨S_, .f32⟩
  | .hbm, ⟨28, _⟩ => ⟨S4x2048x2048, .i1⟩
  | .hbm, ⟨29, _⟩ => ⟨S4x2048x2048, .f32⟩
  | .hbm, ⟨30, _⟩ => ⟨S4x2048x2048, .f32⟩
  | .hbm, ⟨31, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Up.lean ====
abbrev S8192x4096 : Shape := ⟨2, ![8192, 4096]⟩
abbrev S4096x11008 : Shape := ⟨2, ![4096, 11008]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S8192x4096, .f32⟩
  | .hbm, ⟨4, _⟩ => ⟨S8192x11008, .f32⟩
  | .hbm, ⟨5, _⟩ => ⟨S8192x11008, .f32⟩
  | .hbm, ⟨6, _⟩ => ⟨S8192x11008, .f32⟩
  | .hbm, ⟨7, _⟩ => ⟨S_, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x4096, .f32⟩
  | .local _ .vmem, ⟨0, _⟩ => ⟨S2048x256, .bf16⟩
  | .local _ .vmem, ⟨1, _⟩ => ⟨S2048x256, .bf16⟩
  | .local _ .vmem, ⟨2, _⟩ => ⟨S256x1024, .f32⟩
  | .local _ .vmem, ⟨3, _⟩ => ⟨S256x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 43], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x11008, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Head.lean ====
abbrev S4x2048x4096 : Shape := ⟨3, ![4, 2048, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x6816 : Shape := ⟨3, ![1, 4096, 6816]⟩
abbrev S8192x4096 : Shape := ⟨2, ![8192, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩
abbrev S2048x256 : Shape := ⟨2, ![2048, 256]⟩
abbrev S256x1024 : Shape := ⟨2, ![256, 1024]⟩
abbrev S2048x1024 : Shape := ⟨2, ![2048, 1024]⟩
abbrev S4096x6816 : Shape := ⟨2, ![4096, 6816]⟩
abbrev S4096x2048 : Shape := ⟨2, ![4096, 2048]⟩
abbrev S8192x2048 : Shape := ⟨2, ![8192, 2048]⟩
abbrev S4096x512 : Shape := ⟨2, ![4096, 512]⟩
abbrev S1024x512 : Shape := ⟨2, ![1024, 512]⟩
abbrev S4096x1024 : Shape := ⟨2, ![4096, 1024]⟩
abbrev S4096x128 : Shape := ⟨2, ![4096, 128]⟩
abbrev S4096x32 : Shape := ⟨2, ![4096, 32]⟩
abbrev S_ : Shape := ⟨0, ![]⟩
abbrev S4096x96 : Shape := ⟨2, ![4096, 96]⟩
abbrev S4096x1280 : Shape := ⟨2, ![4096, 1280]⟩
abbrev S8192x1280 : Shape := ⟨2, ![8192, 1280]⟩
abbrev S8192x128 : Shape := ⟨2, ![8192, 128]⟩
abbrev S1x4x2048x2x8x128 : Shape := ⟨6, ![1, 4, 2048, 2, 8, 128]⟩
abbrev S1x4x2048x128 : Shape := ⟨4, ![1, 4, 2048, 128]⟩

abbrev nBuf : Space → Nat
  | .hbm => 37
  | .vmem => 40
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x6816, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S1x4096, .f32⟩
  | .hbm, ⟨16, _⟩ => ⟨S8192x4096, .bf16⟩
  | .hbm, ⟨17, _⟩ => ⟨S8192x11008, .bf16⟩
  | .hbm, ⟨18, _⟩ => ⟨S8192x4096, .f32⟩
  | .hbm, ⟨19, _⟩ => ⟨S1x1x4096, .f32⟩
  | .hbm, ⟨20, _⟩ => ⟨S4096, .f32⟩
  | .hbm, ⟨21, _⟩ => ⟨S1x4096, .f32⟩
  | .hbm, ⟨22, _⟩ => ⟨S8192x4096, .bf16⟩
  | .hbm, ⟨23, _⟩ => ⟨S4096x6816, .f32⟩
  | .hbm, ⟨24, _⟩ => ⟨S4096x2048, .f32⟩
  | .hbm, ⟨25, _⟩ => ⟨S8192x2048, .f32⟩
  | .hbm, ⟨26, _⟩ => ⟨S8192x2048, .bf16⟩
  | .hbm, ⟨27, _⟩ => ⟨S4096x1024, .f32⟩
  | .hbm, ⟨28, _⟩ => ⟨S4096x128, .f32⟩
  | .hbm, ⟨29, _⟩ => ⟨S4096x32, .f32⟩
  | .hbm, ⟨30, _⟩ => ⟨S_, .f32⟩
  | .hbm, ⟨31, _⟩ => ⟨S4096x96, .f32⟩
  | .hbm, ⟨32, _⟩ => ⟨S4096x1280, .f32⟩
  | .hbm, ⟨33, _⟩ => ⟨S8192x1280, .f32⟩
  | .hbm, ⟨34, _⟩ => ⟨S8192x128, .f32⟩
  | .hbm, ⟨35, _⟩ => ⟨S1x4x2048x2x8x128, .f32⟩
  | .hbm, ⟨36, _⟩ => ⟨S1x4x2048x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S1024x256, .bf16⟩
  | .local _ .vmem, ⟨12, _⟩ => ⟨S1024x256, .bf16⟩
  | .local _ .vmem, ⟨13, _⟩ => ⟨S2048x256, .bf16⟩
  | .local _ .vmem, ⟨14, _⟩ => ⟨S2048x256, .bf16⟩
  | .local _ .vmem, ⟨15, _⟩ => ⟨S256x1024, .f32⟩
  | .local _ .vmem, ⟨16, _⟩ => ⟨S256x1024, .f32⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | .local _ .vmem, ⟨21, _⟩ => ⟨S256x4096, .f32⟩
  | .local _ .vmem, ⟨22, _⟩ => ⟨S256x4096, .f32⟩
  | .local _ .vmem, ⟨23, _⟩ => ⟨S1x4096, .f32⟩
  | .local _ .vmem, ⟨24, _⟩ => ⟨S256x4096, .bf16⟩
  | .local _ .vmem, ⟨25, _⟩ => ⟨S256x4096, .bf16⟩
  | .local _ .vmem, ⟨26, _⟩ => ⟨S1024x4096, .bf16⟩
  | .local _ .vmem, ⟨27, _⟩ => ⟨S1024x4096, .bf16⟩
  | .local _ .vmem, ⟨28, _⟩ => ⟨S4096x512, .f32⟩
  | .local _ .vmem, ⟨29, _⟩ => ⟨S4096x512, .f32⟩
  | .local _ .vmem, ⟨30, _⟩ => ⟨S1024x512, .f32⟩
  | .local _ .vmem, ⟨31, _⟩ => ⟨S1024x512, .f32⟩
  | .local _ .vmem, ⟨32, _⟩ => ⟨S1024x512, .bf16⟩
  | .local _ .vmem, ⟨33, _⟩ => ⟨S1024x512, .bf16⟩
  | .local _ .vmem, ⟨34, _⟩ => ⟨S1024x4096, .bf16⟩
  | .local _ .vmem, ⟨35, _⟩ => ⟨S1024x4096, .bf16⟩
  | .local _ .vmem, ⟨36, _⟩ => ⟨S4096x256, .f32⟩
  | .local _ .vmem, ⟨37, _⟩ => ⟨S4096x256, .f32⟩
  | .local _ .vmem, ⟨38, _⟩ => ⟨S1024x256, .f32⟩
  | .local _ .vmem, ⟨39, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 4, 43], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 5], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== HeadIdeal.lean ====
abbrev S4x2048x4096 : Shape := ⟨3, ![4, 2048, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x6816 : Shape := ⟨3, ![1, 4096, 6816]⟩
abbrev S8192x4096 : Shape := ⟨2, ![8192, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩
abbrev S2048x256 : Shape := ⟨2, ![2048, 256]⟩
abbrev S256x1024 : Shape := ⟨2, ![256, 1024]⟩
abbrev S2048x1024 : Shape := ⟨2, ![2048, 1024]⟩
abbrev S4096x6816 : Shape := ⟨2, ![4096, 6816]⟩
abbrev S4096x2048 : Shape := ⟨2, ![4096, 2048]⟩
abbrev S8192x2048 : Shape := ⟨2, ![8192, 2048]⟩
abbrev S4096x512 : Shape := ⟨2, ![4096, 512]⟩
abbrev S1024x512 : Shape := ⟨2, ![1024, 512]⟩
abbrev S4096x1024 : Shape := ⟨2, ![4096, 1024]⟩
abbrev S4096x128 : Shape := ⟨2, ![4096, 128]⟩
abbrev S4096x32 : Shape := ⟨2, ![4096, 32]⟩
abbrev S_ : Shape := ⟨0, ![]⟩
abbrev S4096x96 : Shape := ⟨2, ![4096, 96]⟩
abbrev S4096x1280 : Shape := ⟨2, ![4096, 1280]⟩
abbrev S8192x1280 : Shape := ⟨2, ![8192, 1280]⟩
abbrev S8192x128 : Shape := ⟨2, ![8192, 128]⟩
abbrev S1x4x2048x2x8x128 : Shape := ⟨6, ![1, 4, 2048, 2, 8, 128]⟩
abbrev S1x4x2048x128 : Shape := ⟨4, ![1, 4, 2048, 128]⟩

abbrev nBuf : Space → Nat
  | .hbm => 37
  | .vmem => 40
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x6816, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S1x4096, .f32⟩
  | .hbm, ⟨16, _⟩ => ⟨S8192x4096, .bf16⟩
  | .hbm, ⟨17, _⟩ => ⟨S8192x11008, .bf16⟩
  | .hbm, ⟨18, _⟩ => ⟨S8192x4096, .f32⟩
  | .hbm, ⟨19, _⟩ => ⟨S1x1x4096, .f32⟩
  | .hbm, ⟨20, _⟩ => ⟨S4096, .f32⟩
  | .hbm, ⟨21, _⟩ => ⟨S1x4096, .f32⟩
  | .hbm, ⟨22, _⟩ => ⟨S8192x4096, .bf16⟩
  | .hbm, ⟨23, _⟩ => ⟨S4096x6816, .f32⟩
  | .hbm, ⟨24, _⟩ => ⟨S4096x2048, .f32⟩
  | .hbm, ⟨25, _⟩ => ⟨S8192x2048, .f32⟩
  | .hbm, ⟨26, _⟩ => ⟨S8192x2048, .bf16⟩
  | .hbm, ⟨27, _⟩ => ⟨S4096x1024, .f32⟩
  | .hbm, ⟨28, _⟩ => ⟨S4096x128, .f32⟩
  | .hbm, ⟨29, _⟩ => ⟨S4096x32, .f32⟩
  | .hbm, ⟨30, _⟩ => ⟨S_, .f32⟩
  | .hbm, ⟨31, _⟩ => ⟨S4096x96, .f32⟩
  | .hbm, ⟨32, _⟩ => ⟨S4096x1280, .f32⟩
  | .hbm, ⟨33, _⟩ => ⟨S8192x1280, .f32⟩
  | .hbm, ⟨34, _⟩ => ⟨S8192x128, .f32⟩
  | .hbm, ⟨35, _⟩ => ⟨S1x4x2048x2x8x128, .f32⟩
  | .hbm, ⟨36, _⟩ => ⟨S1x4x2048x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S1024x256, .bf16⟩
  | .local _ .vmem, ⟨12, _⟩ => ⟨S1024x256, .bf16⟩
  | .local _ .vmem, ⟨13, _⟩ => ⟨S2048x256, .bf16⟩
  | .local _ .vmem, ⟨14, _⟩ => ⟨S2048x256, .bf16⟩
  | .local _ .vmem, ⟨15, _⟩ => ⟨S256x1024, .f32⟩
  | .local _ .vmem, ⟨16, _⟩ => ⟨S256x1024, .f32⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | .local _ .vmem, ⟨21, _⟩ => ⟨S256x4096, .f32⟩
  | .local _ .vmem, ⟨22, _⟩ => ⟨S256x4096, .f32⟩
  | .local _ .vmem, ⟨23, _⟩ => ⟨S1x4096, .f32⟩
  | .local _ .vmem, ⟨24, _⟩ => ⟨S256x4096, .bf16⟩
  | .local _ .vmem, ⟨25, _⟩ => ⟨S256x4096, .bf16⟩
  | .local _ .vmem, ⟨26, _⟩ => ⟨S1024x4096, .bf16⟩
  | .local _ .vmem, ⟨27, _⟩ => ⟨S1024x4096, .bf16⟩
  | .local _ .vmem, ⟨28, _⟩ => ⟨S4096x512, .f32⟩
  | .local _ .vmem, ⟨29, _⟩ => ⟨S4096x512, .f32⟩
  | .local _ .vmem, ⟨30, _⟩ => ⟨S1024x512, .f32⟩
  | .local _ .vmem, ⟨31, _⟩ => ⟨S1024x512, .f32⟩
  | .local _ .vmem, ⟨32, _⟩ => ⟨S1024x512, .bf16⟩
  | .local _ .vmem, ⟨33, _⟩ => ⟨S1024x512, .bf16⟩
  | .local _ .vmem, ⟨34, _⟩ => ⟨S1024x4096, .bf16⟩
  | .local _ .vmem, ⟨35, _⟩ => ⟨S1024x4096, .bf16⟩
  | .local _ .vmem, ⟨36, _⟩ => ⟨S4096x256, .f32⟩
  | .local _ .vmem, ⟨37, _⟩ => ⟨S4096x256, .f32⟩
  | .local _ .vmem, ⟨38, _⟩ => ⟨S1024x256, .f32⟩
  | .local _ .vmem, ⟨39, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 4, 43], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 5], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== HeadRefIdeal.lean ====
abbrev S4x2048x4096 : Shape := ⟨3, ![4, 2048, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x6816 : Shape := ⟨3, ![1, 4096, 6816]⟩
abbrev S8192x4096 : Shape := ⟨2, ![8192, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S4096x6816 : Shape := ⟨2, ![4096, 6816]⟩
abbrev S8192x6816 : Shape := ⟨2, ![8192, 6816]⟩
abbrev S8192x2048 : Shape := ⟨2, ![8192, 2048]⟩
abbrev S1x4x2048x2x8x128 : Shape := ⟨6, ![1, 4, 2048, 2, 8, 128]⟩
abbrev S8192x128 : Shape := ⟨2, ![8192, 128]⟩
abbrev S1x4x2048x128 : Shape := ⟨4, ![1, 4, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x6816, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S_, .f32⟩
  | .hbm, ⟨35, _⟩ => ⟨S8192x11008, .f32⟩
  | .hbm, ⟨36, _⟩ => ⟨S8192x11008, .f32⟩
  | .hbm, ⟨37, _⟩ => ⟨S_, .f32⟩
  | .hbm, ⟨38, _⟩ => ⟨S8192x11008, .f32⟩
  | .hbm, ⟨39, _⟩ => ⟨S8192x11008, .f32⟩
  | .hbm, ⟨40, _⟩ => ⟨S8192x11008, .f32⟩
  | .hbm, ⟨41, _⟩ => ⟨S8192x11008, .f32⟩
  | .hbm, ⟨42, _⟩ => ⟨S8192x11008, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S1x1x4096, .f32⟩
  | .hbm, ⟨49, _⟩ => ⟨S4096, .f32⟩
  | .hbm, ⟨50, _⟩ => ⟨S8192x4096, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | .hbm, ⟨66, _⟩ => ⟨S4096x6816, .f32⟩
  | .hbm, ⟨67, _⟩ => ⟨S8192x6816, .f32⟩
  | .hbm, ⟨68, _⟩ => ⟨S8192x2048, .f32⟩
  | .hbm, ⟨69, _⟩ => ⟨S1x4x2048x2x8x128, .f32⟩
  | .hbm, ⟨70, _⟩ => ⟨S8192x128, .f32⟩
  | .hbm, ⟨71, _⟩ => ⟨S1x4x2048x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== HeadS.lean ====
abbrev S8x8x4096 : Shape := ⟨3, ![8, 8, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x6816 : Shape := ⟨3, ![1, 4096, 6816]⟩
abbrev S64x4096 : Shape := ⟨2, ![64, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S64 : Shape := ⟨1, ![64]⟩
abbrev S64x1 : Shape := ⟨2, ![64, 1]⟩
abbrev S64x11008 : Shape := ⟨2, ![64, 11008]⟩
abbrev S4096x256 : Shape := ⟨2, ![4096, 256]⟩
abbrev S64x256 : Shape := ⟨2, ![64, 256]⟩
abbrev S256x1024 : Shape := ⟨2, ![256, 1024]⟩
abbrev S64x1024 : Shape := ⟨2, ![64, 1024]⟩
abbrev S4096x6816 : Shape := ⟨2, ![4096, 6816]⟩
abbrev S4096x2048 : Shape := ⟨2, ![4096, 2048]⟩
abbrev S64x2048 : Shape := ⟨2, ![64, 2048]⟩
abbrev S4096x512 : Shape := ⟨2, ![4096, 512]⟩
abbrev S64x512 : Shape := ⟨2, ![64, 512]⟩
abbrev S4096x1024 : Shape := ⟨2, ![4096, 1024]⟩
abbrev S4096x128 : Shape := ⟨2, ![4096, 128]⟩
abbrev S4096x32 : Shape := ⟨2, ![4096, 32]⟩
abbrev S_ : Shape := ⟨0, ![]⟩
abbrev S4096x96 : Shape := ⟨2, ![4096, 96]⟩
abbrev S4096x1280 : Shape := ⟨2, ![4096, 1280]⟩
abbrev S64x1280 : Shape := ⟨2, ![64, 1280]⟩
abbrev S64x128 : Shape := ⟨2, ![64, 128]⟩
abbrev S1x8x8x2x8x128 : Shape := ⟨6, ![1, 8, 8, 2, 8, 128]⟩
abbrev S1x8x8x128 : Shape := ⟨4, ![1, 8, 8, 128]⟩

abbrev nBuf : Space → Nat
  | .hbm => 37
  | .vmem => 33
  | .smem => 0
  | _ => 0

abbrev bufTy : (tb : Table) → Fin (tcTables nBuf tb) → BufTy
  | .hbm, ⟨0, _⟩ => ⟨S8x8x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x6816, .f32⟩
  | .hbm, ⟨6, _⟩ => ⟨S64x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S1x4096, .f32⟩
  | .hbm, ⟨16, _⟩ => ⟨S64x4096, .bf16⟩
  | .hbm, ⟨17, _⟩ => ⟨S64x11008, .bf16⟩
  | .hbm, ⟨18, _⟩ => ⟨S64x4096, .f32⟩
  | .hbm, ⟨19, _⟩ => ⟨S1x1x4096, .f32⟩
  | .hbm, ⟨20, _⟩ => ⟨S4096, .f32⟩
  | .hbm, ⟨21, _⟩ => ⟨S1x4096, .f32⟩
  | .hbm, ⟨22, _⟩ => ⟨S64x4096, .bf16⟩
  | .hbm, ⟨23, _⟩ => ⟨S4096x6816, .f32⟩
  | .hbm, ⟨24, _⟩ => ⟨S4096x2048, .f32⟩
  | .hbm, ⟨25, _⟩ => ⟨S64x2048, .f32⟩
  | .hbm, ⟨26, _⟩ => ⟨S64x2048, .bf16⟩
  | .hbm, ⟨27, _⟩ => ⟨S4096x1024, .f32⟩
  | .hbm, ⟨28, _⟩ => ⟨S4096x128, .f32⟩
  | .hbm, ⟨29, _⟩ => ⟨S4096x32, .f32⟩
  | .hbm, ⟨30, _⟩ => ⟨S_, .f32⟩
  | .hbm, ⟨31, _⟩ => ⟨S4096x96, .f32⟩
  | .hbm, ⟨32, _⟩ => ⟨S4096x1280, .f32⟩
  | .hbm, ⟨33, _⟩ => ⟨S64x1280, .f32⟩
  | .hbm, ⟨34, _⟩ => ⟨S64x128, .f32⟩
  | .hbm, ⟨35, _⟩ => ⟨S1x8x8x2x8x128, .f32⟩
  | .hbm, ⟨36, _⟩ => ⟨S1x8x8x128, .f32⟩
  | .local _ .vmem, ⟨0, _⟩ => ⟨S64x4096, .f32⟩
  | .local _ .vmem, ⟨1, _⟩ => ⟨S1x4096, .f32⟩
  | .local _ .vmem, ⟨2, _⟩ => ⟨S64x4096, .bf16⟩
  | .local _ .vmem, ⟨3, _⟩ => ⟨S64x4096, .bf16⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S64x256, .bf16⟩
  | .local _ .vmem, ⟨9, _⟩ => ⟨S64x256, .bf16⟩
  | .local _ .vmem, ⟨10, _⟩ => ⟨S64x256, .bf16⟩
  | .local _ .vmem, ⟨11, _⟩ => ⟨S64x256, .bf16⟩
  | .local _ .vmem, ⟨12, _⟩ => ⟨S256x1024, .f32⟩
  | .local _ .vmem, ⟨13, _⟩ => ⟨S256x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x4096, .f32⟩
  | .local _ .vmem, ⟨19, _⟩ => ⟨S1x4096, .f32⟩
  | .local _ .vmem, ⟨20, _⟩ => ⟨S64x4096, .bf16⟩
  | .local _ .vmem, ⟨21, _⟩ => ⟨S64x4096, .bf16⟩
  | .local _ .vmem, ⟨22, _⟩ => ⟨S4096x512, .f32⟩
  | .local _ .vmem, ⟨23, _⟩ => ⟨S4096x512, .f32⟩
  | .local _ .vmem, ⟨24, _⟩ => ⟨S64x512, .f32⟩
  | .local _ .vmem, ⟨25, _⟩ => ⟨S64x512, .f32⟩
  | .local _ .vmem, ⟨26, _⟩ => ⟨S64x512, .bf16⟩
  | .local _ .vmem, ⟨27, _⟩ => ⟨S64x512, .bf16⟩
  | .local _ .vmem, ⟨28, _⟩ => ⟨S64x4096, .bf16⟩
  | .local _ .vmem, ⟨29, _⟩ => ⟨S4096x256, .f32⟩
  | .local _ .vmem, ⟨30, _⟩ => ⟨S4096x256, .f32⟩
  | .local _ .vmem, ⟨31, _⟩ => ⟨S64x256, .f32⟩
  | .local _ .vmem, ⟨32, _⟩ => ⟨S64x256, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc5_sem0_0 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S64x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![1, 4, 43], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S64x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x4096 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S64x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S64x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S64x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 5], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S64x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S64x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== HeadSRefIdeal.lean ====
abbrev S8x8x4096 : Shape := ⟨3, ![8, 8, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x6816 : Shape := ⟨3, ![1, 4096, 6816]⟩
abbrev S64x4096 : Shape := ⟨2, ![64, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S64x11008 : Shape := ⟨2, ![64, 11008]⟩
abbrev S4096x6816 : Shape := ⟨2, ![4096, 6816]⟩
abbrev S64x6816 : Shape := ⟨2, ![64, 6816]⟩
abbrev S64x2048 : Shape := ⟨2, ![64, 2048]⟩
abbrev S1x8x8x2x8x128 : Shape := ⟨6, ![1, 8, 8, 2, 8, 128]⟩
abbrev S64x128 : Shape := ⟨2, ![64, 128]⟩
abbrev S1x8x8x128 : Shape := ⟨4, ![1, 8, 8, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x8x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x6816, .f32⟩
  | .hbm, ⟨6, _⟩ => ⟨S64x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S64x4096, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S64x4096, .f32⟩
  | .hbm, ⟨27, _⟩ => ⟨S64x4096, .f32⟩
  | .hbm, ⟨28, _⟩ => ⟨S1x4096, .f32⟩
  | .hbm, ⟨29, _⟩ => ⟨S64x4096, .f32⟩
  | .hbm, ⟨30, _⟩ => ⟨S64x4096, .f32⟩
  | .hbm, ⟨31, _⟩ => ⟨S64x11008, .f32⟩
  | .hbm, ⟨32, _⟩ => ⟨S64x11008, .f32⟩
  | .hbm, ⟨33, _⟩ => ⟨S64x11008, .f32⟩
  | .hbm, ⟨34, _⟩ => ⟨S_, .f32⟩
  | .hbm, ⟨35, _⟩ => ⟨S64x11008, .f32⟩
  | .hbm, ⟨36, _⟩ => ⟨S64x11008, .f32⟩
  | .hbm, ⟨37, _⟩ => ⟨S_, .f32⟩
  | .hbm, ⟨38, _⟩ => ⟨S64x11008, .f32⟩
  | .hbm, ⟨39, _⟩ => ⟨S64x11008, .f32⟩
  | .hbm, ⟨40, _⟩ => ⟨S64x11008, .f32⟩
  | .hbm, ⟨41, _⟩ => ⟨S64x11008, .f32⟩
  | .hbm, ⟨42, _⟩ => ⟨S64x11008, .f32⟩
  | .hbm, ⟨43, _⟩ => ⟨S64x4096, .f32⟩
  | .hbm, ⟨44, _⟩ => ⟨S_, .f32⟩
  | .hbm, ⟨45, _⟩ => ⟨S64x4096, .f32⟩
  | .hbm, ⟨46, _⟩ => ⟨S64x4096, .f32⟩
  | .hbm, ⟨47, _⟩ => ⟨S64x4096, .f32⟩
  | .hbm, ⟨48, _⟩ => ⟨S1x1x4096, .f32⟩
  | .hbm, ⟨49, _⟩ => ⟨S4096, .f32⟩
  | .hbm, ⟨50, _⟩ => ⟨S64x4096, .f32⟩
  | .hbm, ⟨51, _⟩ => ⟨S_, .f32⟩
  | .hbm, ⟨52, _⟩ => ⟨S64, .f32⟩
  | .hbm, ⟨53, _⟩ => ⟨S64x1, .f32⟩
  | .hbm, ⟨54, _⟩ => ⟨S_, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x1, .f32⟩
  | .hbm, ⟨61, _⟩ => ⟨S64x4096, .f32⟩
  | .hbm, ⟨62, _⟩ => ⟨S64x4096, .f32⟩
  | .hbm, ⟨63, _⟩ => ⟨S1x4096, .f32⟩
  | .hbm, ⟨64, _⟩ => ⟨S64x4096, .f32⟩
  | .hbm, ⟨65, _⟩ => ⟨S64x4096, .f32⟩
  | .hbm, ⟨66, _⟩ => ⟨S4096x6816, .f32⟩
  | .hbm, ⟨67, _⟩ => ⟨S64x6816, .f32⟩
  | .hbm, ⟨68, _⟩ => ⟨S64x2048, .f32⟩
  | .hbm, ⟨69, _⟩ => ⟨S1x8x8x2x8x128, .f32⟩
  | .hbm, ⟨70, _⟩ => ⟨S64x128, .f32⟩
  | .hbm, ⟨71, _⟩ => ⟨S1x8x8x128, .f32⟩
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Odd.lean ====
abbrev S4x2048x4096 : Shape := ⟨3, ![4, 2048, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x9216 : Shape := ⟨3, ![1, 4096, 9216]⟩
abbrev S8192x4096 : Shape := ⟨2, ![8192, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩
abbrev S2048x256 : Shape := ⟨2, ![2048, 256]⟩
abbrev S256x1024 : Shape := ⟨2, ![256, 1024]⟩
abbrev S2048x1024 : Shape := ⟨2, ![2048, 1024]⟩
abbrev S4096x9216 : Shape := ⟨2, ![4096, 9216]⟩
abbrev S8192x3072 : Shape := ⟨2, ![8192, 3072]⟩
abbrev S4096x512 : Shape := ⟨2, ![4096, 512]⟩
abbrev S1024x512 : Shape := ⟨2, ![1024, 512]⟩
abbrev S8192x6144 : Shape := ⟨2, ![8192, 6144]⟩
abbrev S4x2048x2x24x128 : Shape := ⟨5, ![4, 2048, 2, 24, 128]⟩
abbrev S4x128x2x8x128 : Shape := ⟨5, ![4, 128, 2, 8, 128]⟩
abbrev S1x4x128x2x8x128 : Shape := ⟨6, ![1, 4, 128, 2, 8, 128]⟩
abbrev S4x512x2x8x128 : Shape := ⟨5, ![4, 512, 2, 8, 128]⟩
abbrev S1x4x512x2x8x128 : Shape := ⟨6, ![1, 4, 512, 2, 8, 128]⟩
abbrev S4x2048x2x8x128 : Shape := ⟨5, ![4, 2048, 2, 8, 128]⟩
abbrev S1x4x2048x2x8x128 : Shape := ⟨6, ![1, 4, 2048, 2, 8, 128]⟩

abbrev nBuf : Space → Nat
  | .hbm => 34
  | .vmem => 40
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x9216, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S1x4096, .f32⟩
  | .hbm, ⟨16, _⟩ => ⟨S8192x4096, .bf16⟩
  | .hbm, ⟨17, _⟩ => ⟨S8192x11008, .bf16⟩
  | .hbm, ⟨18, _⟩ => ⟨S8192x4096, .f32⟩
  | .hbm, ⟨19, _⟩ => ⟨S1x1x4096, .f32⟩
  | .hbm, ⟨20, _⟩ => ⟨S4096, .f32⟩
  | .hbm, ⟨21, _⟩ => ⟨S1x4096, .f32⟩
  | .hbm, ⟨22, _⟩ => ⟨S8192x4096, .bf16⟩
  | .hbm, ⟨23, _⟩ => ⟨S4096x9216, .f32⟩
  | .hbm, ⟨24, _⟩ => ⟨S8192x3072, .bf16⟩
  | .hbm, ⟨25, _⟩ => ⟨S8192x6144, .f32⟩
  | .hbm, ⟨26, _⟩ => ⟨S8192x6144, .bf16⟩
  | .hbm, ⟨27, _⟩ => ⟨S4x2048x2x24x128, .f32⟩
  | .hbm, ⟨28, _⟩ => ⟨S4x128x2x8x128, .f32⟩
  | .hbm, ⟨29, _⟩ => ⟨S1x4x128x2x8x128, .f32⟩
  | .hbm, ⟨30, _⟩ => ⟨S4x512x2x8x128, .f32⟩
  | .hbm, ⟨31, _⟩ => ⟨S1x4x512x2x8x128, .f32⟩
  | .hbm, ⟨32, _⟩ => ⟨S4x2048x2x8x128, .f32⟩
  | .hbm, ⟨33, _⟩ => ⟨S1x4x2048x2x8x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S1024x256, .bf16⟩
  | .local _ .vmem, ⟨12, _⟩ => ⟨S1024x256, .bf16⟩
  | .local _ .vmem, ⟨13, _⟩ => ⟨S2048x256, .bf16⟩
  | .local _ .vmem, ⟨14, _⟩ => ⟨S2048x256, .bf16⟩
  | .local _ .vmem, ⟨15, _⟩ => ⟨S256x1024, .f32⟩
  | .local _ .vmem, ⟨16, _⟩ => ⟨S256x1024, .f32⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | .local _ .vmem, ⟨21, _⟩ => ⟨S256x4096, .f32⟩
  | .local _ .vmem, ⟨22, _⟩ => ⟨S256x4096, .f32⟩
  | .local _ .vmem, ⟨23, _⟩ => ⟨S1x4096, .f32⟩
  | .local _ .vmem, ⟨24, _⟩ => ⟨S256x4096, .bf16⟩
  | .local _ .vmem, ⟨25, _⟩ => ⟨S256x4096, .bf16⟩
  | .local _ .vmem, ⟨26, _⟩ => ⟨S1024x4096, .bf16⟩
  | .local _ .vmem, ⟨27, _⟩ => ⟨S1024x4096, .bf16⟩
  | .local _ .vmem, ⟨28, _⟩ => ⟨S4096x512, .f32⟩
  | .local _ .vmem, ⟨29, _⟩ => ⟨S4096x512, .f32⟩
  | .local _ .vmem, ⟨30, _⟩ => ⟨S1024x512, .bf16⟩
  | .local _ .vmem, ⟨31, _⟩ => ⟨S1024x512, .bf16⟩
  | .local _ .vmem, ⟨32, _⟩ => ⟨S1024x4096, .bf16⟩
  | .local _ .vmem, ⟨33, _⟩ => ⟨S1024x4096, .bf16⟩
  | .local _ .vmem, ⟨34, _⟩ => ⟨S4096x512, .f32⟩
  | .local _ .vmem, ⟨35, _⟩ => ⟨S4096x512, .f32⟩
  | .local _ .vmem, ⟨36, _⟩ => ⟨S1024x512, .f32⟩
  | .local _ .vmem, ⟨37, _⟩ => ⟨S1024x512, .f32⟩
  | .local _ .vmem, ⟨38, _⟩ => ⟨S1024x512, .bf16⟩
  | .local _ .vmem, ⟨39, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 4, 43], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 6], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 12], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== OddIdeal.lean ====
abbrev S4x2048x4096 : Shape := ⟨3, ![4, 2048, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x9216 : Shape := ⟨3, ![1, 4096, 9216]⟩
abbrev S8192x4096 : Shape := ⟨2, ![8192, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩
abbrev S2048x256 : Shape := ⟨2, ![2048, 256]⟩
abbrev S256x1024 : Shape := ⟨2, ![256, 1024]⟩
abbrev S2048x1024 : Shape := ⟨2, ![2048, 1024]⟩
abbrev S4096x9216 : Shape := ⟨2, ![4096, 9216]⟩
abbrev S8192x3072 : Shape := ⟨2, ![8192, 3072]⟩
abbrev S4096x512 : Shape := ⟨2, ![4096, 512]⟩
abbrev S1024x512 : Shape := ⟨2, ![1024, 512]⟩
abbrev S8192x6144 : Shape := ⟨2, ![8192, 6144]⟩
abbrev S4x2048x2x24x128 : Shape := ⟨5, ![4, 2048, 2, 24, 128]⟩
abbrev S4x128x2x8x128 : Shape := ⟨5, ![4, 128, 2, 8, 128]⟩
abbrev S1x4x128x2x8x128 : Shape := ⟨6, ![1, 4, 128, 2, 8, 128]⟩
abbrev S4x512x2x8x128 : Shape := ⟨5, ![4, 512, 2, 8, 128]⟩
abbrev S1x4x512x2x8x128 : Shape := ⟨6, ![1, 4, 512, 2, 8, 128]⟩
abbrev S4x2048x2x8x128 : Shape := ⟨5, ![4, 2048, 2, 8, 128]⟩
abbrev S1x4x2048x2x8x128 : Shape := ⟨6, ![1, 4, 2048, 2, 8, 128]⟩

abbrev nBuf : Space → Nat
  | .hbm => 34
  | .vmem => 40
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x9216, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S1x4096, .f32⟩
  | .hbm, ⟨16, _⟩ => ⟨S8192x4096, .bf16⟩
  | .hbm, ⟨17, _⟩ => ⟨S8192x11008, .bf16⟩
  | .hbm, ⟨18, _⟩ => ⟨S8192x4096, .f32⟩
  | .hbm, ⟨19, _⟩ => ⟨S1x1x4096, .f32⟩
  | .hbm, ⟨20, _⟩ => ⟨S4096, .f32⟩
  | .hbm, ⟨21, _⟩ => ⟨S1x4096, .f32⟩
  | .hbm, ⟨22, _⟩ => ⟨S8192x4096, .bf16⟩
  | .hbm, ⟨23, _⟩ => ⟨S4096x9216, .f32⟩
  | .hbm, ⟨24, _⟩ => ⟨S8192x3072, .bf16⟩
  | .hbm, ⟨25, _⟩ => ⟨S8192x6144, .f32⟩
  | .hbm, ⟨26, _⟩ => ⟨S8192x6144, .bf16⟩
  | .hbm, ⟨27, _⟩ => ⟨S4x2048x2x24x128, .f32⟩
  | .hbm, ⟨28, _⟩ => ⟨S4x128x2x8x128, .f32⟩
  | .hbm, ⟨29, _⟩ => ⟨S1x4x128x2x8x128, .f32⟩
  | .hbm, ⟨30, _⟩ => ⟨S4x512x2x8x128, .f32⟩
  | .hbm, ⟨31, _⟩ => ⟨S1x4x512x2x8x128, .f32⟩
  | .hbm, ⟨32, _⟩ => ⟨S4x2048x2x8x128, .f32⟩
  | .hbm, ⟨33, _⟩ => ⟨S1x4x2048x2x8x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S1024x256, .bf16⟩
  | .local _ .vmem, ⟨12, _⟩ => ⟨S1024x256, .bf16⟩
  | .local _ .vmem, ⟨13, _⟩ => ⟨S2048x256, .bf16⟩
  | .local _ .vmem, ⟨14, _⟩ => ⟨S2048x256, .bf16⟩
  | .local _ .vmem, ⟨15, _⟩ => ⟨S256x1024, .f32⟩
  | .local _ .vmem, ⟨16, _⟩ => ⟨S256x1024, .f32⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | .local _ .vmem, ⟨21, _⟩ => ⟨S256x4096, .f32⟩
  | .local _ .vmem, ⟨22, _⟩ => ⟨S256x4096, .f32⟩
  | .local _ .vmem, ⟨23, _⟩ => ⟨S1x4096, .f32⟩
  | .local _ .vmem, ⟨24, _⟩ => ⟨S256x4096, .bf16⟩
  | .local _ .vmem, ⟨25, _⟩ => ⟨S256x4096, .bf16⟩
  | .local _ .vmem, ⟨26, _⟩ => ⟨S1024x4096, .bf16⟩
  | .local _ .vmem, ⟨27, _⟩ => ⟨S1024x4096, .bf16⟩
  | .local _ .vmem, ⟨28, _⟩ => ⟨S4096x512, .f32⟩
  | .local _ .vmem, ⟨29, _⟩ => ⟨S4096x512, .f32⟩
  | .local _ .vmem, ⟨30, _⟩ => ⟨S1024x512, .bf16⟩
  | .local _ .vmem, ⟨31, _⟩ => ⟨S1024x512, .bf16⟩
  | .local _ .vmem, ⟨32, _⟩ => ⟨S1024x4096, .bf16⟩
  | .local _ .vmem, ⟨33, _⟩ => ⟨S1024x4096, .bf16⟩
  | .local _ .vmem, ⟨34, _⟩ => ⟨S4096x512, .f32⟩
  | .local _ .vmem, ⟨35, _⟩ => ⟨S4096x512, .f32⟩
  | .local _ .vmem, ⟨36, _⟩ => ⟨S1024x512, .f32⟩
  | .local _ .vmem, ⟨37, _⟩ => ⟨S1024x512, .f32⟩
  | .local _ .vmem, ⟨38, _⟩ => ⟨S1024x512, .bf16⟩
  | .local _ .vmem, ⟨39, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 4, 43], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 6], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 12], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== OddRefIdeal.lean ====
abbrev S4x2048x4096 : Shape := ⟨3, ![4, 2048, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x9216 : Shape := ⟨3, ![1, 4096, 9216]⟩
abbrev S8192x4096 : Shape := ⟨2, ![8192, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S4096x9216 : Shape := ⟨2, ![4096, 9216]⟩
abbrev S8192x9216 : Shape := ⟨2, ![8192, 9216]⟩
abbrev S8192x6144 : Shape := ⟨2, ![8192, 6144]⟩
abbrev S1x4x2048x2x24x128 : Shape := ⟨6, ![1, 4, 2048, 2, 24, 128]⟩
abbrev S1x4x128x2x8x128 : Shape := ⟨6, ![1, 4, 128, 2, 8, 128]⟩
abbrev S1x4x512x2x8x128 : Shape := ⟨6, ![1, 4, 512, 2, 8, 128]⟩
abbrev S1x4x2048x2x8x128 : Shape := ⟨6, ![1, 4, 2048, 2, 8, 128]⟩
abbrev S8192x3072 : Shape := ⟨2, ![8192, 3072]⟩

abbrev nBuf : Space → Nat
  | .hbm => 75
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x9216, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S_, .f32⟩
  | .hbm, ⟨35, _⟩ => ⟨S8192x11008, .f32⟩
  | .hbm, ⟨36, _⟩ => ⟨S8192x11008, .f32⟩
  | .hbm, ⟨37, _⟩ => ⟨S_, .f32⟩
  | .hbm, ⟨38, _⟩ => ⟨S8192x11008, .f32⟩
  | .hbm, ⟨39, _⟩ => ⟨S8192x11008, .f32⟩
  | .hbm, ⟨40, _⟩ => ⟨S8192x11008, .f32⟩
  | .hbm, ⟨41, _⟩ => ⟨S8192x11008, .f32⟩
  | .hbm, ⟨42, _⟩ => ⟨S8192x11008, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S1x1x4096, .f32⟩
  | .hbm, ⟨49, _⟩ => ⟨S4096, .f32⟩
  | .hbm, ⟨50, _⟩ => ⟨S8192x4096, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | .hbm, ⟨66, _⟩ => ⟨S4096x9216, .f32⟩
  | .hbm, ⟨67, _⟩ => ⟨S8192x9216, .f32⟩
  | .hbm, ⟨68, _⟩ => ⟨S8192x6144, .f32⟩
  | .hbm, ⟨69, _⟩ => ⟨S1x4x2048x2x24x128, .f32⟩
  | .hbm, ⟨70, _⟩ => ⟨S1x4x128x2x8x128, .f32⟩
  | .hbm, ⟨71, _⟩ => ⟨S1x4x512x2x8x128, .f32⟩
  | .hbm, ⟨72, _⟩ => ⟨S1x4x2048x2x8x128, .f32⟩
  | .hbm, ⟨73, _⟩ => ⟨S8192x3072, .f32⟩
  | .hbm, ⟨74, _⟩ => ⟨S8192x3072, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== OddS.lean ====
abbrev S8x8x4096 : Shape := ⟨3, ![8, 8, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x9216 : Shape := ⟨3, ![1, 4096, 9216]⟩
abbrev S64x4096 : Shape := ⟨2, ![64, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S64 : Shape := ⟨1, ![64]⟩
abbrev S64x1 : Shape := ⟨2, ![64, 1]⟩
abbrev S64x11008 : Shape := ⟨2, ![64, 11008]⟩
abbrev S4096x256 : Shape := ⟨2, ![4096, 256]⟩
abbrev S64x256 : Shape := ⟨2, ![64, 256]⟩
abbrev S256x1024 : Shape := ⟨2, ![256, 1024]⟩
abbrev S64x1024 : Shape := ⟨2, ![64, 1024]⟩
abbrev S4096x9216 : Shape := ⟨2, ![4096, 9216]⟩
abbrev S64x3072 : Shape := ⟨2, ![64, 3072]⟩
abbrev S4096x512 : Shape := ⟨2, ![4096, 512]⟩
abbrev S64x512 : Shape := ⟨2, ![64, 512]⟩
abbrev S64x6144 : Shape := ⟨2, ![64, 6144]⟩
abbrev S8x8x2x24x128 : Shape := ⟨5, ![8, 8, 2, 24, 128]⟩
abbrev S8x8x2x8x128 : Shape := ⟨5, ![8, 8, 2, 8, 128]⟩
abbrev S1x8x8x2x8x128 : Shape := ⟨6, ![1, 8, 8, 2, 8, 128]⟩

abbrev nBuf : Space → Nat
  | .hbm => 34
  | .vmem => 33
  | .smem => 0
  | _ => 0

abbrev bufTy : (tb : Table) → Fin (tcTables nBuf tb) → BufTy
  | .hbm, ⟨0, _⟩ => ⟨S8x8x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x9216, .f32⟩
  | .hbm, ⟨6, _⟩ => ⟨S64x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S1x4096, .f32⟩
  | .hbm, ⟨16, _⟩ => ⟨S64x4096, .bf16⟩
  | .hbm, ⟨17, _⟩ => ⟨S64x11008, .bf16⟩
  | .hbm, ⟨18, _⟩ => ⟨S64x4096, .f32⟩
  | .hbm, ⟨19, _⟩ => ⟨S1x1x4096, .f32⟩
  | .hbm, ⟨20, _⟩ => ⟨S4096, .f32⟩
  | .hbm, ⟨21, _⟩ => ⟨S1x4096, .f32⟩
  | .hbm, ⟨22, _⟩ => ⟨S64x4096, .bf16⟩
  | .hbm, ⟨23, _⟩ => ⟨S4096x9216, .f32⟩
  | .hbm, ⟨24, _⟩ => ⟨S64x3072, .bf16⟩
  | .hbm, ⟨25, _⟩ => ⟨S64x6144, .f32⟩
  | .hbm, ⟨26, _⟩ => ⟨S64x6144, .bf16⟩
  | .hbm, ⟨27, _⟩ => ⟨S8x8x2x24x128, .f32⟩
  | .hbm, ⟨28, _⟩ => ⟨S8x8x2x8x128, .f32⟩
  | .hbm, ⟨29, _⟩ => ⟨S1x8x8x2x8x128, .f32⟩
  | .hbm, ⟨30, _⟩ => ⟨S8x8x2x8x128, .f32⟩
  | .hbm, ⟨31, _⟩ => ⟨S1x8x8x2x8x128, .f32⟩
  | .hbm, ⟨32, _⟩ => ⟨S8x8x2x8x128, .f32⟩
  | .hbm, ⟨33, _⟩ => ⟨S1x8x8x2x8x128, .f32⟩
  | .local _ .vmem, ⟨0, _⟩ => ⟨S64x4096, .f32⟩
  | .local _ .vmem, ⟨1, _⟩ => ⟨S1x4096, .f32⟩
  | .local _ .vmem, ⟨2, _⟩ => ⟨S64x4096, .bf16⟩
  | .local _ .vmem, ⟨3, _⟩ => ⟨S64x4096, .bf16⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S64x256, .bf16⟩
  | .local _ .vmem, ⟨9, _⟩ => ⟨S64x256, .bf16⟩
  | .local _ .vmem, ⟨10, _⟩ => ⟨S64x256, .bf16⟩
  | .local _ .vmem, ⟨11, _⟩ => ⟨S64x256, .bf16⟩
  | .local _ .vmem, ⟨12, _⟩ => ⟨S256x1024, .f32⟩
  | .local _ .vmem, ⟨13, _⟩ => ⟨S256x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x4096, .f32⟩
  | .local _ .vmem, ⟨19, _⟩ => ⟨S1x4096, .f32⟩
  | .local _ .vmem, ⟨20, _⟩ => ⟨S64x4096, .bf16⟩
  | .local _ .vmem, ⟨21, _⟩ => ⟨S64x4096, .bf16⟩
  | .local _ .vmem, ⟨22, _⟩ => ⟨S4096x512, .f32⟩
  | .local _ .vmem, ⟨23, _⟩ => ⟨S4096x512, .f32⟩
  | .local _ .vmem, ⟨24, _⟩ => ⟨S64x512, .bf16⟩
  | .local _ .vmem, ⟨25, _⟩ => ⟨S64x512, .bf16⟩
  | .local _ .vmem, ⟨26, _⟩ => ⟨S64x4096, .bf16⟩
  | .local _ .vmem, ⟨27, _⟩ => ⟨S4096x512, .f32⟩
  | .local _ .vmem, ⟨28, _⟩ => ⟨S4096x512, .f32⟩
  | .local _ .vmem, ⟨29, _⟩ => ⟨S64x512, .f32⟩
  | .local _ .vmem, ⟨30, _⟩ => ⟨S64x512, .f32⟩
  | .local _ .vmem, ⟨31, _⟩ => ⟨S64x512, .bf16⟩
  | .local _ .vmem, ⟨32, _⟩ => ⟨S64x512, .bf16⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem1_1 : DmaSem sig := 28
abbrev cc5_sem2_0 : DmaSem sig := 29
abbrev cc5_sem2_1 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S64x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![1, 4, 43], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S64x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x4096 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨2, ![1, 6], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S64x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S64x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 12], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S64x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S64x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S64x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== OddSRefIdeal.lean ====
abbrev S8x8x4096 : Shape := ⟨3, ![8, 8, 4096]⟩
abbrev S2x4x4096 : Shape := ⟨3, ![2, 4, 4096]⟩
abbrev S2x4096x11008 : Shape := ⟨3, ![2, 4096, 11008]⟩
abbrev S2x11008x4096 : Shape := ⟨3, ![2, 11008, 4096]⟩
abbrev S1x4096x9216 : Shape := ⟨3, ![1, 4096, 9216]⟩
abbrev S64x4096 : Shape := ⟨2, ![64, 4096]⟩
abbrev S1x1x4096 : Shape := ⟨3, ![1, 1, 4096]⟩
abbrev S4096 : Shape := ⟨1, ![4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S64x11008 : Shape := ⟨2, ![64, 11008]⟩
abbrev S4096x9216 : Shape := ⟨2, ![4096, 9216]⟩
abbrev S64x9216 : Shape := ⟨2, ![64, 9216]⟩
abbrev S64x6144 : Shape := ⟨2, ![64, 6144]⟩
abbrev S1x8x8x2x24x128 : Shape := ⟨6, ![1, 8, 8, 2, 24, 128]⟩
abbrev S1x8x8x2x8x128 : Shape := ⟨6, ![1, 8, 8, 2, 8, 128]⟩
abbrev S64x3072 : Shape := ⟨2, ![64, 3072]⟩

abbrev nBuf : Space → Nat
  | .hbm => 75
  | .vmem => 0
  | .smem => 0
  | _ => 0

abbrev bufTy : (tb : Table) → Fin (tcTables nBuf tb) → BufTy
  | .hbm, ⟨0, _⟩ => ⟨S8x8x4096, .f32⟩
  | .hbm, ⟨1, _⟩ => ⟨S2x4x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S1x4096x9216, .f32⟩
  | .hbm, ⟨6, _⟩ => ⟨S64x4096, .f32⟩
  | .hbm, ⟨7, _⟩ => ⟨S1x1x4096, .f32⟩
  | .hbm, ⟨8, _⟩ => ⟨S4096, .f32⟩
  | .hbm, ⟨9, _⟩ => ⟨S1x4096x11008, .f32⟩
  | .hbm, ⟨10, _⟩ => ⟨S4096x11008, .f32⟩
  | .hbm, ⟨11, _⟩ => ⟨S1x4096x11008, .f32⟩
  | .hbm, ⟨12, _⟩ => ⟨S4096x11008, .f32⟩
  | .hbm, ⟨13, _⟩ => ⟨S1x11008x4096, .f32⟩
  | .hbm, ⟨14, _⟩ => ⟨S11008x4096, .f32⟩
  | .hbm, ⟨15, _⟩ => ⟨S64x4096, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S64x4096, .f32⟩
  | .hbm, ⟨27, _⟩ => ⟨S64x4096, .f32⟩
  | .hbm, ⟨28, _⟩ => ⟨S1x4096, .f32⟩
  | .hbm, ⟨29, _⟩ => ⟨S64x4096, .f32⟩
  | .hbm, ⟨30, _⟩ => ⟨S64x4096, .f32⟩
  | .hbm, ⟨31, _⟩ => ⟨S64x11008, .f32⟩
  | .hbm, ⟨32, _⟩ => ⟨S64x11008, .f32⟩
  | .hbm, ⟨33, _⟩ => ⟨S64x11008, .f32⟩
  | .hbm, ⟨34, _⟩ => ⟨S_, .f32⟩
  | .hbm, ⟨35, _⟩ => ⟨S64x11008, .f32⟩
  | .hbm, ⟨36, _⟩ => ⟨S64x11008, .f32⟩
  | .hbm, ⟨37, _⟩ => ⟨S_, .f32⟩
  | .hbm, ⟨38, _⟩ => ⟨S64x11008, .f32⟩
  | .hbm, ⟨39, _⟩ => ⟨S64x11008, .f32⟩
  | .hbm, ⟨40, _⟩ => ⟨S64x11008, .f32⟩
  | .hbm, ⟨41, _⟩ => ⟨S64x11008, .f32⟩
  | .hbm, ⟨42, _⟩ => ⟨S64x11008, .f32⟩
  | .hbm, ⟨43, _⟩ => ⟨S64x4096, .f32⟩
  | .hbm, ⟨44, _⟩ => ⟨S_, .f32⟩
  | .hbm, ⟨45, _⟩ => ⟨S64x4096, .f32⟩
  | .hbm, ⟨46, _⟩ => ⟨S64x4096, .f32⟩
  | .hbm, ⟨47, _⟩ => ⟨S64x4096, .f32⟩
  | .hbm, ⟨48, _⟩ => ⟨S1x1x4096, .f32⟩
  | .hbm, ⟨49, _⟩ => ⟨S4096, .f32⟩
  | .hbm, ⟨50, _⟩ => ⟨S64x4096, .f32⟩
  | .hbm, ⟨51, _⟩ => ⟨S_, .f32⟩
  | .hbm, ⟨52, _⟩ => ⟨S64, .f32⟩
  | .hbm, ⟨53, _⟩ => ⟨S64x1, .f32⟩
  | .hbm, ⟨54, _⟩ => ⟨S_, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x1, .f32⟩
  | .hbm, ⟨61, _⟩ => ⟨S64x4096, .f32⟩
  | .hbm, ⟨62, _⟩ => ⟨S64x4096, .f32⟩
  | .hbm, ⟨63, _⟩ => ⟨S1x4096, .f32⟩
  | .hbm, ⟨64, _⟩ => ⟨S64x4096, .f32⟩
  | .hbm, ⟨65, _⟩ => ⟨S64x4096, .f32⟩
  | .hbm, ⟨66, _⟩ => ⟨S4096x9216, .f32⟩
  | .hbm, ⟨67, _⟩ => ⟨S64x9216, .f32⟩
  | .hbm, ⟨68, _⟩ => ⟨S64x6144, .f32⟩
  | .hbm, ⟨69, _⟩ => ⟨S1x8x8x2x24x128, .f32⟩
  | .hbm, ⟨70, _⟩ => ⟨S1x8x8x2x8x128, .f32⟩
  | .hbm, ⟨71, _⟩ => ⟨S1x8x8x2x8x128, .f32⟩
  | .hbm, ⟨72, _⟩ => ⟨S1x8x8x2x8x128, .f32⟩
  | .hbm, ⟨73, _⟩ => ⟨S64x3072, .f32⟩
  | .hbm, ⟨74, _⟩ => ⟨S64x3072, .bf16⟩
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Tail.lean ====
abbrev S4x2048x4096 : Shape := ⟨3, ![4, 2048, 4096]⟩
abbrev S8192x1024 : Shape := ⟨2, ![8192, 1024]⟩
abbrev S2x4x2048x256 : Shape := ⟨4, ![2, 4, 2048, 256]⟩
abbrev S2x4x4096 : Shape := ⟨3, ![2, 4, 4096]⟩
abbrev S4096 : Shape := ⟨1, ![4096]⟩
abbrev S2x4096x11008 : Shape := ⟨3, ![2, 4096, 11008]⟩
abbrev S2x11008x4096 : Shape := ⟨3, ![2, 11008, 4096]⟩
abbrev S2x4096x4096 : Shape := ⟨3, ![2, 4096, 4096]⟩
abbrev S2x256x4096 : Shape := ⟨3, ![2, 256, 4096]⟩
abbrev S1x1024x4096 : Shape := ⟨3, ![1, 1024, 4096]⟩
abbrev S8192x4096 : Shape := ⟨2, ![8192, 4096]⟩
abbrev S1024x4096 : Shape := ⟨2, ![1024, 4096]⟩
abbrev S1024x1024 : Shape := ⟨2, ![1024, 1024]⟩
abbrev S1024x512 : Shape := ⟨2, ![1024, 512]⟩
abbrev S1x1x4096 : Shape := ⟨3, ![1, 1, 4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S4096x256 : Shape := ⟨2, ![4096, 256]⟩
abbrev S1024x256 : Shape := ⟨2, ![1024, 256]⟩
abbrev S2048x256 : Shape := ⟨2, ![2048, 256]⟩
abbrev S256x1024 : Shape := ⟨2, ![256, 1024]⟩
abbrev S2048x1024 : Shape := ⟨2, ![2048, 1024]⟩
abbrev S2x8192x256 : Shape := ⟨3, ![2, 8192, 256]⟩
abbrev S1x8192x256 : Shape := ⟨3, ![1, 8192, 256]⟩
abbrev S8192x256 : Shape := ⟨2, ![8192, 256]⟩
abbrev S1x4096x4096 : Shape := ⟨3, ![1, 4096, 4096]⟩
abbrev S4096x4096 : Shape := ⟨2, ![4096, 4096]⟩
abbrev S1x256x4096 : Shape := ⟨3, ![1, 256, 4096]⟩
abbrev S256x256 : Shape := ⟨2, ![256, 256]⟩

abbrev nBuf : Space → Nat
  | .hbm => 42
  | .vmem => 51
  | .smem => 0
  | _ => 0

abbrev bufTy : (tb : Table) → Fin (tcTables nBuf tb) → BufTy
  | .hbm, ⟨0, _⟩ => ⟨S4x2048x4096, .f32⟩
  | .hbm, ⟨1, _⟩ => ⟨S8192x1024, .bf16⟩
  | .hbm, ⟨2, _⟩ => ⟨S2x4x2048x256, .f32⟩
  | .hbm, ⟨3, _⟩ => ⟨S2x4x4096, .f32⟩
  | .hbm, ⟨4, _⟩ => ⟨S4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096x4096, .f32⟩
  | .hbm, ⟨9, _⟩ => ⟨S2x256x4096, .f32⟩
  | .hbm, ⟨10, _⟩ => ⟨S1x1024x4096, .f32⟩
  | .hbm, ⟨11, _⟩ => ⟨S8192x4096, .f32⟩
  | .hbm, ⟨12, _⟩ => ⟨S1024x4096, .f32⟩
  | .hbm, ⟨13, _⟩ => ⟨S8192x4096, .f32⟩
  | .hbm, ⟨14, _⟩ => ⟨S1x1x4096, .f32⟩
  | .hbm, ⟨15, _⟩ => ⟨S4096, .f32⟩
  | .hbm, ⟨16, _⟩ => ⟨S1x4096x11008, .f32⟩
  | .hbm, ⟨17, _⟩ => ⟨S4096x11008, .f32⟩
  | .hbm, ⟨18, _⟩ => ⟨S1x4096x11008, .f32⟩
  | .hbm, ⟨19, _⟩ => ⟨S4096x11008, .f32⟩
  | .hbm, ⟨20, _⟩ => ⟨S1x11008x4096, .f32⟩
  | .hbm, ⟨21, _⟩ => ⟨S11008x4096, .f32⟩
  | .hbm, ⟨22, _⟩ => ⟨S1x4096, .f32⟩
  | .hbm, ⟨23, _⟩ => ⟨S8192x4096, .bf16⟩
  | .hbm, ⟨24, _⟩ => ⟨S8192x11008, .bf16⟩
  | .hbm, ⟨25, _⟩ => ⟨S8192x4096, .f32⟩
  | .hbm, ⟨26, _⟩ => ⟨S2x8192x256, .f32⟩
  | .hbm, ⟨27, _⟩ => ⟨S1x8192x256, .f32⟩
  | .hbm, ⟨28, _⟩ => ⟨S8192x256, .f32⟩
  | .hbm, ⟨29, _⟩ => ⟨S1x1x4096, .f32⟩
  | .hbm, ⟨30, _⟩ => ⟨S4096, .f32⟩
  | .hbm, ⟨31, _⟩ => ⟨S1x4096x4096, .f32⟩
  | .hbm, ⟨32, _⟩ => ⟨S4096x4096, .f32⟩
  | .hbm, ⟨33, _⟩ => ⟨S1x256x4096, .f32⟩
  | .hbm, ⟨34, _⟩ => ⟨S256x4096, .f32⟩
  | .hbm, ⟨35, _⟩ => ⟨S1x4096, .f32⟩
  | .hbm, ⟨36, _⟩ => ⟨S8192x4096, .bf16⟩
  | .hbm, ⟨37, _⟩ => ⟨S8192x256, .bf16⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S1024x4096, .bf16⟩
  | .local _ .vmem, ⟨14, _⟩ => ⟨S1024x4096, .bf16⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S1024x256, .bf16⟩
  | .local _ .vmem, ⟨20, _⟩ => ⟨S1024x256, .bf16⟩
  | .local _ .vmem, ⟨21, _⟩ => ⟨S2048x256, .bf16⟩
  | .local _ .vmem, ⟨22, _⟩ => ⟨S2048x256, .bf16⟩
  | .local _ .vmem, ⟨23, _⟩ => ⟨S256x1024, .f32⟩
  | .local _ .vmem, ⟨24, _⟩ => ⟨S256x1024, .f32⟩
  | .local _ .vmem, ⟨25, _⟩ => ⟨S2048x1024, .f32⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | .local _ .vmem, ⟨29, _⟩ => ⟨S256x4096, .f32⟩
  | .local _ .vmem, ⟨30, _⟩ => ⟨S256x4096, .f32⟩
  | .local _ .vmem, ⟨31, _⟩ => ⟨S1x4096, .f32⟩
  | .local _ .vmem, ⟨32, _⟩ => ⟨S256x4096, .bf16⟩
  | .local _ .vmem, ⟨33, _⟩ => ⟨S256x4096, .bf16⟩
  | .local _ .vmem, ⟨34, _⟩ => ⟨S1024x4096, .bf16⟩
  | .local _ .vmem, ⟨35, _⟩ => ⟨S1024x4096, .bf16⟩
  | .local _ .vmem, ⟨36, _⟩ => ⟨S4096x256, .f32⟩
  | .local _ .vmem, ⟨37, _⟩ => ⟨S4096x256, .f32⟩
  | .local _ .vmem, ⟨38, _⟩ => ⟨S1024x256, .f32⟩
  | .local _ .vmem, ⟨39, _⟩ => ⟨S1024x256, .f32⟩
  | .local _ .vmem, ⟨40, _⟩ => ⟨S1024x256, .bf16⟩
  | .local _ .vmem, ⟨41, _⟩ => ⟨S1024x256, .bf16⟩
  | .local _ .vmem, ⟨42, _⟩ => ⟨S256x256, .f32⟩
  | .local _ .vmem, ⟨43, _⟩ => ⟨S256x256, .f32⟩
  | .local _ .vmem, ⟨44, _⟩ => ⟨S1024x256, .f32⟩
  | .local _ .vmem, ⟨45, _⟩ => ⟨S1024x256, .f32⟩
  | .local _ .vmem, ⟨46, _⟩ => ⟨S256x4096, .f32⟩
  | .local _ .vmem, ⟨47, _⟩ => ⟨S256x4096, .f32⟩
  | .local _ .vmem, ⟨48, _⟩ => ⟨S1x4096, .f32⟩
  | .local _ .vmem, ⟨49, _⟩ => ⟨S256x4096, .f32⟩
  | .local _ .vmem, ⟨50, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![4, 4, 43], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S1024x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== TailIdeal.lean ====
abbrev S4x2048x4096 : Shape := ⟨3, ![4, 2048, 4096]⟩
abbrev S8192x1024 : Shape := ⟨2, ![8192, 1024]⟩
abbrev S2x4x2048x256 : Shape := ⟨4, ![2, 4, 2048, 256]⟩
abbrev S2x4x4096 : Shape := ⟨3, ![2, 4, 4096]⟩
abbrev S4096 : Shape := ⟨1, ![4096]⟩
abbrev S2x4096x11008 : Shape := ⟨3, ![2, 4096, 11008]⟩
abbrev S2x11008x4096 : Shape := ⟨3, ![2, 11008, 4096]⟩
abbrev S2x4096x4096 : Shape := ⟨3, ![2, 4096, 4096]⟩
abbrev S2x256x4096 : Shape := ⟨3, ![2, 256, 4096]⟩
abbrev S1x1024x4096 : Shape := ⟨3, ![1, 1024, 4096]⟩
abbrev S8192x4096 : Shape := ⟨2, ![8192, 4096]⟩
abbrev S1024x4096 : Shape := ⟨2, ![1024, 4096]⟩
abbrev S1024x1024 : Shape := ⟨2, ![1024, 1024]⟩
abbrev S1024x512 : Shape := ⟨2, ![1024, 512]⟩
abbrev S1x1x4096 : Shape := ⟨3, ![1, 1, 4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S4096x256 : Shape := ⟨2, ![4096, 256]⟩
abbrev S1024x256 : Shape := ⟨2, ![1024, 256]⟩
abbrev S2048x256 : Shape := ⟨2, ![2048, 256]⟩
abbrev S256x1024 : Shape := ⟨2, ![256, 1024]⟩
abbrev S2048x1024 : Shape := ⟨2, ![2048, 1024]⟩
abbrev S2x8192x256 : Shape := ⟨3, ![2, 8192, 256]⟩
abbrev S1x8192x256 : Shape := ⟨3, ![1, 8192, 256]⟩
abbrev S8192x256 : Shape := ⟨2, ![8192, 256]⟩
abbrev S1x4096x4096 : Shape := ⟨3, ![1, 4096, 4096]⟩
abbrev S4096x4096 : Shape := ⟨2, ![4096, 4096]⟩
abbrev S1x256x4096 : Shape := ⟨3, ![1, 256, 4096]⟩
abbrev S256x256 : Shape := ⟨2, ![256, 256]⟩

abbrev nBuf : Space → Nat
  | .hbm => 42
  | .vmem => 51
  | .smem => 0
  | _ => 0

abbrev bufTy : (tb : Table) → Fin (tcTables nBuf tb) → BufTy
  | .hbm, ⟨0, _⟩ => ⟨S4x2048x4096, .f32⟩
  | .hbm, ⟨1, _⟩ => ⟨S8192x1024, .bf16⟩
  | .hbm, ⟨2, _⟩ => ⟨S2x4x2048x256, .f32⟩
  | .hbm, ⟨3, _⟩ => ⟨S2x4x4096, .f32⟩
  | .hbm, ⟨4, _⟩ => ⟨S4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096x4096, .f32⟩
  | .hbm, ⟨9, _⟩ => ⟨S2x256x4096, .f32⟩
  | .hbm, ⟨10, _⟩ => ⟨S1x1024x4096, .f32⟩
  | .hbm, ⟨11, _⟩ => ⟨S8192x4096, .f32⟩
  | .hbm, ⟨12, _⟩ => ⟨S1024x4096, .f32⟩
  | .hbm, ⟨13, _⟩ => ⟨S8192x4096, .f32⟩
  | .hbm, ⟨14, _⟩ => ⟨S1x1x4096, .f32⟩
  | .hbm, ⟨15, _⟩ => ⟨S4096, .f32⟩
  | .hbm, ⟨16, _⟩ => ⟨S1x4096x11008, .f32⟩
  | .hbm, ⟨17, _⟩ => ⟨S4096x11008, .f32⟩
  | .hbm, ⟨18, _⟩ => ⟨S1x4096x11008, .f32⟩
  | .hbm, ⟨19, _⟩ => ⟨S4096x11008, .f32⟩
  | .hbm, ⟨20, _⟩ => ⟨S1x11008x4096, .f32⟩
  | .hbm, ⟨21, _⟩ => ⟨S11008x4096, .f32⟩
  | .hbm, ⟨22, _⟩ => ⟨S1x4096, .f32⟩
  | .hbm, ⟨23, _⟩ => ⟨S8192x4096, .bf16⟩
  | .hbm, ⟨24, _⟩ => ⟨S8192x11008, .bf16⟩
  | .hbm, ⟨25, _⟩ => ⟨S8192x4096, .f32⟩
  | .hbm, ⟨26, _⟩ => ⟨S2x8192x256, .f32⟩
  | .hbm, ⟨27, _⟩ => ⟨S1x8192x256, .f32⟩
  | .hbm, ⟨28, _⟩ => ⟨S8192x256, .f32⟩
  | .hbm, ⟨29, _⟩ => ⟨S1x1x4096, .f32⟩
  | .hbm, ⟨30, _⟩ => ⟨S4096, .f32⟩
  | .hbm, ⟨31, _⟩ => ⟨S1x4096x4096, .f32⟩
  | .hbm, ⟨32, _⟩ => ⟨S4096x4096, .f32⟩
  | .hbm, ⟨33, _⟩ => ⟨S1x256x4096, .f32⟩
  | .hbm, ⟨34, _⟩ => ⟨S256x4096, .f32⟩
  | .hbm, ⟨35, _⟩ => ⟨S1x4096, .f32⟩
  | .hbm, ⟨36, _⟩ => ⟨S8192x4096, .bf16⟩
  | .hbm, ⟨37, _⟩ => ⟨S8192x256, .bf16⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S1024x4096, .bf16⟩
  | .local _ .vmem, ⟨14, _⟩ => ⟨S1024x4096, .bf16⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S1024x256, .bf16⟩
  | .local _ .vmem, ⟨20, _⟩ => ⟨S1024x256, .bf16⟩
  | .local _ .vmem, ⟨21, _⟩ => ⟨S2048x256, .bf16⟩
  | .local _ .vmem, ⟨22, _⟩ => ⟨S2048x256, .bf16⟩
  | .local _ .vmem, ⟨23, _⟩ => ⟨S256x1024, .f32⟩
  | .local _ .vmem, ⟨24, _⟩ => ⟨S256x1024, .f32⟩
  | .local _ .vmem, ⟨25, _⟩ => ⟨S2048x1024, .f32⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | .local _ .vmem, ⟨29, _⟩ => ⟨S256x4096, .f32⟩
  | .local _ .vmem, ⟨30, _⟩ => ⟨S256x4096, .f32⟩
  | .local _ .vmem, ⟨31, _⟩ => ⟨S1x4096, .f32⟩
  | .local _ .vmem, ⟨32, _⟩ => ⟨S256x4096, .bf16⟩
  | .local _ .vmem, ⟨33, _⟩ => ⟨S256x4096, .bf16⟩
  | .local _ .vmem, ⟨34, _⟩ => ⟨S1024x4096, .bf16⟩
  | .local _ .vmem, ⟨35, _⟩ => ⟨S1024x4096, .bf16⟩
  | .local _ .vmem, ⟨36, _⟩ => ⟨S4096x256, .f32⟩
  | .local _ .vmem, ⟨37, _⟩ => ⟨S4096x256, .f32⟩
  | .local _ .vmem, ⟨38, _⟩ => ⟨S1024x256, .f32⟩
  | .local _ .vmem, ⟨39, _⟩ => ⟨S1024x256, .f32⟩
  | .local _ .vmem, ⟨40, _⟩ => ⟨S1024x256, .bf16⟩
  | .local _ .vmem, ⟨41, _⟩ => ⟨S1024x256, .bf16⟩
  | .local _ .vmem, ⟨42, _⟩ => ⟨S256x256, .f32⟩
  | .local _ .vmem, ⟨43, _⟩ => ⟨S256x256, .f32⟩
  | .local _ .vmem, ⟨44, _⟩ => ⟨S1024x256, .f32⟩
  | .local _ .vmem, ⟨45, _⟩ => ⟨S1024x256, .f32⟩
  | .local _ .vmem, ⟨46, _⟩ => ⟨S256x4096, .f32⟩
  | .local _ .vmem, ⟨47, _⟩ => ⟨S256x4096, .f32⟩
  | .local _ .vmem, ⟨48, _⟩ => ⟨S1x4096, .f32⟩
  | .local _ .vmem, ⟨49, _⟩ => ⟨S256x4096, .f32⟩
  | .local _ .vmem, ⟨50, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![4, 4, 43], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S1024x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== TailRefIdeal.lean ====
abbrev S4x2048x4096 : Shape := ⟨3, ![4, 2048, 4096]⟩
abbrev S8192x1024 : Shape := ⟨2, ![8192, 1024]⟩
abbrev S2x4x2048x256 : Shape := ⟨4, ![2, 4, 2048, 256]⟩
abbrev S2x4x4096 : Shape := ⟨3, ![2, 4, 4096]⟩
abbrev S4096 : Shape := ⟨1, ![4096]⟩
abbrev S2x4096x11008 : Shape := ⟨3, ![2, 4096, 11008]⟩
abbrev S2x11008x4096 : Shape := ⟨3, ![2, 11008, 4096]⟩
abbrev S2x4096x4096 : Shape := ⟨3, ![2, 4096, 4096]⟩
abbrev S2x256x4096 : Shape := ⟨3, ![2, 256, 4096]⟩
abbrev S1x1024x4096 : Shape := ⟨3, ![1, 1024, 4096]⟩
abbrev S8192x4096 : Shape := ⟨2, ![8192, 4096]⟩
abbrev S1024x4096 : Shape := ⟨2, ![1024, 4096]⟩
abbrev S1x1x4096 : Shape := ⟨3, ![1, 1, 4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S1x4096x4096 : Shape := ⟨3, ![1, 4096, 4096]⟩
abbrev S4096x4096 : Shape := ⟨2, ![4096, 4096]⟩
abbrev S1x4x2048x256 : Shape := ⟨4, ![1, 4, 2048, 256]⟩
abbrev S4x2048x256 : Shape := ⟨3, ![4, 2048, 256]⟩
abbrev S8192x256 : Shape := ⟨2, ![8192, 256]⟩
abbrev S1x256x4096 : Shape := ⟨3, ![1, 256, 4096]⟩
abbrev S256x4096 : Shape := ⟨2, ![256, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x1024, .bf16⟩
  | .hbm, ⟨2, _⟩ => ⟨S2x4x2048x256, .f32⟩
  | .hbm, ⟨3, _⟩ => ⟨S2x4x4096, .f32⟩
  | .hbm, ⟨4, _⟩ => ⟨S4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096x4096, .f32⟩
  | .hbm, ⟨9, _⟩ => ⟨S2x256x4096, .f32⟩
  | .hbm, ⟨10, _⟩ => ⟨S1x1024x4096, .f32⟩
  | .hbm, ⟨11, _⟩ => ⟨S8192x4096, .f32⟩
  | .hbm, ⟨12, _⟩ => ⟨S8192x1024, .f32⟩
  | .hbm, ⟨13, _⟩ => ⟨S1024x4096, .f32⟩
  | .hbm, ⟨14, _⟩ => ⟨S8192x4096, .f32⟩
  | .hbm, ⟨15, _⟩ => ⟨S8192x4096, .f32⟩
  | .hbm, ⟨16, _⟩ => ⟨S1x1x4096, .f32⟩
  | .hbm, ⟨17, _⟩ => ⟨S4096, .f32⟩
  | .hbm, ⟨18, _⟩ => ⟨S1x4096x11008, .f32⟩
  | .hbm, ⟨19, _⟩ => ⟨S4096x11008, .f32⟩
  | .hbm, ⟨20, _⟩ => ⟨S1x4096x11008, .f32⟩
  | .hbm, ⟨21, _⟩ => ⟨S4096x11008, .f32⟩
  | .hbm, ⟨22, _⟩ => ⟨S1x11008x4096, .f32⟩
  | .hbm, ⟨23, _⟩ => ⟨S11008x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x11008, .f32⟩
  | .hbm, ⟨41, _⟩ => ⟨S8192x11008, .f32⟩
  | .hbm, ⟨42, _⟩ => ⟨S8192x11008, .f32⟩
  | .hbm, ⟨43, _⟩ => ⟨S_, .f32⟩
  | .hbm, ⟨44, _⟩ => ⟨S8192x11008, .f32⟩
  | .hbm, ⟨45, _⟩ => ⟨S8192x11008, .f32⟩
  | .hbm, ⟨46, _⟩ => ⟨S_, .f32⟩
  | .hbm, ⟨47, _⟩ => ⟨S8192x11008, .f32⟩
  | .hbm, ⟨48, _⟩ => ⟨S8192x11008, .f32⟩
  | .hbm, ⟨49, _⟩ => ⟨S8192x11008, .f32⟩
  | .hbm, ⟨50, _⟩ => ⟨S8192x11008, .f32⟩
  | .hbm, ⟨51, _⟩ => ⟨S8192x11008, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S1x1x4096, .f32⟩
  | .hbm, ⟨58, _⟩ => ⟨S4096, .f32⟩
  | .hbm, ⟨59, _⟩ => ⟨S8192x4096, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x4096, .f32⟩
  | .hbm, ⟨71, _⟩ => ⟨S8192x4096, .f32⟩
  | .hbm, ⟨72, _⟩ => ⟨S1x4096, .f32⟩
  | .hbm, ⟨73, _⟩ => ⟨S8192x4096, .f32⟩
  | .hbm, ⟨74, _⟩ => ⟨S8192x4096, .f32⟩
  | .hbm, ⟨75, _⟩ => ⟨S1x4096x4096, .f32⟩
  | .hbm, ⟨76, _⟩ => ⟨S4096x4096, .f32⟩
  | .hbm, ⟨77, _⟩ => ⟨S8192x4096, .f32⟩
  | .hbm, ⟨78, _⟩ => ⟨S8192x4096, .f32⟩
  | .hbm, ⟨79, _⟩ => ⟨S8192x4096, .f32⟩
  | .hbm, ⟨80, _⟩ => ⟨S_, .f32⟩
  | .hbm, ⟨81, _⟩ => ⟨S8192x4096, .f32⟩
  | .hbm, ⟨82, _⟩ => ⟨S8192x4096, .f32⟩
  | .hbm, ⟨83, _⟩ => ⟨S_, .f32⟩
  | .hbm, ⟨84, _⟩ => ⟨S8192x4096, .f32⟩
  | .hbm, ⟨85, _⟩ => ⟨S8192x4096, .f32⟩
  | .hbm, ⟨86, _⟩ => ⟨S1x4x2048x256, .f32⟩
  | .hbm, ⟨87, _⟩ => ⟨S4x2048x256, .f32⟩
  | .hbm, ⟨88, _⟩ => ⟨S8192x256, .f32⟩
  | .hbm, ⟨89, _⟩ => ⟨S1x256x4096, .f32⟩
  | .hbm, ⟨90, _⟩ => ⟨S256x4096, .f32⟩
  | .hbm, ⟨91, _⟩ => ⟨S8192x4096, .f32⟩
  | .hbm, ⟨92, _⟩ => ⟨S8192x4096, .f32⟩
  | .hbm, ⟨93, _⟩ => ⟨S8192x4096, .f32⟩
  | .hbm, ⟨94, _⟩ => ⟨S8192x4096, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S8192x1, .f32⟩
  | .hbm, ⟨105, _⟩ => ⟨S8192x4096, .f32⟩
  | .hbm, ⟨106, _⟩ => ⟨S8192x4096, .f32⟩
  | .hbm, ⟨107, _⟩ => ⟨S1x4096, .f32⟩
  | .hbm, ⟨108, _⟩ => ⟨S8192x4096, .f32⟩
  | .hbm, ⟨109, _⟩ => ⟨S8192x4096, .f32⟩
  | .hbm, ⟨110, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== TailS.lean ====
abbrev S8x8x4096 : Shape := ⟨3, ![8, 8, 4096]⟩
abbrev S64x1024 : Shape := ⟨2, ![64, 1024]⟩
abbrev S2x8x8x256 : Shape := ⟨4, ![2, 8, 8, 256]⟩
abbrev S2x4x4096 : Shape := ⟨3, ![2, 4, 4096]⟩
abbrev S4096 : Shape := ⟨1, ![4096]⟩
abbrev S2x4096x11008 : Shape := ⟨3, ![2, 4096, 11008]⟩
abbrev S2x11008x4096 : Shape := ⟨3, ![2, 11008, 4096]⟩
abbrev S2x4096x4096 : Shape := ⟨3, ![2, 4096, 4096]⟩
abbrev S2x256x4096 : Shape := ⟨3, ![2, 256, 4096]⟩
abbrev S1x1024x4096 : Shape := ⟨3, ![1, 1024, 4096]⟩
abbrev S64x4096 : Shape := ⟨2, ![64, 4096]⟩
abbrev S1024x4096 : Shape := ⟨2, ![1024, 4096]⟩
abbrev S1024x512 : Shape := ⟨2, ![1024, 512]⟩
abbrev S64x512 : Shape := ⟨2, ![64, 512]⟩
abbrev S1x1x4096 : Shape := ⟨3, ![1, 1, 4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S1x4096 : Shape := ⟨2, ![1, 4096]⟩
abbrev S64 : Shape := ⟨1, ![64]⟩
abbrev S64x1 : Shape := ⟨2, ![64, 1]⟩
abbrev S64x11008 : Shape := ⟨2, ![64, 11008]⟩
abbrev S4096x256 : Shape := ⟨2, ![4096, 256]⟩
abbrev S64x256 : Shape := ⟨2, ![64, 256]⟩
abbrev S256x1024 : Shape := ⟨2, ![256, 1024]⟩
abbrev S2x64x256 : Shape := ⟨3, ![2, 64, 256]⟩
abbrev S1x64x256 : Shape := ⟨3, ![1, 64, 256]⟩
abbrev S1x4096x4096 : Shape := ⟨3, ![1, 4096, 4096]⟩
abbrev S4096x4096 : Shape := ⟨2, ![4096, 4096]⟩
abbrev S1x256x4096 : Shape := ⟨3, ![1, 256, 4096]⟩
abbrev S256x4096 : Shape := ⟨2, ![256, 4096]⟩
abbrev S256x256 : Shape := ⟨2, ![256, 256]⟩

abbrev nBuf : Space → Nat
  | .hbm => 42
  | .vmem => 41
  | .smem => 0
  | _ => 0

abbrev bufTy : (tb : Table) → Fin (tcTables nBuf tb) → BufTy
  | .hbm, ⟨0, _⟩ => ⟨S8x8x4096, .f32⟩
  | .hbm, ⟨1, _⟩ => ⟨S64x1024, .bf16⟩
  | .hbm, ⟨2, _⟩ => ⟨S2x8x8x256, .f32⟩
  | .hbm, ⟨3, _⟩ => ⟨S2x4x4096, .f32⟩
  | .hbm, ⟨4, _⟩ => ⟨S4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096x4096, .f32⟩
  | .hbm, ⟨9, _⟩ => ⟨S2x256x4096, .f32⟩
  | .hbm, ⟨10, _⟩ => ⟨S1x1024x4096, .f32⟩
  | .hbm, ⟨11, _⟩ => ⟨S64x4096, .f32⟩
  | .hbm, ⟨12, _⟩ => ⟨S1024x4096, .f32⟩
  | .hbm, ⟨13, _⟩ => ⟨S64x4096, .f32⟩
  | .hbm, ⟨14, _⟩ => ⟨S1x1x4096, .f32⟩
  | .hbm, ⟨15, _⟩ => ⟨S4096, .f32⟩
  | .hbm, ⟨16, _⟩ => ⟨S1x4096x11008, .f32⟩
  | .hbm, ⟨17, _⟩ => ⟨S4096x11008, .f32⟩
  | .hbm, ⟨18, _⟩ => ⟨S1x4096x11008, .f32⟩
  | .hbm, ⟨19, _⟩ => ⟨S4096x11008, .f32⟩
  | .hbm, ⟨20, _⟩ => ⟨S1x11008x4096, .f32⟩
  | .hbm, ⟨21, _⟩ => ⟨S11008x4096, .f32⟩
  | .hbm, ⟨22, _⟩ => ⟨S1x4096, .f32⟩
  | .hbm, ⟨23, _⟩ => ⟨S64x4096, .bf16⟩
  | .hbm, ⟨24, _⟩ => ⟨S64x11008, .bf16⟩
  | .hbm, ⟨25, _⟩ => ⟨S64x4096, .f32⟩
  | .hbm, ⟨26, _⟩ => ⟨S2x64x256, .f32⟩
  | .hbm, ⟨27, _⟩ => ⟨S1x64x256, .f32⟩
  | .hbm, ⟨28, _⟩ => ⟨S64x256, .f32⟩
  | .hbm, ⟨29, _⟩ => ⟨S1x1x4096, .f32⟩
  | .hbm, ⟨30, _⟩ => ⟨S4096, .f32⟩
  | .hbm, ⟨31, _⟩ => ⟨S1x4096x4096, .f32⟩
  | .hbm, ⟨32, _⟩ => ⟨S4096x4096, .f32⟩
  | .hbm, ⟨33, _⟩ => ⟨S1x256x4096, .f32⟩
  | .hbm, ⟨34, _⟩ => ⟨S256x4096, .f32⟩
  | .hbm, ⟨35, _⟩ => ⟨S1x4096, .f32⟩
  | .hbm, ⟨36, _⟩ => ⟨S64x4096, .bf16⟩
  | .hbm, ⟨37, _⟩ => ⟨S64x256, .bf16⟩
  | .hbm, ⟨38, _⟩ => ⟨S64x4096, .f32⟩
  | .hbm, ⟨39, _⟩ => ⟨S1x4096, .f32⟩
  | .hbm, ⟨40, _⟩ => ⟨S64x4096, .f32⟩
  | .hbm, ⟨41, _⟩ => ⟨S8x8x4096, .f32⟩
  | .local _ .vmem, ⟨0, _⟩ => ⟨S64x1024, .bf16⟩
  | .local _ .vmem, ⟨1, _⟩ => ⟨S1024x512, .f32⟩
  | .local _ .vmem, ⟨2, _⟩ => ⟨S1024x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x4096, .f32⟩
  | .local _ .vmem, ⟨8, _⟩ => ⟨S1x4096, .f32⟩
  | .local _ .vmem, ⟨9, _⟩ => ⟨S64x4096, .bf16⟩
  | .local _ .vmem, ⟨10, _⟩ => ⟨S64x4096, .bf16⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S64x256, .bf16⟩
  | .local _ .vmem, ⟨16, _⟩ => ⟨S64x256, .bf16⟩
  | .local _ .vmem, ⟨17, _⟩ => ⟨S64x256, .bf16⟩
  | .local _ .vmem, ⟨18, _⟩ => ⟨S64x256, .bf16⟩
  | .local _ .vmem, ⟨19, _⟩ => ⟨S256x1024, .f32⟩
  | .local _ .vmem, ⟨20, _⟩ => ⟨S256x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x4096, .f32⟩
  | .local _ .vmem, ⟨26, _⟩ => ⟨S1x4096, .f32⟩
  | .local _ .vmem, ⟨27, _⟩ => ⟨S64x4096, .bf16⟩
  | .local _ .vmem, ⟨28, _⟩ => ⟨S64x4096, .bf16⟩
  | .local _ .vmem, ⟨29, _⟩ => ⟨S4096x256, .f32⟩
  | .local _ .vmem, ⟨30, _⟩ => ⟨S4096x256, .f32⟩
  | .local _ .vmem, ⟨31, _⟩ => ⟨S64x256, .f32⟩
  | .local _ .vmem, ⟨32, _⟩ => ⟨S64x256, .f32⟩
  | .local _ .vmem, ⟨33, _⟩ => ⟨S64x256, .bf16⟩
  | .local _ .vmem, ⟨34, _⟩ => ⟨S256x256, .f32⟩
  | .local _ .vmem, ⟨35, _⟩ => ⟨S256x256, .f32⟩
  | .local _ .vmem, ⟨36, _⟩ => ⟨S64x256, .f32⟩
  | .local _ .vmem, ⟨37, _⟩ => ⟨S64x256, .f32⟩
  | .local _ .vmem, ⟨38, _⟩ => ⟨S64x4096, .f32⟩
  | .local _ .vmem, ⟨39, _⟩ => ⟨S1x4096, .f32⟩
  | .local _ .vmem, ⟨40, _⟩ => ⟨S64x4096, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg2_0 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem1_0 : DmaSem sig := 26
abbrev cc4_sem2_0 : DmaSem sig := 27
abbrev cc5_sem0_0 : DmaSem sig := 28
abbrev cc5_sem1_0 : DmaSem sig := 29
abbrev cc5_sem1_1 : DmaSem sig := 30
abbrev cc5_sem2_0 : DmaSem sig := 31
abbrev cc5_sem2_1 : DmaSem sig := 32
abbrev cc5_sem3_0 : DmaSem sig := 33
abbrev cc5_sem4_0 : DmaSem sig := 34
abbrev cc5_sem4_1 : DmaSem sig := 35
abbrev cc5_sem5_0 : DmaSem sig := 36
abbrev cc5_sem5_1 : DmaSem sig := 37
abbrev cc6_sem0_0 : DmaSem sig := 38
abbrev cc6_sem1_0 : DmaSem sig := 39
abbrev cc6_sem2_0 : DmaSem sig := 40

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![1, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S64x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![1, 4, 43], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S64x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S64x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x4096 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨2, ![1, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S64x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S64x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S64x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, false]

abbrev stage5_4 : Fin 2 → Memref sig .tc .vmem S256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S64x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S64x4096 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x4096 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]
-- ==== TailSRefIdeal.lean ====
abbrev S8x8x4096 : Shape := ⟨3, ![8, 8, 4096]⟩
abbrev S64x1024 : Shape := ⟨2, ![64, 1024]⟩
abbrev S2x8x8x256 : Shape := ⟨4, ![2, 8, 8, 256]⟩
abbrev S2x4x4096 : Shape := ⟨3, ![2, 4, 4096]⟩
abbrev S4096 : Shape := ⟨1, ![4096]⟩
abbrev S2x4096x11008 : Shape := ⟨3, ![2, 4096, 11008]⟩
abbrev S2x11008x4096 : Shape := ⟨3, ![2, 11008, 4096]⟩
abbrev S2x4096x4096 : Shape := ⟨3, ![2, 4096, 4096]⟩
abbrev S2x256x4096 : Shape := ⟨3, ![2, 256, 4096]⟩
abbrev S1x1024x4096 : Shape := ⟨3, ![1, 1024, 4096]⟩
abbrev S64x4096 : Shape := ⟨2, ![64, 4096]⟩
abbrev S1024x4096 : Shape := ⟨2, ![1024, 4096]⟩
abbrev S1x1x4096 : Shape := ⟨3, ![1, 1, 4096]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S64x11008 : Shape := ⟨2, ![64, 11008]⟩
abbrev S1x4096x4096 : Shape := ⟨3, ![1, 4096, 4096]⟩
abbrev S4096x4096 : Shape := ⟨2, ![4096, 4096]⟩
abbrev S1x8x8x256 : Shape := ⟨4, ![1, 8, 8, 256]⟩
abbrev S8x8x256 : Shape := ⟨3, ![8, 8, 256]⟩
abbrev S64x256 : Shape := ⟨2, ![64, 256]⟩
abbrev S1x256x4096 : Shape := ⟨3, ![1, 256, 4096]⟩
abbrev S256x4096 : Shape := ⟨2, ![256, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x8x4096, .f32⟩
  | .hbm, ⟨1, _⟩ => ⟨S64x1024, .bf16⟩
  | .hbm, ⟨2, _⟩ => ⟨S2x8x8x256, .f32⟩
  | .hbm, ⟨3, _⟩ => ⟨S2x4x4096, .f32⟩
  | .hbm, ⟨4, _⟩ => ⟨S4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096x4096, .f32⟩
  | .hbm, ⟨9, _⟩ => ⟨S2x256x4096, .f32⟩
  | .hbm, ⟨10, _⟩ => ⟨S1x1024x4096, .f32⟩
  | .hbm, ⟨11, _⟩ => ⟨S64x4096, .f32⟩
  | .hbm, ⟨12, _⟩ => ⟨S64x1024, .f32⟩
  | .hbm, ⟨13, _⟩ => ⟨S1024x4096, .f32⟩
  | .hbm, ⟨14, _⟩ => ⟨S64x4096, .f32⟩
  | .hbm, ⟨15, _⟩ => ⟨S64x4096, .f32⟩
  | .hbm, ⟨16, _⟩ => ⟨S1x1x4096, .f32⟩
  | .hbm, ⟨17, _⟩ => ⟨S4096, .f32⟩
  | .hbm, ⟨18, _⟩ => ⟨S1x4096x11008, .f32⟩
  | .hbm, ⟨19, _⟩ => ⟨S4096x11008, .f32⟩
  | .hbm, ⟨20, _⟩ => ⟨S1x4096x11008, .f32⟩
  | .hbm, ⟨21, _⟩ => ⟨S4096x11008, .f32⟩
  | .hbm, ⟨22, _⟩ => ⟨S1x11008x4096, .f32⟩
  | .hbm, ⟨23, _⟩ => ⟨S11008x4096, .f32⟩
  | .hbm, ⟨24, _⟩ => ⟨S64x4096, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x4096, .f32⟩
  | .hbm, ⟨36, _⟩ => ⟨S64x4096, .f32⟩
  | .hbm, ⟨37, _⟩ => ⟨S1x4096, .f32⟩
  | .hbm, ⟨38, _⟩ => ⟨S64x4096, .f32⟩
  | .hbm, ⟨39, _⟩ => ⟨S64x4096, .f32⟩
  | .hbm, ⟨40, _⟩ => ⟨S64x11008, .f32⟩
  | .hbm, ⟨41, _⟩ => ⟨S64x11008, .f32⟩
  | .hbm, ⟨42, _⟩ => ⟨S64x11008, .f32⟩
  | .hbm, ⟨43, _⟩ => ⟨S_, .f32⟩
  | .hbm, ⟨44, _⟩ => ⟨S64x11008, .f32⟩
  | .hbm, ⟨45, _⟩ => ⟨S64x11008, .f32⟩
  | .hbm, ⟨46, _⟩ => ⟨S_, .f32⟩
  | .hbm, ⟨47, _⟩ => ⟨S64x11008, .f32⟩
  | .hbm, ⟨48, _⟩ => ⟨S64x11008, .f32⟩
  | .hbm, ⟨49, _⟩ => ⟨S64x11008, .f32⟩
  | .hbm, ⟨50, _⟩ => ⟨S64x11008, .f32⟩
  | .hbm, ⟨51, _⟩ => ⟨S64x11008, .f32⟩
  | .hbm, ⟨52, _⟩ => ⟨S64x4096, .f32⟩
  | .hbm, ⟨53, _⟩ => ⟨S_, .f32⟩
  | .hbm, ⟨54, _⟩ => ⟨S64x4096, .f32⟩
  | .hbm, ⟨55, _⟩ => ⟨S64x4096, .f32⟩
  | .hbm, ⟨56, _⟩ => ⟨S64x4096, .f32⟩
  | .hbm, ⟨57, _⟩ => ⟨S1x1x4096, .f32⟩
  | .hbm, ⟨58, _⟩ => ⟨S4096, .f32⟩
  | .hbm, ⟨59, _⟩ => ⟨S64x4096, .f32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S_, .f32⟩
  | .hbm, ⟨64, _⟩ => ⟨S64x1, .f32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S64x1, .f32⟩
  | .hbm, ⟨70, _⟩ => ⟨S64x4096, .f32⟩
  | .hbm, ⟨71, _⟩ => ⟨S64x4096, .f32⟩
  | .hbm, ⟨72, _⟩ => ⟨S1x4096, .f32⟩
  | .hbm, ⟨73, _⟩ => ⟨S64x4096, .f32⟩
  | .hbm, ⟨74, _⟩ => ⟨S64x4096, .f32⟩
  | .hbm, ⟨75, _⟩ => ⟨S1x4096x4096, .f32⟩
  | .hbm, ⟨76, _⟩ => ⟨S4096x4096, .f32⟩
  | .hbm, ⟨77, _⟩ => ⟨S64x4096, .f32⟩
  | .hbm, ⟨78, _⟩ => ⟨S64x4096, .f32⟩
  | .hbm, ⟨79, _⟩ => ⟨S64x4096, .f32⟩
  | .hbm, ⟨80, _⟩ => ⟨S_, .f32⟩
  | .hbm, ⟨81, _⟩ => ⟨S64x4096, .f32⟩
  | .hbm, ⟨82, _⟩ => ⟨S64x4096, .f32⟩
  | .hbm, ⟨83, _⟩ => ⟨S_, .f32⟩
  | .hbm, ⟨84, _⟩ => ⟨S64x4096, .f32⟩
  | .hbm, ⟨85, _⟩ => ⟨S64x4096, .f32⟩
  | .hbm, ⟨86, _⟩ => ⟨S1x8x8x256, .f32⟩
  | .hbm, ⟨87, _⟩ => ⟨S8x8x256, .f32⟩
  | .hbm, ⟨88, _⟩ => ⟨S64x256, .f32⟩
  | .hbm, ⟨89, _⟩ => ⟨S1x256x4096, .f32⟩
  | .hbm, ⟨90, _⟩ => ⟨S256x4096, .f32⟩
  | .hbm, ⟨91, _⟩ => ⟨S64x4096, .f32⟩
  | .hbm, ⟨92, _⟩ => ⟨S64x4096, .f32⟩
  | .hbm, ⟨93, _⟩ => ⟨S64x4096, .f32⟩
  | .hbm, ⟨94, _⟩ => ⟨S64x4096, .f32⟩
  | .hbm, ⟨95, _⟩ => ⟨S_, .f32⟩
  | .hbm, ⟨96, _⟩ => ⟨S64, .f32⟩
  | .hbm, ⟨97, _⟩ => ⟨S64x1, .f32⟩
  | .hbm, ⟨98, _⟩ => ⟨S_, .f32⟩
  | .hbm, ⟨99, _⟩ => ⟨S64x1, .f32⟩
  | .hbm, ⟨100, _⟩ => ⟨S64x1, .f32⟩
  | .hbm, ⟨101, _⟩ => ⟨S_, .f32⟩
  | .hbm, ⟨102, _⟩ => ⟨S64x1, .f32⟩
  | .hbm, ⟨103, _⟩ => ⟨S64x1, .f32⟩
  | .hbm, ⟨104, _⟩ => ⟨S64x1, .f32⟩
  | .hbm, ⟨105, _⟩ => ⟨S64x4096, .f32⟩
  | .hbm, ⟨106, _⟩ => ⟨S64x4096, .f32⟩
  | .hbm, ⟨107, _⟩ => ⟨S1x4096, .f32⟩
  | .hbm, ⟨108, _⟩ => ⟨S64x4096, .f32⟩
  | .hbm, ⟨109, _⟩ => ⟨S64x4096, .f32⟩
  | .hbm, ⟨110, _⟩ => ⟨S8x8x4096, .f32⟩
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Even.lean ====
abbrev S8192x4096 : Shape := ⟨2, ![8192, 4096]⟩
abbrev S4096x6816 : Shape := ⟨2, ![4096, 6816]⟩
abbrev S512x4096 : Shape := ⟨2, ![512, 4096]⟩
abbrev S4096x3072 : Shape := ⟨2, ![4096, 3072]⟩
abbrev S8192x3072 : Shape := ⟨2, ![8192, 3072]⟩
abbrev S1024x4096 : Shape := ⟨2, ![1024, 4096]⟩
abbrev S4096x512 : Shape := ⟨2, ![4096, 512]⟩
abbrev S1024x512 : Shape := ⟨2, ![1024, 512]⟩
abbrev S8192x512 : Shape := ⟨2, ![8192, 512]⟩
abbrev S4096x1024 : Shape := ⟨2, ![4096, 1024]⟩
abbrev S4096x128 : Shape := ⟨2, ![4096, 128]⟩
abbrev S4096x32 : Shape := ⟨2, ![4096, 32]⟩
abbrev S_ : Shape := ⟨0, ![]⟩
abbrev S4096x96 : Shape := ⟨2, ![4096, 96]⟩
abbrev S4096x1280 : Shape := ⟨2, ![4096, 1280]⟩
abbrev S8192x1280 : Shape := ⟨2, ![8192, 1280]⟩
abbrev S4096x256 : Shape := ⟨2, ![4096, 256]⟩
abbrev S1024x256 : Shape := ⟨2, ![1024, 256]⟩
abbrev S8192x1024 : Shape := ⟨2, ![8192, 1024]⟩
abbrev S8192x32 : Shape := ⟨2, ![8192, 32]⟩
abbrev S512x512 : Shape := ⟨2, ![512, 512]⟩

abbrev nBuf : Space → Nat
  | .hbm => 17
  | .vmem => 23
  | .smem => 0
  | _ => 0

abbrev bufTy : (tb : Table) → Fin (tcTables nBuf tb) → BufTy
  | .hbm, ⟨0, _⟩ => ⟨S8192x4096, .bf16⟩
  | .hbm, ⟨1, _⟩ => ⟨S4096x6816, .f32⟩
  | .hbm, ⟨2, _⟩ => ⟨S512x4096, .f32⟩
  | .hbm, ⟨3, _⟩ => ⟨S4096x3072, .f32⟩
  | .hbm, ⟨4, _⟩ => ⟨S8192x3072, .bf16⟩
  | .hbm, ⟨5, _⟩ => ⟨S4096x512, .f32⟩
  | .hbm, ⟨6, _⟩ => ⟨S8192x512, .bf16⟩
  | .hbm, ⟨7, _⟩ => ⟨S4096x1024, .f32⟩
  | .hbm, ⟨8, _⟩ => ⟨S4096x128, .f32⟩
  | .hbm, ⟨9, _⟩ => ⟨S4096x32, .f32⟩
  | .hbm, ⟨10, _⟩ => ⟨S_, .f32⟩
  | .hbm, ⟨11, _⟩ => ⟨S4096x96, .f32⟩
  | .hbm, ⟨12, _⟩ => ⟨S4096x1280, .f32⟩
  | .hbm, ⟨13, _⟩ => ⟨S8192x1280, .f32⟩
  | .hbm, ⟨14, _⟩ => ⟨S8192x1024, .f32⟩
  | .hbm, ⟨15, _⟩ => ⟨S8192x32, .f32⟩
  | .hbm, ⟨16, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S1024x4096, .bf16⟩
  | .local _ .vmem, ⟨7, _⟩ => ⟨S1024x4096, .bf16⟩
  | .local _ .vmem, ⟨8, _⟩ => ⟨S4096x512, .f32⟩
  | .local _ .vmem, ⟨9, _⟩ => ⟨S1024x512, .bf16⟩
  | .local _ .vmem, ⟨10, _⟩ => ⟨S1024x512, .bf16⟩
  | .local _ .vmem, ⟨11, _⟩ => ⟨S1024x4096, .bf16⟩
  | .local _ .vmem, ⟨12, _⟩ => ⟨S1024x4096, .bf16⟩
  | .local _ .vmem, ⟨13, _⟩ => ⟨S4096x256, .f32⟩
  | .local _ .vmem, ⟨14, _⟩ => ⟨S4096x256, .f32⟩
  | .local _ .vmem, ⟨15, _⟩ => ⟨S1024x256, .f32⟩
  | .local _ .vmem, ⟨16, _⟩ => ⟨S1024x256, .f32⟩
  | .local _ .vmem, ⟨17, _⟩ => ⟨S1024x512, .bf16⟩
  | .local _ .vmem, ⟨18, _⟩ => ⟨S1024x512, .bf16⟩
  | .local _ .vmem, ⟨19, _⟩ => ⟨S512x512, .f32⟩
  | .local _ .vmem, ⟨20, _⟩ => ⟨S512x512, .f32⟩
  | .local _ .vmem, ⟨21, _⟩ => ⟨S1024x512, .bf16⟩
  | .local _ .vmem, ⟨22, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== EvenRefIdeal.lean ====
abbrev S8192x4096 : Shape := ⟨2, ![8192, 4096]⟩
abbrev S4096x6816 : Shape := ⟨2, ![4096, 6816]⟩
abbrev S512x4096 : Shape := ⟨2, ![512, 4096]⟩
abbrev S8192x6816 : Shape := ⟨2, ![8192, 6816]⟩
abbrev S8192x512 : Shape := ⟨2, ![8192, 512]⟩
abbrev S8192x3072 : Shape := ⟨2, ![8192, 3072]⟩
abbrev S8192x32 : Shape := ⟨2, ![8192, 32]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x6816, .f32⟩
  | .hbm, ⟨2, _⟩ => ⟨S512x4096, .f32⟩
  | .hbm, ⟨3, _⟩ => ⟨S8192x4096, .f32⟩
  | .hbm, ⟨4, _⟩ => ⟨S8192x6816, .f32⟩
  | .hbm, ⟨5, _⟩ => ⟨S8192x512, .f32⟩
  | .hbm, ⟨6, _⟩ => ⟨S8192x4096, .f32⟩
  | .hbm, ⟨7, _⟩ => ⟨S8192x3072, .f32⟩
  | .hbm, ⟨8, _⟩ => ⟨S8192x3072, .bf16⟩
  | .hbm, ⟨9, _⟩ => ⟨S8192x4096, .bf16⟩
  | .hbm, ⟨10, _⟩ => ⟨S8192x32, .f32⟩
  | .hbm, ⟨11, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Mix.lean ====
abbrev S8192x4096 : Shape := ⟨2, ![8192, 4096]⟩
abbrev S8192x3072 : Shape := ⟨2, ![8192, 3072]⟩
abbrev S8192x1024 : Shape := ⟨2, ![8192, 1024]⟩
abbrev S4096x4096 : Shape := ⟨2, ![4096, 4096]⟩
abbrev S3072x4096 : Shape := ⟨2, ![3072, 4096]⟩
abbrev S1024x3072 : Shape := ⟨2, ![1024, 3072]⟩
abbrev S3072x512 : Shape := ⟨2, ![3072, 512]⟩
abbrev S1024x512 : Shape := ⟨2, ![1024, 512]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x3072, .bf16⟩
  | .hbm, ⟨2, _⟩ => ⟨S8192x1024, .bf16⟩
  | .hbm, ⟨3, _⟩ => ⟨S4096x4096, .f32⟩
  | .hbm, ⟨4, _⟩ => ⟨S3072x4096, .f32⟩
  | .hbm, ⟨5, _⟩ => ⟨S8192x4096, .f32⟩
  | .hbm, ⟨6, _⟩ => ⟨S8192x4096, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .f32⟩
  | .local _ .vmem, ⟨3, _⟩ => ⟨S3072x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![c3_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MixRefIdeal.lean ====
abbrev S8192x4096 : Shape := ⟨2, ![8192, 4096]⟩
abbrev S8192x3072 : Shape := ⟨2, ![8192, 3072]⟩
abbrev S8192x1024 : Shape := ⟨2, ![8192, 1024]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x3072, .bf16⟩
  | .hbm, ⟨2, _⟩ => ⟨S8192x1024, .bf16⟩
  | .hbm, ⟨3, _⟩ => ⟨S4096x4096, .f32⟩
  | .hbm, ⟨4, _⟩ => ⟨S8192x3072, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== State.lean ====
abbrev S64x1024 : Shape := ⟨2, ![64, 1024]⟩
abbrev S8x64x64 : Shape := ⟨3, ![8, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x1 : Shape := ⟨2, ![64, 1]⟩
abbrev S8x8x1x1024 : Shape := ⟨4, ![8, 8, 1, 1024]⟩
abbrev S8x1x8x1024 : Shape := ⟨4, ![8, 1, 8, 1024]⟩
abbrev S8x8 : Shape := ⟨2, ![8, 8]⟩
abbrev S_ : Shape := ⟨0, ![]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1x512 : Shape := ⟨3, ![8, 1, 512]⟩
abbrev S1x1024 : Shape := ⟨2, ![1, 1024]⟩
abbrev S8x8x1x512 : Shape := ⟨4, ![8, 8, 1, 512]⟩
abbrev S8x128 : Shape := ⟨2, ![8, 128]⟩
abbrev S1x128x512 : Shape := ⟨3, ![1, 128, 512]⟩
abbrev S1x512x128 : Shape := ⟨3, ![1, 512, 128]⟩
abbrev S1x1x512 : Shape := ⟨3, ![1, 1, 512]⟩
abbrev S1x128 : Shape := ⟨2, ![1, 128]⟩
abbrev S1x1x1x512 : Shape := ⟨4, ![1, 1, 1, 512]⟩
abbrev S8x512 : Shape := ⟨2, ![8, 512]⟩
abbrev S128x512 : Shape := ⟨2, ![128, 512]⟩
abbrev S1x512 : Shape := ⟨2, ![1, 512]⟩
abbrev S512x128 : Shape := ⟨2, ![512, 128]⟩

abbrev nBuf : Space → Nat
  | .hbm => 96
  | .vmem => 37
  | .smem => 0
  | _ => 0

abbrev bufTy : (tb : Table) → Fin (tcTables nBuf tb) → BufTy
  | .hbm, ⟨0, _⟩ => ⟨S64x1024, .f32⟩
  | .hbm, ⟨1, _⟩ => ⟨S8x64x64, .f32⟩
  | .hbm, ⟨2, _⟩ => ⟨S8x64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1024, .f32⟩
  | .hbm, ⟨11, _⟩ => ⟨S64x1, .f32⟩
  | .hbm, ⟨12, _⟩ => ⟨S64x1024, .f32⟩
  | .hbm, ⟨13, _⟩ => ⟨S64x64x16, .f32⟩
  | .hbm, ⟨14, _⟩ => ⟨S64x1024, .f32⟩
  | .hbm, ⟨15, _⟩ => ⟨S64x64x16, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S64x64, .f32⟩
  | .hbm, ⟨24, _⟩ => ⟨S64x64, .f32⟩
  | .hbm, ⟨25, _⟩ => ⟨S64x64x16, .f32⟩
  | .hbm, ⟨26, _⟩ => ⟨S64x64x16, .f32⟩
  | .hbm, ⟨27, _⟩ => ⟨S8x8x1x1024, .f32⟩
  | .hbm, ⟨28, _⟩ => ⟨S8x1x8x1024, .f32⟩
  | .hbm, ⟨29, _⟩ => ⟨S64x1024, .f32⟩
  | .hbm, ⟨30, _⟩ => ⟨S64x16x64, .f32⟩
  | .hbm, ⟨31, _⟩ => ⟨S8x8, .i32⟩
  | .hbm, ⟨32, _⟩ => ⟨S8x8, .i32⟩
  | .hbm, ⟨33, _⟩ => ⟨S_, .i32⟩
  | .hbm, ⟨34, _⟩ => ⟨S8x8, .i32⟩
  | .hbm, ⟨35, _⟩ => ⟨S8x8, .i32⟩
  | .hbm, ⟨36, _⟩ => ⟨S8x8, .i1⟩
  | .hbm, ⟨37, _⟩ => ⟨S8x8, .f32⟩
  | .hbm, ⟨38, _⟩ => ⟨S8x8x16x1x64, .f32⟩
  | .hbm, ⟨39, _⟩ => ⟨S1x8x1x8x1, .f32⟩
  | .hbm, ⟨40, _⟩ => ⟨S8x8x16x8x64, .f32⟩
  | .hbm, ⟨41, _⟩ => ⟨S8x8x16x8x64, .f32⟩
  | .hbm, ⟨42, _⟩ => ⟨S8x8x16x8x64, .f32⟩
  | .hbm, ⟨43, _⟩ => ⟨S8x128x512, .f32⟩
  | .hbm, ⟨44, _⟩ => ⟨S64x16x64, .f32⟩
  | .hbm, ⟨45, _⟩ => ⟨S8x8, .i32⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S8x8, .f32⟩
  | .hbm, ⟨52, _⟩ => ⟨S8x8x16x1x64, .f32⟩
  | .hbm, ⟨53, _⟩ => ⟨S1x8x1x8x1, .f32⟩
  | .hbm, ⟨54, _⟩ => ⟨S8x8x16x8x64, .f32⟩
  | .hbm, ⟨55, _⟩ => ⟨S8x8x16x8x64, .f32⟩
  | .hbm, ⟨56, _⟩ => ⟨S8x8x16x8x64, .f32⟩
  | .hbm, ⟨57, _⟩ => ⟨S8x128x512, .f32⟩
  | .hbm, ⟨58, _⟩ => ⟨S64x64x16, .f32⟩
  | .hbm, ⟨59, _⟩ => ⟨S8x8, .i32⟩
  | .hbm, ⟨60, _⟩ => ⟨S8x8, .i32⟩
  | .hbm, ⟨61, _⟩ => ⟨S_, .i32⟩
  | .hbm, ⟨62, _⟩ => ⟨S8x8, .i32⟩
  | .hbm, ⟨63, _⟩ => ⟨S8x8, .i32⟩
  | .hbm, ⟨64, _⟩ => ⟨S8x8, .i1⟩
  | .hbm, ⟨65, _⟩ => ⟨S8x8, .f32⟩
  | .hbm, ⟨66, _⟩ => ⟨S8x8x64x1x16, .f32⟩
  | .hbm, ⟨67, _⟩ => ⟨S1x8x1x8x1, .f32⟩
  | .hbm, ⟨68, _⟩ => ⟨S8x8x64x8x16, .f32⟩
  | .hbm, ⟨69, _⟩ => ⟨S8x8x64x8x16, .f32⟩
  | .hbm, ⟨70, _⟩ => ⟨S8x8x64x8x16, .f32⟩
  | .hbm, ⟨71, _⟩ => ⟨S8x512x128, .f32⟩
  | .hbm, ⟨72, _⟩ => ⟨S64x64x16, .f32⟩
  | .hbm, ⟨73, _⟩ => ⟨S8x8, .i32⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S8x8, .i1⟩
  | .hbm, ⟨79, _⟩ => ⟨S8x8, .f32⟩
  | .hbm, ⟨80, _⟩ => ⟨S8x8x64x1x16, .f32⟩
  | .hbm, ⟨81, _⟩ => ⟨S1x8x1x8x1, .f32⟩
  | .hbm, ⟨82, _⟩ => ⟨S8x8x64x8x16, .f32⟩
  | .hbm, ⟨83, _⟩ => ⟨S8x8x64x8x16, .f32⟩
  | .hbm, ⟨84, _⟩ => ⟨S8x8x64x8x16, .f32⟩
  | .hbm, ⟨85, _⟩ => ⟨S8x512x128, .f32⟩
  | .hbm, ⟨86, _⟩ => ⟨S8x1x512, .f32⟩
  | .hbm, ⟨87, _⟩ => ⟨S8x1x512, .f32⟩
  | .hbm, ⟨88, _⟩ => ⟨S1x1024, .f32⟩
  | .hbm, ⟨89, _⟩ => ⟨S8x8x1x512, .f32⟩
  | .hbm, ⟨90, _⟩ => ⟨S8x8x1x512, .f32⟩
  | .hbm, ⟨91, _⟩ => ⟨S64x1024, .f32⟩
  | .hbm, ⟨92, _⟩ => ⟨S8x8x1x512, .f32⟩
  | .hbm, ⟨93, _⟩ => ⟨S8x8x1x512, .f32⟩
  | .hbm, ⟨94, _⟩ => ⟨S8x64x64, .f32⟩
  | .hbm, ⟨95, _⟩ => ⟨S8x64x64, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S8x128, .f32⟩
  | .local _ .vmem, ⟨10, _⟩ => ⟨S8x128, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x128, .f32⟩
  | .local _ .vmem, ⟨24, _⟩ => ⟨S1x128, .f32⟩
  | .local _ .vmem, ⟨25, _⟩ => ⟨S1x1x1x512, .f32⟩
  | .local _ .vmem, ⟨26, _⟩ => ⟨S1x1x1x512, .f32⟩
  | .local _ .vmem, ⟨27, _⟩ => ⟨S1x1x1x512, .f32⟩
  | .local _ .vmem, ⟨28, _⟩ => ⟨S1x1x1x512, .f32⟩
  | .local _ .vmem, ⟨29, _⟩ => ⟨S8x128, .f32⟩
  | .local _ .vmem, ⟨30, _⟩ => ⟨S8x128, .f32⟩
  | .local _ .vmem, ⟨31, _⟩ => ⟨S1x1x1x512, .f32⟩
  | .local _ .vmem, ⟨32, _⟩ => ⟨S1x1x1x512, .f32⟩
  | .local _ .vmem, ⟨33, _⟩ => ⟨S1x1x1x512, .f32⟩
  | .local _ .vmem, ⟨34, _⟩ => ⟨S1x1x1x512, .f32⟩
  | .local _ .vmem, ⟨35, _⟩ => ⟨S8x512, .f32⟩
  | .local _ .vmem, ⟨36, _⟩ => ⟨S8x512, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_2 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73_0 : Ref sig .tc := ⟨.hbm, 91, rfl⟩
abbrev main_v73_1 : Ref sig .tc := ⟨.hbm, 92, rfl⟩
abbrev main_v73_2 : Ref sig .tc := ⟨.hbm, 93, rfl⟩
abbrev main_v74 : Ref sig .tc := ⟨.hbm, 94, rfl⟩
abbrev main_v75 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_stg12_1 : Ref sig .tc := ⟨.vmem, 34, rfl⟩
abbrev cc1_scratch0 : Ref sig .tc := ⟨.vmem, 35, rfl⟩
abbrev cc1_scratch1 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc1_sem12_0 : DmaSem sig := 33
abbrev cc1_sem12_1 : DmaSem sig := 34

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![8, 8], ![false, false]⟩

def k1_mult1 : BitVec 32 :=
  let c0_i32 : BitVec 32 := 0#32
  let c8_i32 : BitVec 32 := 8#32
  let v29 : BitVec 32 := Scalar.muli c0_i32 c8_i32
  v29
def k1_off1 : Fin 2 → Nat :=
  let c0_i32 : BitVec 32 := 0#32
  let c8_i32 : BitVec 32 := 8#32
  let v29 : BitVec 32 := Scalar.muli c0_i32 c8_i32
  let v30 : BitVec 32 := v29
  let v31 : Index := Scalar.indexCast v30
  let c0_19 : Index := 0#32
  ![v31.toNat, 0]
def k1_mult2 : BitVec 32 :=
  let c0_i32 : BitVec 32 := 0#32
  let c8_i32_20 : BitVec 32 := 8#32
  let v34 : BitVec 32 := Scalar.muli c0_i32 c8_i32_20
  v34
def k1_mult3 : BitVec 32 :=
  let c0_i32 : BitVec 32 := 0#32
  let c8_i32_22 : BitVec 32 := 8#32
  let v39 : BitVec 32 := Scalar.muli c0_i32 c8_i32_22
  v39
def k1_mult4 : BitVec 32 :=
  let c0_i32 : BitVec 32 := 0#32
  let c8_i32_24 : BitVec 32 := 8#32
  let v45 : BitVec 32 := Scalar.muli c0_i32 c8_i32_24
  v45
def k1_mult5 : BitVec 32 :=
  let c0_i32_42 : BitVec 32 := 0#32
  let c8_i32_43 : BitVec 32 := 8#32
  let v151 : BitVec 32 := Scalar.muli c0_i32_42 c8_i32_43
  v151
def k1_mult6 : BitVec 32 :=
  let c0_i32_42 : BitVec 32 := 0#32
  let c8_i32_46 : BitVec 32 := 8#32
  let v160 : BitVec 32 := Scalar.muli c0_i32_42 c8_i32_46
  v160
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== StateRefIdeal.lean ====
abbrev S64x1024 : Shape := ⟨2, ![64, 1024]⟩
abbrev S8x64x64 : Shape := ⟨3, ![8, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S8x8x64x16 : Shape := ⟨4, ![8, 8, 64, 16]⟩
abbrev S64x1 : Shape := ⟨2, ![64, 1]⟩
abbrev S_ : Shape := ⟨0, ![]⟩
abbrev S64x64x1 : Shape := ⟨3, ![64, 64, 1]⟩
abbrev S64x64x8x8 : Shape := ⟨4, ![64, 64, 8, 8]⟩
abbrev S8x8x64x64 : Shape := ⟨4, ![8, 8, 64, 64]⟩
abbrev S8x1x64x64 : Shape := ⟨4, ![8, 1, 64, 64]⟩
abbrev S1x64x64 : Shape := ⟨3, ![1, 64, 64]⟩

abbrev nBuf : Space → Nat
  | .hbm => 217
  | .vmem => 0
  | .smem => 0
  | _ => 0

abbrev hbmTy0_0 (i : Nat) : BufTy := match i % 128 with
  | 0 => ⟨S64x1024, .f32⟩
  | 1 => ⟨S8x64x64, .f32⟩
  | 2 => ⟨S8x64x64, .f32⟩
  | 3 => ⟨S64x64, .f32⟩
  | 4 => ⟨S64x64, .f32⟩
  | 5 => ⟨S64, .f32⟩
  | 6 => ⟨S64x64x16, .f32⟩
  | 7 => ⟨S64x64x16, .f32⟩
  | 8 => ⟨S64x16x64, .f32⟩
  | 9 => ⟨S64x16x64, .f32⟩
  | 10 => ⟨S1024, .f32⟩
  | 11 => ⟨S8x8x64x16, .f32⟩
  | 12 => ⟨S64, .f32⟩
  | 13 => ⟨S64x1, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64x1, .f32⟩
  | 40 => ⟨S64x64x16, .f32⟩
  | 41 => ⟨S64x64x16, .f32⟩
  | 42 => ⟨S64x64x1, .f32⟩
  | 43 => ⟨S64x64x16, .f32⟩
  | 44 => ⟨S64x64x16, .f32⟩
  | 45 => ⟨S64x64x16, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S64x64x8x8, .f32⟩
  | 54 => ⟨S8x8x64x64, .f32⟩
  | 55 => ⟨S64x64x8x8, .f32⟩
  | 56 => ⟨S8x8x64x64, .f32⟩
  | 57 => ⟨S8x1x64x64, .f32⟩
  | 58 => ⟨S8x64x64, .f32⟩
  | 59 => ⟨S1x64x64, .f32⟩
  | 60 => ⟨S8x64x64, .f32⟩
  | 61 => ⟨S8x64x64, .f32⟩
  | 62 => ⟨S1x64x64, .f32⟩
  | 63 => ⟨S8x64x64, .f32⟩
  | 64 => ⟨S8x64x64, .f32⟩
  | 65 => ⟨S8x64x64, .f32⟩
  | 66 => ⟨S8x64x64, .f32⟩
  | 67 => ⟨S8x1x64x64, .f32⟩
  | 68 => ⟨S8x64x64, .f32⟩
  | 69 => ⟨S1x64x64, .f32⟩
  | 70 => ⟨S8x64x64, .f32⟩
  | 71 => ⟨S8x64x64, .f32⟩
  | 72 => ⟨S1x64x64, .f32⟩
  | 73 => ⟨S8x64x64, .f32⟩
  | 74 => ⟨S8x64x64, .f32⟩
  | 75 => ⟨S8x64x64, .f32⟩
  | 76 => ⟨S8x64x64, .f32⟩
  | 77 => ⟨S8x1x64x64, .f32⟩
  | 78 => ⟨S8x64x64, .f32⟩
  | 79 => ⟨S1x64x64, .f32⟩
  | 80 => ⟨S8x64x64, .f32⟩
  | 81 => ⟨S8x64x64, .f32⟩
  | 82 => ⟨S1x64x64, .f32⟩
  | 83 => ⟨S8x64x64, .f32⟩
  | 84 => ⟨S8x64x64, .f32⟩
  | 85 => ⟨S8x64x64, .f32⟩
  | 86 => ⟨S8x64x64, .f32⟩
  | 87 => ⟨S8x1x64x64, .f32⟩
  | 88 => ⟨S8x64x64, .f32⟩
  | 89 => ⟨S1x64x64, .f32⟩
  | 90 => ⟨S8x64x64, .f32⟩
  | 91 => ⟨S8x64x64, .f32⟩
  | 92 => ⟨S1x64x64, .f32⟩
  | 93 => ⟨S8x64x64, .f32⟩
  | 94 => ⟨S8x64x64, .f32⟩
  | 95 => ⟨S8x64x64, .f32⟩
  | 96 => ⟨S8x64x64, .f32⟩
  | 97 => ⟨S8x1x64x64, .f32⟩
  | 98 => ⟨S8x64x64, .f32⟩
  | 99 => ⟨S1x64x64, .f32⟩
  | 100 => ⟨S8x64x64, .f32⟩
  | 101 => ⟨S8x64x64, .f32⟩
  | 102 => ⟨S1x64x64, .f32⟩
  | 103 => ⟨S8x64x64, .f32⟩
  | 104 => ⟨S8x64x64, .f32⟩
  | 105 => ⟨S8x64x64, .f32⟩
  | 106 => ⟨S8x64x64, .f32⟩
  | 107 => ⟨S8x1x64x64, .f32⟩
  | 108 => ⟨S8x64x64, .f32⟩
  | 109 => ⟨S1x64x64, .f32⟩
  | 110 => ⟨S8x64x64, .f32⟩
  | 111 => ⟨S8x64x64, .f32⟩
  | 112 => ⟨S1x64x64, .f32⟩
  | 113 => ⟨S8x64x64, .f32⟩
  | 114 => ⟨S8x64x64, .f32⟩
  | 115 => ⟨S8x64x64, .f32⟩
  | 116 => ⟨S8x64x64, .f32⟩
  | 117 => ⟨S8x1x64x64, .f32⟩
  | 118 => ⟨S8x64x64, .f32⟩
  | 119 => ⟨S1x64x64, .f32⟩
  | 120 => ⟨S8x64x64, .f32⟩
  | 121 => ⟨S8x64x64, .f32⟩
  | 122 => ⟨S1x64x64, .f32⟩
  | 123 => ⟨S8x64x64, .f32⟩
  | 124 => ⟨S8x64x64, .f32⟩
  | 125 => ⟨S8x64x64, .f32⟩
  | 126 => ⟨S8x64x64, .f32⟩
  | 127 => ⟨S8x1x64x64, .f32⟩
  | _ => ⟨S64x1024, .f32⟩

abbrev hbmTy0_1 (i : Nat) : BufTy := match i % 128 with
  | 0 => ⟨S8x64x64, .f32⟩
  | 1 => ⟨S1x64x64, .f32⟩
  | 2 => ⟨S8x64x64, .f32⟩
  | 3 => ⟨S8x64x64, .f32⟩
  | 4 => ⟨S1x64x64, .f32⟩
  | 5 => ⟨S8x64x64, .f32⟩
  | 6 => ⟨S8x64x64, .f32⟩
  | 7 => ⟨S8x64x64, .f32⟩
  | 8 => ⟨S8x64x64, .f32⟩
  | 9 => ⟨S8x1x64x64, .f32⟩
  | 10 => ⟨S8x64x64, .f32⟩
  | 11 => ⟨S1x64x64, .f32⟩
  | 12 => ⟨S8x64x64, .f32⟩
  | 13 => ⟨S8x64x64, .f32⟩
  | 14 => ⟨S1x64x64, .f32⟩
  | 15 => ⟨S8x64x64, .f32⟩
  | 16 => ⟨S8x64x64, .f32⟩
  | 17 => ⟨S8x64x64, .f32⟩
  | 18 => ⟨S8x64x64, .f32⟩
  | 19 => ⟨S8x1x64x64, .f32⟩
  | 20 => ⟨S8x64x64, .f32⟩
  | 21 => ⟨S1x64x64, .f32⟩
  | 22 => ⟨S8x64x64, .f32⟩
  | 23 => ⟨S8x64x64, .f32⟩
  | 24 => ⟨S1x64x64, .f32⟩
  | 25 => ⟨S8x64x64, .f32⟩
  | 26 => ⟨S8x64x64, .f32⟩
  | 27 => ⟨S8x64x64, .f32⟩
  | 28 => ⟨S8x64x64, .f32⟩
  | 29 => ⟨S8x1x64x64, .f32⟩
  | 30 => ⟨S8x64x64, .f32⟩
  | 31 => ⟨S1x64x64, .f32⟩
  | 32 => ⟨S8x64x64, .f32⟩
  | 33 => ⟨S8x64x64, .f32⟩
  | 34 => ⟨S1x64x64, .f32⟩
  | 35 => ⟨S8x64x64, .f32⟩
  | 36 => ⟨S8x64x64, .f32⟩
  | 37 => ⟨S8x64x64, .f32⟩
  | 38 => ⟨S8x64x64, .f32⟩
  | 39 => ⟨S8x1x64x64, .f32⟩
  | 40 => ⟨S8x64x64, .f32⟩
  | 41 => ⟨S1x64x64, .f32⟩
  | 42 => ⟨S8x64x64, .f32⟩
  | 43 => ⟨S8x64x64, .f32⟩
  | 44 => ⟨S1x64x64, .f32⟩
  | 45 => ⟨S8x64x64, .f32⟩
  | 46 => ⟨S8x64x64, .f32⟩
  | 47 => ⟨S8x64x64, .f32⟩
  | 48 => ⟨S8x64x64, .f32⟩
  | 49 => ⟨S8x1x64x64, .f32⟩
  | 50 => ⟨S8x64x64, .f32⟩
  | 51 => ⟨S1x64x64, .f32⟩
  | 52 => ⟨S8x64x64, .f32⟩
  | 53 => ⟨S8x64x64, .f32⟩
  | 54 => ⟨S1x64x64, .f32⟩
  | 55 => ⟨S8x64x64, .f32⟩
  | 56 => ⟨S8x64x64, .f32⟩
  | 57 => ⟨S8x64x64, .f32⟩
  | 58 => ⟨S8x64x64, .f32⟩
  | 59 => ⟨S8x1x64x64, .f32⟩
  | 60 => ⟨S8x64x64, .f32⟩
  | 61 => ⟨S1x64x64, .f32⟩
  | 62 => ⟨S8x64x64, .f32⟩
  | 63 => ⟨S8x64x64, .f32⟩
  | 64 => ⟨S1x64x64, .f32⟩
  | 65 => ⟨S8x64x64, .f32⟩
  | 66 => ⟨S8x64x64, .f32⟩
  | 67 => ⟨S8x64x64, .f32⟩
  | 68 => ⟨S8x64x64, .f32⟩
  | 69 => ⟨S8x1x64x64, .f32⟩
  | 70 => ⟨S8x64x64, .f32⟩
  | 71 => ⟨S1x64x64, .f32⟩
  | 72 => ⟨S8x64x64, .f32⟩
  | 73 => ⟨S8x64x64, .f32⟩
  | 74 => ⟨S1x64x64, .f32⟩
  | 75 => ⟨S8x64x64, .f32⟩
  | 76 => ⟨S8x64x64, .f32⟩
  | 77 => ⟨S8x64x64, .f32⟩
  | 78 => ⟨S8x64x64, .f32⟩
  | 79 => ⟨S8x1x64x64, .f32⟩
  | 80 => ⟨S8x64x64, .f32⟩
  | 81 => ⟨S1x64x64, .f32⟩
  | 82 => ⟨S8x64x64, .f32⟩
  | 83 => ⟨S8x64x64, .f32⟩
  | 84 => ⟨S1x64x64, .f32⟩
  | 85 => ⟨S8x64x64, .f32⟩
  | 86 => ⟨S8x64x64, .f32⟩
  | 87 => ⟨S8x64x64, .f32⟩
  | 88 => ⟨S8x64x64, .f32⟩
  | _ => ⟨S64x1024, .f32⟩

abbrev hbmTy (i : Nat) : BufTy := match i / 128 with
  | 0 => hbmTy0_0 i
  | 1 => hbmTy0_1 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩

abbrev nD : Nat := 1
abbrev τ : Topo := Topo.v7x

variable {F : FTy → Type} [FloatOps F]
-- ==== Proof.IdxVal.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Claim

/-! The causal indexer scores of the prompt, as the tiled program leaves them. -/

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

/-- The reference's result as a function of the two arguments. -/
abbrev REF (Q : FVec Ideal S8192x4096 .bf16) (R : FVec Ideal S8192x1280 .f32) : FVec Ideal S8192x2048 .f32 :=
  Cert.ReferenceIdeal.Read.val_main_v21 (F := Ideal) Q R

/-- The combined scale `1 / 64`, as the program writes it. -/
abbrev scale : EReal := Ideal.ofBits .f32 0x3C800000#32

theorem scale_eq : scale = ((1 / 64 : ℝ) : EReal) := by
  simp [scale, Ideal.ofBits, Ideal.ieee, -EReal.coe_mul]; norm_num

/-- The window maps over the grid `(b, i, j)` with `b = t / 64`, `i = t / 8 % 8`, `j = t % 8`. -/
theorem idx : ∀ t : Fin cfg0.N, win0_0.index t = ![t.val / 64 * 8 + t.val / 8 % 8, 0]
    ∧ win0_1.index t = ![t.val / 64 * 8 + min (t.val % 8) (t.val / 8 % 8), 8]
    ∧ win0_2.index t = ![t.val / 64 * 8 + t.val / 8 % 8, 9]
    ∧ win0_3.index t = ![t.val / 64 * 8 + t.val / 8 % 8, t.val % 8] :=
  (by decide +kernel : ∀ t : Fin grid0.N, _)

theorem coord1 : ∀ t : Fin cfg0.N, (grid0.coords t 1).val = t.val / 8 % 8 := (by decide +kernel : ∀ t : Fin grid0.N, _)
theorem coord2 : ∀ t : Fin cfg0.N, (grid0.coords t 2).val = t.val % 8 := (by decide +kernel : ∀ t : Fin grid0.N, _)

/-! ## One block of scores -/

/-- One head's weighted score over a block: the rectified product of queries and keys times the scaled head weight. -/
def head (q : FVec Ideal S256x128 .bf16) (k w : FVec Ideal S256x128 .f32) (h : Fin 128) (y : S256x256.Idx) : EReal :=
  max (∑ d : Fin 128, (q (ix2 (y 0) d) * k (ix2 (y 1) d) : EReal)) 0 * (w (ix2 (y 0) h) * scale : EReal)

theorem pay4 (k w : FVec Ideal S256x128 .f32) (q0 q1 q2 q3 : FVec Ideal S256x128 .bf16) (y : S256x256.Idx) :
    k0_pay4 (F := Ideal) k w q0 q1 q2 q3 y = (0 : EReal) + head q0 k w 0 y + head q1 k w 1 y + head q2 k w 2 y + head q3 k w 3 y := by
  pointwise [k0_pay4, k0_pay3, k0_pay2, head]

theorem pay5 (k w : FVec Ideal S256x128 .f32) (acc : FVec Ideal S256x256 .f32) (q0 q1 q2 q3 q4 : FVec Ideal S256x128 .bf16)
    (y : S256x256.Idx) : k0_pay5 (k0_pay2 k) (k0_pay3 w) acc q0 q1 q2 q3 q4 y
      = acc y + head q0 k w 4 y + head q1 k w 5 y + head q2 k w 6 y + head q3 k w 7 y + head q4 k w 8 y := by
  pointwise [k0_pay5, k0_pay3, k0_pay2, head]

theorem pay6 (k w : FVec Ideal S256x128 .f32) (acc : FVec Ideal S256x256 .f32) (q0 q1 q2 q3 q4 : FVec Ideal S256x128 .bf16)
    (y : S256x256.Idx) : k0_pay6 (k0_pay2 k) (k0_pay3 w) acc q0 q1 q2 q3 q4 y
      = acc y + head q0 k w 9 y + head q1 k w 10 y + head q2 k w 11 y + head q3 k w 12 y + head q4 k w 13 y := by
  pointwise [k0_pay6, k0_pay3, k0_pay2, head]

theorem pay7 (k w : FVec Ideal S256x128 .f32) (acc : FVec Ideal S256x256 .f32) (q0 q1 q2 q3 q4 : FVec Ideal S256x128 .bf16)
    (y : S256x256.Idx) : k0_pay7 (k0_pay2 k) (k0_pay3 w) acc q0 q1 q2 q3 q4 y
      = acc y + head q0 k w 14 y + head q1 k w 15 y + head q2 k w 16 y + head q3 k w 17 y + head q4 k w 18 y := by
  pointwise [k0_pay7, k0_pay3, k0_pay2, head]

theorem pay8 (k w : FVec Ideal S256x128 .f32) (acc : FVec Ideal S256x256 .f32) (q0 q1 q2 q3 q4 : FVec Ideal S256x128 .bf16)
    (y : S256x256.Idx) : k0_pay8 (k0_pay2 k) (k0_pay3 w) acc q0 q1 q2 q3 q4 y
      = acc y + head q0 k w 19 y + head q1 k w 20 y + head q2 k w 21 y + head q3 k w 22 y + head q4 k w 23 y := by
  pointwise [k0_pay8, k0_pay3, k0_pay2, head]

theorem pay9 (k w : FVec Ideal S256x128 .f32) (acc : FVec Ideal S256x256 .f32) (q0 q1 q2 q3 q4 : FVec Ideal S256x128 .bf16)
    (y : S256x256.Idx) : k0_pay9 (k0_pay2 k) (k0_pay3 w) acc q0 q1 q2 q3 q4 y
      = acc y + head q0 k w 24 y + head q1 k w 25 y + head q2 k w 26 y + head q3 k w 27 y + head q4 k w 28 y := by
  pointwise [k0_pay9, k0_pay3, k0_pay2, head]

theorem pay10 (a1 a2 : BitVec 32) (k w : FVec Ideal S256x128 .f32) (acc : FVec Ideal S256x256 .f32)
    (q0 q1 q2 : FVec Ideal S256x128 .bf16) (y : S256x256.Idx) : k0_pay10 a1 a2 (k0_pay2 k) (k0_pay3 w) acc q0 q1 q2 y
      = Scalar.select (IntOp.cmpi .sle (IntOp.addi (BitVec.ofNat 32 (y 1).val) (Scalar.muli a2 256#32))
          (IntOp.addi (BitVec.ofNat 32 (y 0).val) (Scalar.muli a1 256#32)))
        (acc y + head q0 k w 29 y + head q1 k w 30 y + head q2 k w 31 y : EReal) (Ideal.ofBits .f32 0xFF800000#32) := by
  pointwise [k0_pay10, k0_pay3, k0_pay2, head]

/-- Head `h` over the whole query block: its queries are the block's columns `128 h … 128 h + 127`. -/
def headAt (x : FVec Ideal S256x4096 .bf16) (k w : FVec Ideal S256x128 .f32) (h : Fin 32) (y : S256x256.Idx) : EReal :=
  max (∑ d : Fin 128, (x (ix2 (y 0) ⟨h.val * 128 + d.val, by omega⟩) * k (ix2 (y 1) d) : EReal)) 0
    * (w (ix2 (y 0) ⟨h.val, by omega⟩) * scale : EReal)

theorem head_ld (x : FVec Ideal S256x4096 .bf16) (k w : FVec Ideal S256x128 .f32) (h : Fin 128) (o : ℕ)
    (inb : ∀ a, (![0, o] : Fin 2 → ℕ) a + (![256, 128] : Fin 2 → ℕ) a ≤ S256x4096.size a) (hh : h.val < 32)
    (ho : o = h.val * 128) (y : S256x256.Idx) :
    head (View.ld (Val := Elt Ideal) (S := S256x4096) (e' := .bf16) x (Rect.unit ![0, o] ![256, 128] inb)) k w h y
      = headAt x k w ⟨h.val, hh⟩ y := by
  subst ho
  unfold head headAt
  congr 2
  refine Finset.sum_congr rfl fun d _ => ?_
  refine congrArg (· * _) ?_
  refine View.ld_unit_apply_of (Val := Elt Ideal) (e := .bf16) x _ _ inb _ _ fun a => ?_
  match a with
  | 0 => exact (Nat.zero_add _).symm
  | 1 => rfl

/-- A sum over the 32 heads, written out. -/
theorem sum32 (f : Fin 32 → EReal) : ∑ h : Fin 32, f h =
    0 + f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 + f 31 := by
  simp only [Fin.sum_univ_castSucc, Fin.sum_univ_zero]
  rfl

/-- The causal test of two positions, as a bit. -/
theorem causal (a b y0 y1 : ℕ) (ha : a < 8) (hb : b < 8) (h0 : y0 < 256) (h1 : y1 < 256) :
    IntOp.cmpi .sle (IntOp.addi (BitVec.ofNat 32 y1) (Scalar.muli (BitVec.ofNat 32 b) 256#32))
        (IntOp.addi (BitVec.ofNat 32 y0) (Scalar.muli (BitVec.ofNat 32 a) 256#32))
      = BitVec.ofBool (decide (b * 256 + y1 ≤ a * 256 + y0)) := by
  have e (u v : ℕ) : IntOp.addi (BitVec.ofNat 32 u) (Scalar.muli (BitVec.ofNat 32 v) 256#32) = BitVec.ofNat 32 (v * 256 + u) := by
    show BitVec.ofNat 32 u + BitVec.ofNat 32 v * BitVec.ofNat 32 256 = _
    rw [← BitVec.ofNat_mul, ← BitVec.ofNat_add, Nat.add_comm]
  rw [e, e, WordCmp.cmpi_sle_ofNat (by omega) (by omega)]

/-- A block on or below the diagonal: the causal entries hold the 32 heads' sum, the others `-∞`. -/
theorem outsA (c : Dev nD) (t : Fin cfg0.N) (h0 : ¬t.val / 8 % 8 + 1 ≤ t.val % 8) (h1 : t.val % 8 ≤ t.val / 8 % 8)
    (y : S256x256.Idx) : outsAt0 m c t.val t.isLt y
      = if t.val % 8 * 256 + (y 1).val ≤ t.val / 8 % 8 * 256 + (y 0).val
        then ∑ h : Fin 32, headAt (iblk m c 0 t) (iblk m c 1 t) (iblk m c 2 t) h y else Ideal.ofBits .f32 0xFF800000#32 := by
  rw [outsAt0_A m c t h0 h1]
  frame_out
  rw [pay10, coord1, coord2, causal _ _ _ _ (by omega) (by omega) (y 0).isLt (y 1).isLt, WordCmp.select_ofBool, pay9, pay8, pay7, pay6, pay5, pay4, sum32]
  simp only [decide_eq_true_eq]
  refine if_congr Iff.rfl ?_ rfl
  simp (disch := decide) only [head_ld]
  rfl

/-- A block above the diagonal holds `-∞`. -/
theorem outsB (c : Dev nD) (t : Fin cfg0.N) (h0 : t.val / 8 % 8 + 1 ≤ t.val % 8) (h1 : ¬t.val % 8 ≤ t.val / 8 % 8)
    (y : S256x256.Idx) : outsAt0 m c t.val t.isLt y = Ideal.ofBits .f32 0xFF800000#32 := by
  rw [outsAt0_B m c t h0 h1]
  frame_out
  rfl

/-! ## The reference at an index -/

/-- Head `h` of the reference's sum at `(row, position)`, with the two scales multiplied together. -/
def refHead (Q : FVec Ideal S8192x4096 .bf16) (R : FVec Ideal S8192x1280 .f32) (i : S8192x2048.Idx) (h : Fin 32) : EReal :=
  max (∑ d : Fin 128, (Q (ix2 (i 0) ⟨h.val * 128 + d.val, by omega⟩)
      * R (ix2 ⟨(i 0).val / 2048 * 2048 + (i 1).val, by
          have h0 : (i 0).val < 8192 := (i 0).isLt
          have h1 : (i 1).val < 2048 := (i 1).isLt
          omega⟩ ⟨1024 + d.val, by omega⟩) : EReal)) 0
    * (R (ix2 (i 0) ⟨1152 + h.val, by omega⟩) * scale : EReal)

/-- Dividing a product by `√128` before rectifying and its weight by `√32` is scaling the weight by `1 / 64`. -/
theorem scales (s w : EReal) :
    max (Ideal.div s (Ideal.sqrt (Ideal.ofBits .f32 0x43000000#32))) 0 * Ideal.div w (Ideal.sqrt (Ideal.ofBits .f32 0x42000000#32))
      = max s 0 * (w * scale) := by
  have e1 : Ideal.ofBits .f32 0x43000000#32 = ((128 : ℝ) : EReal) := by
    simp [Ideal.ofBits, Ideal.ieee, -EReal.coe_mul]; norm_num
  have e2 : Ideal.ofBits .f32 0x42000000#32 = ((32 : ℝ) : EReal) := by
    simp [Ideal.ofBits, Ideal.ieee, -EReal.coe_mul]; norm_num
  have p1 : 0 < Real.sqrt 128 := Real.sqrt_pos.mpr (by norm_num)
  have p2 : 0 < Real.sqrt 32 := Real.sqrt_pos.mpr (by norm_num)
  rw [e1, e2, Ideal.sqrt_coe, Ideal.sqrt_coe, if_neg (by norm_num), if_neg (by norm_num), Ideal.div_coe p1.ne', Ideal.div_coe p2.ne', scale_eq]
  have hm : max (s * ((1 / Real.sqrt 128 : ℝ) : EReal)) 0 = max s 0 * ((1 / Real.sqrt 128 : ℝ) : EReal) := by
    have hc : (0 : EReal) ≤ ((1 / Real.sqrt 128 : ℝ) : EReal) := by exact_mod_cast (by positivity : (0 : ℝ) ≤ 1 / Real.sqrt 128)
    rcases le_total s 0 with hs | hs
    · have : s * ((1 / Real.sqrt 128 : ℝ) : EReal) ≤ 0 := by
        have := mul_le_mul_of_nonneg_right hs hc
        rwa [zero_mul] at this
      rw [max_eq_right this, max_eq_right hs, zero_mul]
    · rw [max_eq_left (mul_nonneg hs hc), max_eq_left hs]
  have hp : ((1 / Real.sqrt 128 : ℝ) : EReal) * ((1 / Real.sqrt 32 : ℝ) : EReal) = ((1 / 64 : ℝ) : EReal) := by
    rw [← EReal.coe_mul]
    congr 1
    rw [one_div_mul_one_div, ← Real.sqrt_mul (by norm_num), show (128 * 32 : ℝ) = 64 ^ 2 by norm_num, Real.sqrt_sq (by norm_num)]
  rw [hm, ← hp]
  simp only [mul_assoc, mul_comm, mul_left_comm]

theorem ref_eq (Q : FVec Ideal S8192x4096 .bf16) (R : FVec Ideal S8192x1280 .f32) (i : S8192x2048.Idx) :
    REF Q R i = if (i 1).val ≤ (i 0).val % 2048 then ∑ h : Fin 32, refHead Q R i h else Ideal.ofBits .f32 0xFF800000#32 := by
  have h0 : (i 0).val < 8192 := (i 0).isLt
  have h1 : (i 1).val < 2048 := (i 1).isLt
  simp only [REF, Cert.ReferenceIdeal.Read.val_main_v21_apply, Cert.ReferenceIdeal.Read.val_main_v20_apply,
    Cert.ReferenceIdeal.Read.val_main_call1_v1_apply, Cert.ReferenceIdeal.Read.val_main_v19_apply, Cert.ReferenceIdeal.Read.val_main_v18_apply,
    Cert.ReferenceIdeal.Read.val_main_v17_apply, Cert.ReferenceIdeal.Read.val_main_v16_apply, Cert.ReferenceIdeal.Read.val_main_v15_apply,
    Cert.ReferenceIdeal.Read.val_main_v14_apply, Cert.ReferenceIdeal.Read.val_main_call1_v2_apply, Cert.ReferenceIdeal.Read.val_main_call1_v0_apply,
    Cert.ReferenceIdeal.Read.val_main_cst_1_apply, Cert.ReferenceIdeal.Read.val_main_v13_apply]
  have ea : ((i 0).val * 2048 + (i 1).val) % 2048 = (i 1).val := by omega
  have eb : ((i 0).val * 2048 + (i 1).val) / 2048 % 2048 = (i 0).val % 2048 := by omega
  rw [ea, eb, WordCmp.cmpi_sle_ofNat (by omega) (by omega), WordCmp.select_ofBool]
  simp only [decide_eq_true_eq]
  refine if_congr Iff.rfl (Finset.sum_congr rfl fun h _ => ?_) rfl
  have hh := h.isLt
  simp only [Cert.ReferenceIdeal.Read.val_main_v12_apply, Cert.ReferenceIdeal.Read.val_main_v11_apply, Cert.ReferenceIdeal.Read.val_main_v10_apply,
    Cert.ReferenceIdeal.Read.val_main_v9_apply, Cert.ReferenceIdeal.Read.val_main_v8_apply, Cert.ReferenceIdeal.Read.val_main_v7_apply,
    Cert.ReferenceIdeal.Read.val_main_v6_apply, Cert.ReferenceIdeal.Read.val_main_v5_apply, Cert.ReferenceIdeal.Read.val_main_v4_apply,
    Cert.ReferenceIdeal.Read.val_main_v3_apply, Cert.ReferenceIdeal.Read.val_main_v2_apply, Cert.ReferenceIdeal.Read.val_main_v1_apply,
    Cert.ReferenceIdeal.Read.val_main_v0_apply, Cert.ReferenceIdeal.Read.val_main_cst_apply, Cert.ReferenceIdeal.Read.val_main_cst_0_apply,
    Cert.ReferenceIdeal.Read.val_main_call0_v0_apply, Cert.ReferenceIdeal.Read.val_main_call0_cst_apply]
  have hz : (FloatOps.ofBits (F := Ideal) .f32 0x00000000#32 : EReal) = 0 := by
    show Ideal.ofBits .f32 0x00000000#32 = 0
    simp [Ideal.ofBits, Ideal.ieee]
  rw [hz]
  refine (scales _ _).trans ?_
  unfold refHead
  refine congrArg₂ (fun a b : EReal => max a 0 * (b * scale)) (Finset.sum_congr rfl fun d _ => ?_) (congrArg R ?_)
  · have hd := d.isLt
    refine congrArg₂ (fun a b : EReal => a * b) (congrArg Q ?_) (congrArg R ?_)
    · refine funext fun a => Fin.ext ?_
      match a with
      | 0 => simp; omega
      | 1 => simp; omega
    · refine funext fun a => Fin.ext ?_
      match a with
      | 0 => simp; omega
      | 1 => simp; omega
  · refine funext fun a => Fin.ext ?_
    match a with
    | 0 => simp; omega
    | 1 => simp; omega

/-! ## The whole array -/

/-- A block's head, read off the argument arrays: on or below the diagonal it is the reference's. -/
theorem head_eq (c : Dev nD) (t : Fin cfg0.N) (h1 : t.val % 8 ≤ t.val / 8 % 8) (h : Fin 32) (y : S256x256.Idx) :
    headAt (iblk m c 0 t) (iblk m c 1 t) (iblk m c 2 t) h y
      = refHead (m ((c : Thread nD τ).loc main_arg0)) (m ((c : Thread nD τ).loc main_arg1)) (((cfg0.win 3).blk t).view.emb y) h := by
  have hm : min (t.val % 8) (t.val / 8 % 8) = t.val % 8 := min_eq_left h1
  have ht := t.isLt
  unfold headAt refHead
  blk_point [iblk, V, idx t, hm]

/-- The final output array is the reference's function of the argument arrays. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  have ht : t.val < 256 := t.isLt
  have y0 : (y 0).val < 256 := (y 0).isLt
  have y1 : (y 1).val < 256 := (y 1).isLt
  blk_simp
  have e0 : ((((cfg0.win 3).blk t).view.emb y : S8192x2048.Idx) 0).val = (t.val / 64 * 8 + t.val / 8 % 8) * 256 + (y 0).val := by
    blk_simp
    simp [idx t]
  have e1 : ((((cfg0.win 3).blk t).view.emb y : S8192x2048.Idx) 1).val = t.val % 8 * 256 + (y 1).val := by
    blk_simp
    simp [idx t]
  rw [ref_eq, e0, e1]
  by_cases h1 : t.val % 8 ≤ t.val / 8 % 8
  · refine (outsA m c t (by omega) h1 y).trans ?_
    refine if_congr (by omega) (Finset.sum_congr rfl fun h _ => head_eq m c t h1 h y) rfl
  · refine (outsB m c t (by omega) h1 y).trans ?_
    rw [if_neg (by omega)]

end Cert.KernelIdeal.Val
-- ==== Proof.UpVal.lean ====
/- The SwiGLU up-projection: the array after the launch is the reference's term. -/
module

public import proofs.«01_k».proof.Defs
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Val
open Cert.UpIdeal Cert.UpIdeal.Gen

variable (m : (ℓ : Loc nD τ sig) → Buf (Elt Ideal) ℓ)

/-- The reference's result as a function of the three arguments. -/
abbrev REF (A : FVec Ideal S8192x4096 .bf16) (W1 W3 : FVec Ideal S4096x11008 .f32) : FVec Ideal S8192x11008 .bf16 :=
  Cert.UpRefIdeal.Read.val_main_v5 (F := Ideal) A W1 W3

/-- Every window's block index at a grid point. -/
theorem idx : ∀ t : Fin cfg0.N, win0_0.index t = ![t.val / 43, 0] ∧ win0_1.index t = ![0, t.val % 43]
    ∧ win0_2.index t = ![0, t.val % 43] ∧ win0_3.index t = ![t.val / 43, t.val % 43] :=
  (by decide +kernel : ∀ t : Fin grid0.N, _)

/-- What a point stores at a place of its block is the reference's value at the array index of that place. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF, Cert.UpRefIdeal.Read.val_main_v5, Cert.UpRefIdeal.Read.val_main_v4, Cert.UpRefIdeal.Read.val_main_v3, Cert.UpRefIdeal.Read.val_main_v2,
    Cert.UpRefIdeal.Read.val_main_v1, Cert.UpRefIdeal.Read.val_main_v0, Cert.UpRefIdeal.Read.val_main_call0_v0, Cert.UpRefIdeal.Read.val_main_call0_v1, Cert.UpRefIdeal.Read.val_main_call0_v2, Cert.UpRefIdeal.Read.val_main_call0_v3,
    Cert.UpRefIdeal.Read.val_main_call0_v4, Cert.UpRefIdeal.Read.val_main_call0_v5, Cert.UpRefIdeal.Read.val_main_call0_cst, Cert.UpRefIdeal.Read.val_main_call0_cst_0]
  unfold Ideal.logistic
  blk_point [iblk, V, idx t]

/-- The array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.UpIdeal.Val
-- ==== Proof.DownVal.lean ====
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim

/-! The down projection: the residual plus half the product with the down weights, as the tiled program leaves it. -/

@[expose] public section

set_option maxRecDepth 16384

noncomputable section

open Idealize.ShloMosaic Idealize.ShloMosaic.TcCoe Idealize.SL.Sem
open Idealize.ShloMosaic.Pipeline (Dat)

namespace Cert.DownIdeal.Val

open Cert.DownIdeal Cert.DownIdeal.Gen

variable (m : (ℓ : Loc nD τ sig) → Buf (Elt Ideal) ℓ)

/-- The reference's result as a function of the three arguments. -/
abbrev REF (A : FVec Ideal S8192x11008 .bf16) (W : FVec Ideal S11008x4096 .f32)
    (X : FVec Ideal S8192x4096 .f32) : FVec Ideal S8192x4096 .f32 :=
  Cert.DownRefIdeal.Read.val_main_v4 (F := Ideal) A W X

/-- One half, as the programs write it. -/
abbrev half : EReal := Ideal.ofBits .f32 0x3F000000#32

theorem half_eq : half = ((1 / 2 : ℝ) : EReal) := by
  simp [half, Ideal.ofBits, Ideal.ieee, -EReal.coe_mul]; norm_num

/-- Half of a finite sum is the sum of the halves. -/
theorem half_mul_sum {ι : Type*} (s : Finset ι) (f : ι → EReal) : half * ∑ i ∈ s, f i = ∑ i ∈ s, half * f i := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih =>
    rw [Finset.sum_insert ha, Finset.sum_insert ha, ← ih, EReal.left_distrib_of_nonneg_of_ne_top h0 h1]

/-- The window maps over the grid `(i, j, k)` with `i = t / 172`, `j = t / 43 % 4`, `k = t % 43`. -/
theorem idx : ∀ t : Fin cfg0.N, win0_0.index t = ![t.val / 172, t.val % 43]
    ∧ win0_1.index t = ![t.val % 43, t.val / 43 % 4]
    ∧ win0_2.index t = ![t.val / 172, t.val / 43 % 4]
    ∧ win0_3.index t = ![t.val / 172, t.val / 43 % 4] :=
  (by decide +kernel : ∀ t : Fin grid0.N, _)

/-- Half the product of two blocks at an index. -/
def prod (a : FVec Ideal S2048x256 .bf16) (w : FVec Ideal S256x1024 .f32) (y : S2048x1024.Idx) : EReal :=
  half * ∑ k : Fin 256, (a (ix2 (y 0) k) * w (ix2 k (y 1)) : EReal)

/-- One step of the body: the running block plus half the block product. -/
theorem hpay (acc : FVec Ideal S2048x1024 .f32) (a : FVec Ideal S2048x256 .bf16) (w : FVec Ideal S256x1024 .f32)
    (y : S2048x1024.Idx) : k0_pay1 acc a w y = acc y + prod a w y := by
  unfold prod
  pointwise [k0_pay1]

/-- Half the block product that grid point `n` adds. -/
def part (c : Dev nD) (n : ℕ) (y : S2048x1024.Idx) : EReal :=
  if h : n < cfg0.N then prod (iblk m c 0 ⟨n, h⟩) (iblk m c 1 ⟨n, h⟩) y else 0

/-- One term of half the whole product. -/
def term (A : FVec Ideal S8192x11008 .bf16) (W : FVec Ideal S11008x4096 .f32) (i : S8192x4096.Idx) (k : Fin 11008) : EReal :=
  half * (A (ix2 (i 0) k) * W (ix2 k (i 1)) : EReal)

/-- The residual block of a grid point, at an index. -/
def base (c : Dev nD) (t : Fin cfg0.N) (y : S2048x1024.Idx) : EReal :=
  (show FVec Ideal S2048x1024 .f32 from iblk m c 2 t) y

theorem flush_run (t : Fin cfg0.N) (ht : t.val % 43 = 42) : 43 * (t.val / 43) + 42 < cfg0.N := by
  have := t.isLt; omega

/-- At a flushing point the output block is the residual block plus the run's 43 half products. -/
theorem outs (c : Dev nD) (t : Fin cfg0.N) (ht : t.val % 43 = 42) (y : S2048x1024.Idx) :
    outsAt0 m c t.val t.isLt y
      = base m c ⟨43 * (t.val / 43), Nat.lt_of_le_of_lt (Nat.le_add_right _ _) (flush_run t ht)⟩ y
        + ∑ s ∈ Finset.range 43, part m c (43 * (t.val / 43) + s) y := by
  rw [Cert.DownIdeal.Value.outsAt_3_eq]
  have hb := flush_run t ht
  have key := Pipeline.accAt_add_apply (β := EReal) (Cert.DownIdeal.Value.reset3 m c) (Cert.DownIdeal.Value.step3 m c)
    (base m c ⟨43 * (t.val / 43), Nat.lt_of_le_of_lt (Nat.le_add_right _ _) hb⟩)
    (part m c) (43 * (t.val / 43)) 42
    (fun h i => by
      unfold Cert.DownIdeal.Value.reset3 part
      rw [dif_pos h]
      exact hpay _ _ _ i)
    (fun n h acc i _ _ => by
      unfold Cert.DownIdeal.Value.step3 part
      rw [dif_pos h]
      exact hpay _ _ _ i) 42 le_rfl hb y
  have cast : ∀ (j : ℕ) (hj : 43 * (t.val / 43) + j < cfg0.N), j = 42 →
      Pipeline.accAt (Cert.DownIdeal.Value.reset3 m c) (Cert.DownIdeal.Value.step3 m c) (43 * (t.val / 43)) j hj y
        = base m c ⟨43 * (t.val / 43), Nat.lt_of_le_of_lt (Nat.le_add_right _ _) hb⟩ y
          + ∑ s ∈ Finset.range 43, part m c (43 * (t.val / 43) + s) y := by
    intro j hj h
    subst h
    exact key
  exact cast _ _ ht

/-- The reference at an index. -/
theorem ref_eq (A : FVec Ideal S8192x11008 .bf16) (W : FVec Ideal S11008x4096 .f32) (X : FVec Ideal S8192x4096 .f32)
    (i : S8192x4096.Idx) : REF A W X i = (X i + ∑ k : Fin 11008, term A W i k : EReal) := by
  unfold term
  rw [← half_mul_sum]
  pointwise [REF, Cert.DownRefIdeal.Read.val_main_v4, Cert.DownRefIdeal.Read.val_main_v3, Cert.DownRefIdeal.Read.val_main_v2,
    Cert.DownRefIdeal.Read.val_main_v1, Cert.DownRefIdeal.Read.val_main_v0, Cert.DownRefIdeal.Read.val_main_cst]

/-- The residual block, read off the argument array. -/
theorem base_eq (c : Dev nD) (t : Fin cfg0.N) (ht : t.val % 43 = 42) (y : S2048x1024.Idx) :
    base m c ⟨43 * (t.val / 43), Nat.lt_of_le_of_lt (Nat.le_add_right _ _) (flush_run t ht)⟩ y
      = m ((c : Thread nD τ).loc main_arg2) (((cfg0.win 3).blk t).view.emb y) := by
  have hb := flush_run t ht
  unfold base
  blk_point [iblk, V, idx t, idx ⟨43 * (t.val / 43), Nat.lt_of_le_of_lt (Nat.le_add_right _ _) hb⟩]

/-- A grid point's part, read off the argument arrays. -/
theorem part_eq (c : Dev nD) (t : Fin cfg0.N) (ht : t.val % 43 = 42) (s : Fin 43) (y : S2048x1024.Idx) :
    part m c (43 * (t.val / 43) + s.val) y
      = ∑ k : Fin 256, term (m ((c : Thread nD τ).loc main_arg0)) (m ((c : Thread nD τ).loc main_arg1))
          (((cfg0.win 3).blk t).view.emb y) ⟨s.val * 256 + k.val, by omega⟩ := by
  have hb := flush_run t ht
  have hs : 43 * (t.val / 43) + s.val < cfg0.N := by omega
  unfold part
  rw [dif_pos hs]
  unfold prod term
  rw [half_mul_sum]
  refine Finset.sum_congr rfl fun k _ => ?_
  blk_point [iblk, V, idx t, idx ⟨43 * (t.val / 43) + s.val, hs⟩]

/-- The final output array is the reference's function of the argument arrays. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 43 = 42 := (flush0_3 t).mp hf
  blk_simp
  refine (outs m c t ht y).trans ?_
  rw [ref_eq, base_eq m c t ht y]
  refine congrArg (HAdd.hAdd (α := EReal) (m ((c : Thread nD τ).loc main_arg2) (((cfg0.win 3).blk t).view.emb y))) ?_
  rw [← Fin.sum_univ_eq_sum_range (fun s => part m c (43 * (t.val / 43) + s) y) 43]
  refine (Finset.sum_congr rfl fun s _ => part_eq m c t ht s y).trans ?_
  exact Fin.sum_mul_add_congr fun s k hl => rfl

end Cert.DownIdeal.Val
-- ==== Proof.Stages.lean ====
module

public import Idealize.ShloMosaic.Lib.Pipeline.ValueKit
public import Idealize.ShloMosaic.Lib.Pointwise
public import Idealize.ShloMosaic.Lib.Claim

/-! The stages of the layer as functions of real matrices: what the tiled programs and the references both compute. -/

@[expose] public section

set_option maxRecDepth 16384

noncomputable section

open Idealize.ShloMosaic Idealize.ShloMosaic.TcCoe Idealize.SL.Sem

namespace Cert.Stages

/-- A matrix shape. -/
abbrev Mat (M N : ℕ) : Shape := ⟨2, ![M, N]⟩

/-- The norm of each row of 4096 columns, scaled by `g`. -/
def rms {M : ℕ} (x : (Mat M 4096).Idx → EReal) (g : (Mat 1 4096).Idx → EReal) (i : (Mat M 4096).Idx) : EReal :=
  x i * Ideal.rsqrt (Ideal.div (∑ k : Fin 4096, x (ix2 (i 0) k) * x (ix2 (i 0) k)) (Ideal.ofBits .f32 0x45800000#32)
    + Ideal.ofBits .f32 0x358637BD#32) * g (ix2 0 (i 1))

/-- The product of two matrices. -/
def mul {M K N : ℕ} (x : (Mat M K).Idx → EReal) (w : (Mat K N).Idx → EReal) (i : (Mat M N).Idx) : EReal :=
  ∑ k : Fin K, x (ix2 (i 0) k) * w (ix2 k (i 1))

/-- The gated up projection. -/
def up {M K N : ℕ} (x : (Mat M K).Idx → EReal) (w1 w3 : (Mat K N).Idx → EReal) (i : (Mat M N).Idx) : EReal :=
  mul x w1 i * Ideal.logistic (mul x w1 i) * mul x w3 i

/-- One half, as the programs write it. -/
abbrev half : EReal := Ideal.ofBits .f32 0x3F000000#32

/-- The residual plus half the down projection. -/
def down {M K N : ℕ} (x : (Mat M K).Idx → EReal) (w : (Mat K N).Idx → EReal) (r : (Mat M N).Idx → EReal)
    (i : (Mat M N).Idx) : EReal := r i + half * mul x w i

/-- One term of half a product. -/
def term {M K N : ℕ} (x : (Mat M K).Idx → EReal) (w : (Mat K N).Idx → EReal) (i : (Mat M N).Idx) (k : Fin K) : EReal :=
  half * (x (ix2 (i 0) k) * w (ix2 k (i 1)))

theorem half_eq : half = ((1 / 2 : ℝ) : EReal) := by
  simp [half, Ideal.ofBits, Ideal.ieee, -EReal.coe_mul]; norm_num

/-- Half of a finite sum is the sum of the halves. -/
theorem half_mul_sum {ι : Type*} (s : Finset ι) (f : ι → EReal) : half * ∑ i ∈ s, f i = ∑ i ∈ s, half * f i := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih =>
    rw [Finset.sum_insert ha, Finset.sum_insert ha, ← ih, EReal.left_distrib_of_nonneg_of_ne_top h0 h1]

theorem down_eq {M K N : ℕ} (x : (Mat M K).Idx → EReal) (w : (Mat K N).Idx → EReal) (r : (Mat M N).Idx → EReal)
    (i : (Mat M N).Idx) : down x w r i = r i + ∑ k : Fin K, term x w i k := by
  unfold down mul term
  rw [half_mul_sum]

/-- A block that is reset to `base + part` at the first point of each run of `J` points, and to which each later point
    of the run adds its `part`, holds after any point the run's base plus the parts so far. -/
theorem run_sum {N J : ℕ} {ι : Type*} (f : (n : ℕ) → n < N → ι → EReal) (base part : ℕ → ι → EReal) (hJ : 0 < J)
    (h0 : ∀ (n : ℕ) (h : n < N), n % J = 0 → ∀ y, f n h y = base n y + part n y)
    (hs : ∀ (n : ℕ) (h : n + 1 < N), ¬(n + 1) % J = 0 → ∀ y, f (n + 1) h y = f n (Nat.lt_of_succ_lt h) y + part (n + 1) y)
    (n : ℕ) (hn : n < N) (y : ι) :
    f n hn y = base (J * (n / J)) y + ∑ s ∈ Finset.range (n % J + 1), part (J * (n / J) + s) y := by
  induction n with
  | zero => rw [h0 0 hn (Nat.zero_mod J) y]; simp
  | succ n ih =>
    have d1 := Nat.div_add_mod (n + 1) J
    have d0 := Nat.div_add_mod n J
    by_cases hm : (n + 1) % J = 0
    · have e : J * ((n + 1) / J) = n + 1 := by omega
      rw [h0 (n + 1) hn hm y]
      simp only [hm, e, Finset.sum_range_one, Nat.zero_add, Nat.add_zero]
    · have e1 : (n + 1) / J = n / J := Nat.succ_div_of_not_dvd fun hd => hm (Nat.mod_eq_zero_of_dvd hd)
      rw [e1] at d1
      have e2 : (n + 1) % J = n % J + 1 := by omega
      have e3 : J * (n / J) + (n % J + 1) = n + 1 := by omega
      rw [hs n hn hm y, ih (Nat.lt_of_succ_lt hn), e1, e2, Finset.sum_range_succ _ (n % J + 1), e3, add_assoc]

end Cert.Stages
-- ==== Proof.HeadVal.lean ====
module

public import proofs.«01_k».proof.Proof.Stages
public import proofs.«01_k».proof.Proof.Gen.HeadIdeal.Frame

/-! The first half of the layer's first block at the prompt: what each tiled call leaves in its array. -/

@[expose] public section

set_option maxRecDepth 16384

noncomputable section

open Idealize.ShloMosaic Idealize.ShloMosaic.TcCoe Idealize.SL.Sem
open Idealize.ShloMosaic.Pipeline (Dat)

namespace Cert.HeadIdeal.Val

open Cert.HeadIdeal Cert.HeadIdeal.Gen Cert.Stages

variable (V : (c : Dev nD) → (b : Ref sig .tc) → Buf (Elt Ideal) ((c : Thread nD τ).loc b))

/-! ## The first norm -/

theorem idx0 : ∀ t : Fin cfg0.N, win0_0.index t = ![t.val, 0] ∧ win0_1.index t = ![0, 0] ∧ win0_2.index t = ![t.val, 0] :=
  (by decide +kernel : ∀ t : Fin grid0.N, _)

theorem final0 (c : Dev nD) : (dat0 V c).arrAt 2 cfg0.N = rms (V c main_v0) (V c main_v9) := by
  refine (dat0 V c).arrAt_eq_of_covers 2 _ (by decide +kernel) fun t _ y => ?_
  blk_simp
  rw [after0_2]; frame_out
  unfold rms
  pointwise [k0_pay1]
  blk_point [iblk0, idx0 t]

/-! ## The gated up projection -/

theorem idx1 : ∀ t : Fin cfg1.N, win1_0.index t = ![t.val / 43, 0] ∧ win1_1.index t = ![0, t.val % 43]
    ∧ win1_2.index t = ![0, t.val % 43] ∧ win1_3.index t = ![t.val / 43, t.val % 43] :=
  (by decide +kernel : ∀ t : Fin grid1.N, _)

theorem final1 (c : Dev nD) : (dat1 V c).arrAt 3 cfg1.N = up (V c main_v10) (V c main_v4) (V c main_v6) := by
  refine (dat1 V c).arrAt_eq_of_covers 3 _ (by decide +kernel) fun t _ y => ?_
  blk_simp
  rw [after1_3]; frame_out
  unfold up mul
  pointwise [k1_pay1]
  blk_point [iblk1, idx1 t]

/-! ## The second norm -/

theorem idx3 : ∀ t : Fin cfg3.N, win3_0.index t = ![t.val, 0] ∧ win3_1.index t = ![0, 0] ∧ win3_2.index t = ![t.val, 0] :=
  (by decide +kernel : ∀ t : Fin grid3.N, _)

theorem final3 (c : Dev nD) : (dat3 V c).arrAt 2 cfg3.N = rms (V c main_v12) (V c main_v15) := by
  refine (dat3 V c).arrAt_eq_of_covers 2 _ (by decide +kernel) fun t _ y => ?_
  blk_simp
  rw [after3_2]; frame_out
  unfold rms
  pointwise [k3_pay1]
  blk_point [iblk3, idx3 t]

/-! ## The keys and values -/

theorem idx4 : ∀ t : Fin cfg4.N, win4_0.index t = ![t.val / 4, 0] ∧ win4_1.index t = ![0, t.val % 4]
    ∧ win4_2.index t = ![t.val / 4, t.val % 4] :=
  (by decide +kernel : ∀ t : Fin grid4.N, _)

theorem final4 (c : Dev nD) : (dat4 V c).arrAt 2 cfg4.N = mul (V c main_v16) (V c main_v18) := by
  refine (dat4 V c).arrAt_eq_of_covers 2 _ (by decide +kernel) fun t _ y => ?_
  blk_simp
  rw [after4_2]; frame_out
  unfold mul
  pointwise [k4_pay1, k4_pay2]
  blk_point [iblk4, idx4 t]

/-! ## The other columns of the in-projection -/

theorem idx5 : ∀ t : Fin cfg5.N, win5_0.index t = ![t.val / 5, 0] ∧ win5_1.index t = ![0, t.val % 5]
    ∧ win5_2.index t = ![t.val / 5, t.val % 5] :=
  (by decide +kernel : ∀ t : Fin grid5.N, _)

theorem final5 (c : Dev nD) : (dat5 V c).arrAt 2 cfg5.N = mul (V c main_v16) (V c main_v24) := by
  refine (dat5 V c).arrAt_eq_of_covers 2 _ (by decide +kernel) fun t _ y => ?_
  blk_simp
  rw [after5_2]; frame_out
  unfold mul
  pointwise [k5_pay1]
  blk_point [iblk5, idx5 t]

end Cert.HeadIdeal.Val
-- ==== Proof.HeadDown.lean ====
module

public import proofs.«01_k».proof.Proof.Stages
public import proofs.«01_k».proof.Proof.Gen.HeadIdeal.Frame

/-! The down projection of the prompt's first half-step: what its tiled call leaves in its array. -/

@[expose] public section

set_option maxRecDepth 16384

noncomputable section

open Idealize.ShloMosaic Idealize.ShloMosaic.TcCoe Idealize.SL.Sem
open Idealize.ShloMosaic.Pipeline (Dat)

namespace Cert.HeadIdeal.Val

open Cert.HeadIdeal Cert.HeadIdeal.Gen Cert.Stages

variable (V : (c : Dev nD) → (b : Ref sig .tc) → Buf (Elt Ideal) ((c : Thread nD τ).loc b))

/-! ## The down projection -/

theorem idx2 : ∀ t : Fin cfg2.N, win2_0.index t = ![t.val / 172, t.val % 43]
    ∧ win2_1.index t = ![t.val % 43, t.val / 43 % 4]
    ∧ win2_2.index t = ![t.val / 172, t.val / 43 % 4]
    ∧ win2_3.index t = ![t.val / 172, t.val / 43 % 4] :=
  (by decide +kernel : ∀ t : Fin grid2.N, _)

/-- Half the product of two blocks at an index. -/
def prod2 (a : FVec Ideal S2048x256 .bf16) (w : FVec Ideal S256x1024 .f32) (y : S2048x1024.Idx) : EReal :=
  half * ∑ k : Fin 256, (a (ix2 (y 0) k) * w (ix2 k (y 1)) : EReal)

theorem pay2 (acc : FVec Ideal S2048x1024 .f32) (a : FVec Ideal S2048x256 .bf16) (w : FVec Ideal S256x1024 .f32)
    (y : S2048x1024.Idx) : k2_pay2 acc a w y = acc y + prod2 a w y := by
  unfold prod2
  pointwise [k2_pay2]

theorem pay1 (v : FVec Ideal S2048x1024 .f32) : k2_pay1 v = v := shapeCast_self _ _

/-- Half the block product that grid point `n` adds. -/
def part2 (c : Dev nD) (n : ℕ) (y : S2048x1024.Idx) : EReal :=
  if h : n < cfg2.N then prod2 (iblk2 V c 0 ⟨n, h⟩) (iblk2 V c 1 ⟨n, h⟩) y else 0

/-- The residual block of grid point `n`, at an index. -/
def base2 (c : Dev nD) (n : ℕ) (y : S2048x1024.Idx) : EReal :=
  if h : n < cfg2.N then (show FVec Ideal S2048x1024 .f32 from iblk2 V c 2 ⟨n, h⟩) y else 0

/-- After a point the block holds its residual block plus the half products of its run so far. -/
theorem outs2 (c : Dev nD) (t : Fin cfg2.N) (y : S2048x1024.Idx) : (outsAt2 V c t.val t.isLt y : EReal)
    = base2 V c (43 * (t.val / 43)) y + ∑ s ∈ Finset.range (t.val % 43 + 1), part2 V c (43 * (t.val / 43) + s) y := by
  refine run_sum (fun n h y => (outsAt2 V c n h y : EReal)) (base2 V c) (part2 V c) (by decide) ?_ ?_ t.val t.isLt y
  · intro n h hn y
    show (outsAt2 V c n h y : EReal) = _
    rw [outsAt2_A V c ⟨n, h⟩ hn]; frame_out
    unfold part2 base2
    rw [dif_pos h, dif_pos h]
    rw [pay1]
    exact pay2 _ _ _ y
  · intro n h hn y
    show (outsAt2 V c (n + 1) h y : EReal) = _
    rw [outsAt2_B V c ⟨n + 1, h⟩ hn]; frame_out
    unfold part2
    rw [dif_pos h]
    exact pay2 _ _ _ y

theorem base2_eq (c : Dev nD) (t : Fin cfg2.N) (ht : t.val % 43 = 42) (y : S2048x1024.Idx) :
    base2 V c (43 * (t.val / 43)) y = V c main_v0 (((cfg2.win 3).blk t).view.emb y) := by
  have hN : t.val < cfg2.N := t.isLt
  have hb : 43 * (t.val / 43) < cfg2.N := by omega
  unfold base2
  rw [dif_pos hb]
  blk_point [iblk2, idx2 t, idx2 ⟨43 * (t.val / 43), hb⟩]

theorem part2_eq (c : Dev nD) (t : Fin cfg2.N) (ht : t.val % 43 = 42) (s : Fin 43) (y : S2048x1024.Idx) :
    part2 V c (43 * (t.val / 43) + s.val) y
      = ∑ k : Fin 256, term (V c main_v11) (V c main_v8) (((cfg2.win 3).blk t).view.emb y) ⟨s.val * 256 + k.val, by omega⟩ := by
  have hN : t.val < cfg2.N := t.isLt
  have hs : 43 * (t.val / 43) + s.val < cfg2.N := by omega
  unfold part2
  rw [dif_pos hs]
  unfold prod2 term
  rw [half_mul_sum]
  refine Finset.sum_congr rfl fun k _ => ?_
  blk_point [iblk2, idx2 t, idx2 ⟨43 * (t.val / 43) + s.val, hs⟩]

theorem final2 (c : Dev nD) : (dat2 V c).arrAt 3 cfg2.N = down (V c main_v11) (V c main_v8) (V c main_v0) := by
  refine (dat2 V c).arrAt_eq_of_covers 3 _ (by decide +kernel) fun t hf y => ?_
  have ht : t.val % 43 = 42 := (flush2_3 t).mp hf
  blk_simp
  rw [after2_3]
  refine (outs2 V c t y).trans ?_
  rw [ht, down_eq, base2_eq V c t ht y]
  refine congrArg (HAdd.hAdd (α := EReal) _) ?_
  rw [← Fin.sum_univ_eq_sum_range (fun s => part2 V c (43 * (t.val / 43) + s) y) 43]
  refine (Finset.sum_congr rfl fun s _ => part2_eq V c t ht s y).trans ?_
  exact Fin.sum_mul_add_congr fun s k hl => rfl

end Cert.HeadIdeal.Val
-- ==== Proof.HeadRef.lean ====
module

public import proofs.«01_k».proof.Proof.Stages
public import proofs.«01_k».proof.Proof.Gen.HeadRefIdeal.Read

/-! The reference of the first half of the layer's first block at the prompt, stage by stage. -/

@[expose] public section

set_option maxRecDepth 16384

noncomputable section

open Idealize.ShloMosaic Idealize.ShloMosaic.TcCoe Idealize.SL.Sem

namespace Cert.HeadRefIdeal.Stage

open Cert.HeadRefIdeal Cert.HeadRefIdeal.Read Cert.Stages

variable (x0 : FVec Ideal S4x2048x4096 .f32) (x1 : FVec Ideal S2x4x4096 .f32) (x2 x3 : FVec Ideal S2x4096x11008 .f32)
  (x4 : FVec Ideal S2x11008x4096 .f32) (x5 : FVec Ideal S1x4096x6816 .f32)

theorem norm1 : val_main_v21 (F := Ideal) x0 x1 = rms (val_main_v0 (F := Ideal) x0) (val_main_v19 (F := Ideal) x1) := by
  funext i
  unfold rms
  generalize hX : val_main_v0 (F := Ideal) x0 = X
  generalize hG : val_main_v19 (F := Ideal) x1 = G
  pointwise [val_main_v21, val_main_v20, val_main_v18, val_main_v17, val_main_v16, val_main_v15, val_main_v14, val_main_v13,
    val_main_v12, val_main_v11, val_main_v10, val_main_v9, val_main_cst, val_main_cst_0, val_main_cst_1, hX, hG]

theorem gate : val_main_v25 (F := Ideal) x0 x1 x2 x3
    = up (val_main_v21 (F := Ideal) x0 x1) (val_main_v4 (F := Ideal) x2) (val_main_v6 (F := Ideal) x3) := by
  funext i
  unfold up mul
  generalize hX : val_main_v21 (F := Ideal) x0 x1 = X
  generalize hG : val_main_v4 (F := Ideal) x2 = G
  generalize hH : val_main_v6 (F := Ideal) x3 = H
  pointwise [val_main_v25, val_main_v24, val_main_v23, val_main_v22, val_main_call0_v0, val_main_call0_v1, val_main_call0_v2,
    val_main_call0_v3, val_main_call0_v4, val_main_call0_v5, val_main_call0_cst, val_main_call0_cst_0, hX, hG, hH]
  unfold Ideal.logistic
  rfl

theorem half_step : val_main_v29 (F := Ideal) x0 x1 x2 x3 x4
    = down (val_main_v25 (F := Ideal) x0 x1 x2 x3) (val_main_v8 (F := Ideal) x4) (val_main_v0 (F := Ideal) x0) := by
  funext i
  unfold down mul
  generalize hX : val_main_v25 (F := Ideal) x0 x1 x2 x3 = X
  generalize hG : val_main_v8 (F := Ideal) x4 = G
  generalize hH : val_main_v0 (F := Ideal) x0 = H
  pointwise [val_main_v29, val_main_v28, val_main_v27, val_main_v26, val_main_cst_2, hX, hG, hH]

theorem norm2 : val_main_v44 (F := Ideal) x0 x1 x2 x3 x4
    = rms (val_main_v29 (F := Ideal) x0 x1 x2 x3 x4) (val_main_v42 (F := Ideal) x1) := by
  funext i
  unfold rms
  generalize hX : val_main_v29 (F := Ideal) x0 x1 x2 x3 x4 = X
  generalize hG : val_main_v42 (F := Ideal) x1 = G
  pointwise [val_main_v44, val_main_v43, val_main_v41, val_main_v40, val_main_v39, val_main_v38, val_main_v37, val_main_v36,
    val_main_v35, val_main_v34, val_main_v33, val_main_v32, val_main_cst_3, val_main_cst_4, val_main_cst_5, hX, hG]

theorem in_proj : val_main_v46 (F := Ideal) x0 x1 x2 x3 x4 x5
    = mul (val_main_v44 (F := Ideal) x0 x1 x2 x3 x4) (val_main_v45 (F := Ideal) x5) := by
  funext i
  unfold mul
  generalize hX : val_main_v44 (F := Ideal) x0 x1 x2 x3 x4 = X
  generalize hG : val_main_v45 (F := Ideal) x5 = G
  pointwise [val_main_v46, hX, hG]

end Cert.HeadRefIdeal.Stage
-- ==== Proof.HeadRun.lean ====
module

public import proofs.«01_k».proof.Proof.HeadVal
public import proofs.«01_k».proof.Proof.HeadDown
public import proofs.«01_k».proof.Proof.HeadRef

/-! The first half of the layer's first block at the prompt: the two results of the run are the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.HeadIdeal.Val

open Cert.HeadIdeal Cert.HeadIdeal.Gen Cert.Stages Cert.HeadRefIdeal.Read

variable (m : (ℓ : Loc nD τ sig) → Buf (Elt Ideal) ℓ) (ρ : Dev nD → PrngReg) (c : Dev nD)

/-- The arguments. -/
abbrev X0 : FVec Ideal S4x2048x4096 .f32 := m ((c : Thread nD τ).loc main_arg0)
abbrev X1 : FVec Ideal S2x4x4096 .f32 := m ((c : Thread nD τ).loc main_arg1)
abbrev X2 : FVec Ideal S2x4096x11008 .f32 := m ((c : Thread nD τ).loc main_arg2)
abbrev X3 : FVec Ideal S2x4096x11008 .f32 := m ((c : Thread nD τ).loc main_arg3)
abbrev X4 : FVec Ideal S2x11008x4096 .f32 := m ((c : Thread nD τ).loc main_arg4)
abbrev X5 : FVec Ideal S1x4096x6816 .f32 := m ((c : Thread nD τ).loc main_arg5)

/-! ## What the host operations hand to the calls -/

theorem in_x : V1 m ρ c main_v0 = val_main_v0 (F := Ideal) (X0 m c) := by
  show StableHlo.after hostOps0 (W0 m ρ c) (Proc.devRef .tc main_v0) = _
  simp only [hostOps0]
  after_results_simp
  rfl

theorem in_g1 : V1 m ρ c main_v9 = val_main_v19 (F := Ideal) (X1 m c) := by
  show StableHlo.after hostOps0 (W0 m ρ c) (Proc.devRef .tc main_v9) = _
  simp only [hostOps0]
  after_results_simp
  show shapeCast S1x4096 (val_main_v2 (F := Ideal) (X1 m c)) shapeCasts_S4096_S1x4096 = _
  funext i
  pointwise [val_main_v19]

theorem in_w1 : V1 m ρ c main_v4 = val_main_v4 (F := Ideal) (X2 m c) := by
  show StableHlo.after hostOps0 (W0 m ρ c) (Proc.devRef .tc main_v4) = _
  simp only [hostOps0]
  after_results_simp
  rfl

theorem in_w3 : V1 m ρ c main_v6 = val_main_v6 (F := Ideal) (X3 m c) := by
  show StableHlo.after hostOps0 (W0 m ρ c) (Proc.devRef .tc main_v6) = _
  simp only [hostOps0]
  after_results_simp
  rfl

theorem in_w2 : V1 m ρ c main_v8 = val_main_v8 (F := Ideal) (X4 m c) := by
  show StableHlo.after hostOps0 (W0 m ρ c) (Proc.devRef .tc main_v8) = _
  simp only [hostOps0]
  after_results_simp
  rfl

/-! ## The calls, one after another -/

theorem out0 : V2 m ρ c main_v10 = val_main_v21 (F := Ideal) (X0 m c) (X1 m c) := by
  refine ((W2_arr m ρ c 2).trans (final0 (V1 m ρ) c)).trans ?_
  rw [Cert.HeadRefIdeal.Stage.norm1]
  exact congrArg₂ rms (in_x m ρ c) (in_g1 m ρ c)

theorem out1 : V3 m ρ c main_v11 = val_main_v25 (F := Ideal) (X0 m c) (X1 m c) (X2 m c) (X3 m c) := by
  refine ((W3_arr m ρ c 3).trans (final1 (V2 m ρ) c)).trans ?_
  rw [Cert.HeadRefIdeal.Stage.gate]
  have h1 : V2 m ρ c main_v4 = _ := (W2_of m ρ c main_v4 (by decide)).trans (in_w1 m ρ c)
  have h3 : V2 m ρ c main_v6 = _ := (W2_of m ρ c main_v6 (by decide)).trans (in_w3 m ρ c)
  exact congr (congrArg₂ up (out0 m ρ c) h1) h3

theorem out2 : V4 m ρ c main_v12 = val_main_v29 (F := Ideal) (X0 m c) (X1 m c) (X2 m c) (X3 m c) (X4 m c) := by
  refine ((W4_arr m ρ c 3).trans (final2 (V3 m ρ) c)).trans ?_
  rw [Cert.HeadRefIdeal.Stage.half_step]
  have h1 : V3 m ρ c main_v8 = _ := (W3_of m ρ c main_v8 (by decide)).trans ((W2_of m ρ c main_v8 (by decide)).trans (in_w2 m ρ c))
  have h3 : V3 m ρ c main_v0 = _ := (W3_of m ρ c main_v0 (by decide)).trans ((W2_of m ρ c main_v0 (by decide)).trans (in_x m ρ c))
  exact congr (congrArg₂ down (out1 m ρ c) h1) h3

theorem in_g2 : V5 m ρ c main_v15 = val_main_v42 (F := Ideal) (X1 m c) := by
  have e : W4 m ρ c (Proc.devRef .tc main_arg1) = X1 m c := W4_args m ρ c main_arg1 (by decide)
  show StableHlo.after hostOps3 (W4 m ρ c) (Proc.devRef .tc main_v15) = _
  simp only [hostOps3]
  after_results_simp
  rw [e]
  show shapeCast S1x4096 (val_main_v31 (F := Ideal) (X1 m c)) shapeCasts_S4096_S1x4096 = _
  funext i
  pointwise [val_main_v42]

theorem out3 : V6 m ρ c main_v16 = val_main_v44 (F := Ideal) (X0 m c) (X1 m c) (X2 m c) (X3 m c) (X4 m c) := by
  refine ((W6_arr m ρ c 2).trans (final3 (V5 m ρ) c)).trans ?_
  rw [Cert.HeadRefIdeal.Stage.norm2]
  have h1 : V5 m ρ c main_v12 = _ := (W5_of m ρ c main_v12 (by decide)).trans (out2 m ρ c)
  exact congrArg₂ rms h1 (in_g2 m ρ c)

/-- The in-projection's weights. -/
theorem in_w : V7 m ρ c main_v17 = val_main_v45 (F := Ideal) (X5 m c) := by
  have e : W6 m ρ c (Proc.devRef .tc main_arg5) = X5 m c := W6_args m ρ c main_arg5 (by decide)
  show StableHlo.after hostOps4 (W6 m ρ c) (Proc.devRef .tc main_v17) = _
  simp only [hostOps4]
  after_results_simp
  rw [e]
  rfl

theorem in_wkv : V7 m ρ c main_v18
    = extractStridedSlice S4096x2048 ![0, 3072] (val_main_v45 (F := Ideal) (X5 m c)) slices_S4096x6816_S4096x2048_0_3072 := by
  have e : W6 m ρ c (Proc.devRef .tc main_arg5) = X5 m c := W6_args m ρ c main_arg5 (by decide)
  show StableHlo.after hostOps4 (W6 m ρ c) (Proc.devRef .tc main_v18) = _
  simp only [hostOps4]
  after_results_simp
  rw [e]
  rfl

theorem in_h4 : V7 m ρ c main_v16 = val_main_v44 (F := Ideal) (X0 m c) (X1 m c) (X2 m c) (X3 m c) (X4 m c) :=
  (W7_of m ρ c main_v16 (by decide)).trans (out3 m ρ c)

theorem out4 : V8 m ρ c main_v19_0
    = val_main_v47 (F := Ideal) (X0 m c) (X1 m c) (X2 m c) (X3 m c) (X4 m c) (X5 m c) := by
  refine ((W8_arr m ρ c 2).trans (final4 (V7 m ρ) c)).trans ?_
  refine (congrArg₂ mul (in_h4 m ρ c) (in_wkv m ρ c)).trans ?_
  funext i
  unfold val_main_v47
  rw [Cert.HeadRefIdeal.Stage.in_proj]
  generalize val_main_v44 (F := Ideal) (X0 m c) (X1 m c) (X2 m c) (X3 m c) (X4 m c) = H
  generalize val_main_v45 (F := Ideal) (X5 m c) = U
  unfold mul
  pointwise

/-- The weights of the columns after the keys and values, side by side. -/
def rest_w (a : FVec Ideal S4096x1024 .f32) (b : FVec Ideal S4096x128 .f32) (d : FVec Ideal S4096x32 .f32)
    (z : FVec Ideal S4096x96 .f32) : FVec Ideal S4096x1280 .f32 :=
  concatenate S4096x1280 1 [⟨S4096x1024, a⟩, ⟨S4096x128, b⟩, ⟨S4096x32, d⟩, ⟨S4096x96, z⟩]
    concatenates_S4096x1024_S4096x128_S4096x32_S4096x96_S4096x1280_d1

theorem out5 : extractStridedSlice S8192x128 ![0, 1024] (V10 m ρ c main_v25 : FVec Ideal S8192x1280 .f32) slices_S8192x1280_S8192x128_0_1024
    = val_main_v49 (F := Ideal) (X0 m c) (X1 m c) (X2 m c) (X3 m c) (X4 m c) (X5 m c) := by
  have e : W8 m ρ c (Proc.devRef .tc main_v17) = _ := (W8_of m ρ c main_v17 (by decide)).trans (in_w m ρ c)
  have hw : V9 m ρ c main_v24 = rest_w (extractStridedSlice S4096x1024 ![0, 5792] (val_main_v45 (F := Ideal) (X5 m c)) slices_S4096x6816_S4096x1024_0_5792)
      (extractStridedSlice S4096x128 ![0, 5664] (val_main_v45 (F := Ideal) (X5 m c)) slices_S4096x6816_S4096x128_0_5664)
      (extractStridedSlice S4096x32 ![0, 5632] (val_main_v45 (F := Ideal) (X5 m c)) slices_S4096x6816_S4096x32_0_5632)
      (broadcastInDim S4096x96 ![] bcast_S_S4096x96 (constant (F := Ideal) S_ .f32 0x00000000#32)) := by
    rw [← e]
    show StableHlo.after hostOps5 (W8 m ρ c) (Proc.devRef .tc main_v24) = _
    simp only [hostOps5, StableHlo.after_cons, StableHlo.after_nil]
    refine (StableHlo.nary_result ..).trans ?_
    refine (show _ = rest_w (StableHlo.after (hostOps5.take 5) (W8 m ρ c) (Proc.devRef .tc main_v20))
      (StableHlo.after (hostOps5.take 5) (W8 m ρ c) (Proc.devRef .tc main_v21))
      (StableHlo.after (hostOps5.take 5) (W8 m ρ c) (Proc.devRef .tc main_v22))
      (StableHlo.after (hostOps5.take 5) (W8 m ρ c) (Proc.devRef .tc main_v23)) from rfl).trans ?_
    refine congr (congr (congrArg₂ rest_w ?_ ?_) ?_) ?_
    all_goals
      simp only [hostOps5, List.take]
      after_results_simp
  have hh : V9 m ρ c main_v16 = val_main_v44 (F := Ideal) (X0 m c) (X1 m c) (X2 m c) (X3 m c) (X4 m c) :=
    (W9_of m ρ c main_v16 (by decide)).trans ((W8_of m ρ c main_v16 (by decide)).trans (in_h4 m ρ c))
  have hv : V10 m ρ c main_v25 = _ := ((W10_arr m ρ c 2).trans (final5 (V9 m ρ) c)).trans (congrArg₂ mul hh hw)
  rw [hv]
  funext i
  unfold val_main_v49
  rw [Cert.HeadRefIdeal.Stage.in_proj]
  generalize val_main_v44 (F := Ideal) (X0 m c) (X1 m c) (X2 m c) (X3 m c) (X4 m c) = H
  generalize val_main_v45 (F := Ideal) (X5 m c) = U
  unfold mul rest_w
  pointwise

/-! ## The results -/

theorem res_kv : W11 m ρ c (Proc.devRef .tc main_v27)
    = val_main_v48 (F := Ideal) (X0 m c) (X1 m c) (X2 m c) (X3 m c) (X4 m c) (X5 m c) := by
  have e : W10 m ρ c (Proc.devRef .tc main_v19_0) = _ := (W10_of m ρ c main_v19_0 (by decide)).trans
    ((W9_of m ρ c main_v19_0 (by decide)).trans (out4 m ρ c))
  show StableHlo.after hostOps6 (W10 m ρ c) (Proc.devRef .tc main_v27) = _
  simp only [hostOps6]
  after_results_simp
  rw [e]
  rfl

theorem res_ki : W11 m ρ c (Proc.devRef .tc main_v28)
    = val_main_v50 (F := Ideal) (X0 m c) (X1 m c) (X2 m c) (X3 m c) (X4 m c) (X5 m c) := by
  have e := out5 m ρ c
  show StableHlo.after hostOps6 (W10 m ρ c) (Proc.devRef .tc main_v28) = _
  simp only [hostOps6]
  after_results_simp
  unfold val_main_v50
  rw [← e]
  rfl

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W11 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W11 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W11 m ρ d) s)
    isplitl [A] <;> iassumption

/-- Every run ends with the reference's two results, and with the arguments as they were. -/
theorem run : θ_run defs (onTc (τ := τ) (main (F := Ideal))) ⟨m, fun _ => 0, ρ⟩ (fun r => ∀ d : Dev nD,
      r.2.mem ((d.tc : Thread nD τ).loc main_v27) = val_main_v48 (F := Ideal) (X0 m d) (X1 m d) (X2 m d) (X3 m d) (X4 m d) (X5 m d)
      ∧ r.2.mem ((d.tc : Thread nD τ).loc main_v28) = val_main_v50 (F := Ideal) (X0 m d) (X1 m d) (X2 m d) (X3 m d) (X4 m d) (X5 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)) :=
  (θ_run _ _ _).mono (fun r h d =>
    ⟨(h d _ (mem_uc main_v27 (by decide))).trans (res_kv m ρ d),
     (h d _ (mem_uc main_v28 (by decide))).trans (res_ki m ρ d),
     (h d _ (mem_uc main_arg0 (by decide))).trans (W11_main_arg0 m ρ d),
     (h d _ (mem_uc main_arg1 (by decide))).trans (W11_main_arg1 m ρ d),
     (h d _ (mem_uc main_arg2 (by decide))).trans (W11_main_arg2 m ρ d),
     (h d _ (mem_uc main_arg3 (by decide))).trans (W11_main_arg3 m ρ d),
     (h d _ (mem_uc main_arg4 (by decide))).trans (W11_main_arg4 m ρ d),
     (h d _ (mem_uc main_arg5 (by decide))).trans (W11_main_arg5 m ρ d)⟩) (run_all m ρ)

end Cert.HeadIdeal.Val
-- ==== Proof.HeadSVal.lean ====
module

public import proofs.«01_k».proof.Proof.Stages
public import proofs.«01_k».proof.Proof.Gen.HeadSIdeal.Frame

/-! The first half of the layer's first block at the sample: what each tiled call leaves in its array. -/

@[expose] public section

set_option maxRecDepth 16384

noncomputable section

open Idealize.ShloMosaic Idealize.ShloMosaic.TcCoe Idealize.SL.Sem
open Idealize.ShloMosaic.Pipeline (Dat)

namespace Cert.HeadSIdeal.Val

open Cert.HeadSIdeal Cert.HeadSIdeal.Gen Cert.Stages

variable (V : (c : Dev nD) → (b : Ref sig .tc) → Buf (Elt Ideal) ((c : Thread nD τ).loc b))

/-! ## The first norm -/

theorem idx0 : ∀ t : Fin cfg0.N, win0_0.index t = ![t.val, 0] ∧ win0_1.index t = ![0, 0] ∧ win0_2.index t = ![t.val, 0] :=
  (by decide +kernel : ∀ t : Fin grid0.N, _)

theorem final0 (c : Dev nD) : (dat0 V c).arrAt 2 cfg0.N = rms (V c main_v0) (V c main_v9) := by
  refine (dat0 V c).arrAt_eq_of_covers 2 _ (by decide +kernel) fun t _ y => ?_
  blk_simp
  rw [after0_2]; frame_out
  unfold rms
  pointwise [k0_pay1]
  blk_point [iblk0, idx0 t]

/-! ## The gated up projection -/

theorem idx1 : ∀ t : Fin cfg1.N, win1_0.index t = ![t.val / 43, 0] ∧ win1_1.index t = ![0, t.val % 43]
    ∧ win1_2.index t = ![0, t.val % 43] ∧ win1_3.index t = ![t.val / 43, t.val % 43] :=
  (by decide +kernel : ∀ t : Fin grid1.N, _)

theorem final1 (c : Dev nD) : (dat1 V c).arrAt 3 cfg1.N = up (V c main_v10) (V c main_v4) (V c main_v6) := by
  refine (dat1 V c).arrAt_eq_of_covers 3 _ (by decide +kernel) fun t _ y => ?_
  blk_simp
  rw [after1_3]; frame_out
  unfold up mul
  pointwise [k1_pay1]
  blk_point [iblk1, idx1 t]

/-! ## The second norm -/

theorem idx3 : ∀ t : Fin cfg3.N, win3_0.index t = ![t.val, 0] ∧ win3_1.index t = ![0, 0] ∧ win3_2.index t = ![t.val, 0] :=
  (by decide +kernel : ∀ t : Fin grid3.N, _)

theorem final3 (c : Dev nD) : (dat3 V c).arrAt 2 cfg3.N = rms (V c main_v12) (V c main_v15) := by
  refine (dat3 V c).arrAt_eq_of_covers 2 _ (by decide +kernel) fun t _ y => ?_
  blk_simp
  rw [after3_2]; frame_out
  unfold rms
  pointwise [k3_pay1]
  blk_point [iblk3, idx3 t]

/-! ## The keys and values -/

theorem idx4 : ∀ t : Fin cfg4.N, win4_0.index t = ![t.val / 4, 0] ∧ win4_1.index t = ![0, t.val % 4]
    ∧ win4_2.index t = ![t.val / 4, t.val % 4] :=
  (by decide +kernel : ∀ t : Fin grid4.N, _)

theorem final4 (c : Dev nD) : (dat4 V c).arrAt 2 cfg4.N = mul (V c main_v16) (V c main_v18) := by
  refine (dat4 V c).arrAt_eq_of_covers 2 _ (by decide +kernel) fun t _ y => ?_
  blk_simp
  rw [after4_2]; frame_out
  unfold mul
  pointwise [k4_pay1, k4_pay2]
  blk_point [iblk4, idx4 t]

/-! ## The other columns of the in-projection -/

theorem idx5 : ∀ t : Fin cfg5.N, win5_0.index t = ![t.val / 5, 0] ∧ win5_1.index t = ![0, t.val % 5]
    ∧ win5_2.index t = ![t.val / 5, t.val % 5] :=
  (by decide +kernel : ∀ t : Fin grid5.N, _)

theorem final5 (c : Dev nD) : (dat5 V c).arrAt 2 cfg5.N = mul (V c main_v16) (V c main_v24) := by
  refine (dat5 V c).arrAt_eq_of_covers 2 _ (by decide +kernel) fun t _ y => ?_
  blk_simp
  rw [after5_2]; frame_out
  unfold mul
  pointwise [k5_pay1]
  blk_point [iblk5, idx5 t]

end Cert.HeadSIdeal.Val
-- ==== Proof.HeadSDown.lean ====
module

public import proofs.«01_k».proof.Proof.Stages
public import proofs.«01_k».proof.Proof.Gen.HeadSIdeal.Frame

/-! The down projection of the sample's first half-step: what its tiled call leaves in its array. -/

@[expose] public section

set_option maxRecDepth 16384

noncomputable section

open Idealize.ShloMosaic Idealize.ShloMosaic.TcCoe Idealize.SL.Sem
open Idealize.ShloMosaic.Pipeline (Dat)

namespace Cert.HeadSIdeal.Val

open Cert.HeadSIdeal Cert.HeadSIdeal.Gen Cert.Stages

variable (V : (c : Dev nD) → (b : Ref sig .tc) → Buf (Elt Ideal) ((c : Thread nD τ).loc b))

/-! ## The down projection -/

theorem idx2 : ∀ t : Fin cfg2.N, win2_0.index t = ![t.val / 172, t.val % 43]
    ∧ win2_1.index t = ![t.val % 43, t.val / 43 % 4]
    ∧ win2_2.index t = ![t.val / 172, t.val / 43 % 4]
    ∧ win2_3.index t = ![t.val / 172, t.val / 43 % 4] :=
  (by decide +kernel : ∀ t : Fin grid2.N, _)

/-- Half the product of two blocks at an index. -/
def prod2 (a : FVec Ideal S64x256 .bf16) (w : FVec Ideal S256x1024 .f32) (y : S64x1024.Idx) : EReal :=
  half * ∑ k : Fin 256, (a (ix2 (y 0) k) * w (ix2 k (y 1)) : EReal)

theorem pay2 (acc : FVec Ideal S64x1024 .f32) (a : FVec Ideal S64x256 .bf16) (w : FVec Ideal S256x1024 .f32)
    (y : S64x1024.Idx) : k2_pay2 acc a w y = acc y + prod2 a w y := by
  unfold prod2
  pointwise [k2_pay2]

theorem pay1 (v : FVec Ideal S64x1024 .f32) : k2_pay1 v = v := shapeCast_self _ _

/-- Half the block product that grid point `n` adds. -/
def part2 (c : Dev nD) (n : ℕ) (y : S64x1024.Idx) : EReal :=
  if h : n < cfg2.N then prod2 (iblk2 V c 0 ⟨n, h⟩) (iblk2 V c 1 ⟨n, h⟩) y else 0

/-- The residual block of grid point `n`, at an index. -/
def base2 (c : Dev nD) (n : ℕ) (y : S64x1024.Idx) : EReal :=
  if h : n < cfg2.N then (show FVec Ideal S64x1024 .f32 from iblk2 V c 2 ⟨n, h⟩) y else 0

/-- After a point the block holds its residual block plus the half products of its run so far. -/
theorem outs2 (c : Dev nD) (t : Fin cfg2.N) (y : S64x1024.Idx) : (outsAt2 V c t.val t.isLt y : EReal)
    = base2 V c (43 * (t.val / 43)) y + ∑ s ∈ Finset.range (t.val % 43 + 1), part2 V c (43 * (t.val / 43) + s) y := by
  refine run_sum (fun n h y => (outsAt2 V c n h y : EReal)) (base2 V c) (part2 V c) (by decide) ?_ ?_ t.val t.isLt y
  · intro n h hn y
    show (outsAt2 V c n h y : EReal) = _
    rw [outsAt2_A V c ⟨n, h⟩ hn]; frame_out
    unfold part2 base2
    rw [dif_pos h, dif_pos h]
    rw [pay1]
    exact pay2 _ _ _ y
  · intro n h hn y
    show (outsAt2 V c (n + 1) h y : EReal) = _
    rw [outsAt2_B V c ⟨n + 1, h⟩ hn]; frame_out
    unfold part2
    rw [dif_pos h]
    exact pay2 _ _ _ y

theorem base2_eq (c : Dev nD) (t : Fin cfg2.N) (ht : t.val % 43 = 42) (y : S64x1024.Idx) :
    base2 V c (43 * (t.val / 43)) y = V c main_v0 (((cfg2.win 3).blk t).view.emb y) := by
  have hN : t.val < cfg2.N := t.isLt
  have hb : 43 * (t.val / 43) < cfg2.N := by omega
  unfold base2
  rw [dif_pos hb]
  blk_point [iblk2, idx2 t, idx2 ⟨43 * (t.val / 43), hb⟩]

theorem part2_eq (c : Dev nD) (t : Fin cfg2.N) (ht : t.val % 43 = 42) (s : Fin 43) (y : S64x1024.Idx) :
    part2 V c (43 * (t.val / 43) + s.val) y
      = ∑ k : Fin 256, term (V c main_v11) (V c main_v8) (((cfg2.win 3).blk t).view.emb y) ⟨s.val * 256 + k.val, by omega⟩ := by
  have hN : t.val < cfg2.N := t.isLt
  have hs : 43 * (t.val / 43) + s.val < cfg2.N := by omega
  unfold part2
  rw [dif_pos hs]
  unfold prod2 term
  rw [half_mul_sum]
  refine Finset.sum_congr rfl fun k _ => ?_
  blk_point [iblk2, idx2 t, idx2 ⟨43 * (t.val / 43) + s.val, hs⟩]

theorem final2 (c : Dev nD) : (dat2 V c).arrAt 3 cfg2.N = down (V c main_v11) (V c main_v8) (V c main_v0) := by
  refine (dat2 V c).arrAt_eq_of_covers 3 _ (by decide +kernel) fun t hf y => ?_
  have ht : t.val % 43 = 42 := (flush2_3 t).mp hf
  blk_simp
  rw [after2_3]
  refine (outs2 V c t y).trans ?_
  rw [ht, down_eq, base2_eq V c t ht y]
  refine congrArg (HAdd.hAdd (α := EReal) _) ?_
  rw [← Fin.sum_univ_eq_sum_range (fun s => part2 V c (43 * (t.val / 43) + s) y) 43]
  refine (Finset.sum_congr rfl fun s _ => part2_eq V c t ht s y).trans ?_
  exact Fin.sum_mul_add_congr fun s k hl => rfl

end Cert.HeadSIdeal.Val
-- ==== Proof.HeadSRef.lean ====
module

public import proofs.«01_k».proof.Proof.Stages
public import proofs.«01_k».proof.Proof.Gen.HeadSRefIdeal.Read

/-! The reference of the first half of the layer's first block at the sample, stage by stage. -/

@[expose] public section

set_option maxRecDepth 16384

noncomputable section

open Idealize.ShloMosaic Idealize.ShloMosaic.TcCoe Idealize.SL.Sem

namespace Cert.HeadSRefIdeal.Stage

open Cert.HeadSRefIdeal Cert.HeadSRefIdeal.Read Cert.Stages

variable (x0 : FVec Ideal S8x8x4096 .f32) (x1 : FVec Ideal S2x4x4096 .f32) (x2 x3 : FVec Ideal S2x4096x11008 .f32)
  (x4 : FVec Ideal S2x11008x4096 .f32) (x5 : FVec Ideal S1x4096x6816 .f32)

theorem norm1 : val_main_v21 (F := Ideal) x0 x1 = rms (val_main_v0 (F := Ideal) x0) (val_main_v19 (F := Ideal) x1) := by
  funext i
  unfold rms
  generalize hX : val_main_v0 (F := Ideal) x0 = X
  generalize hG : val_main_v19 (F := Ideal) x1 = G
  pointwise [val_main_v21, val_main_v20, val_main_v18, val_main_v17, val_main_v16, val_main_v15, val_main_v14, val_main_v13,
    val_main_v12, val_main_v11, val_main_v10, val_main_v9, val_main_cst, val_main_cst_0, val_main_cst_1, hX, hG]

theorem gate : val_main_v25 (F := Ideal) x0 x1 x2 x3
    = up (val_main_v21 (F := Ideal) x0 x1) (val_main_v4 (F := Ideal) x2) (val_main_v6 (F := Ideal) x3) := by
  funext i
  unfold up mul
  generalize hX : val_main_v21 (F := Ideal) x0 x1 = X
  generalize hG : val_main_v4 (F := Ideal) x2 = G
  generalize hH : val_main_v6 (F := Ideal) x3 = H
  pointwise [val_main_v25, val_main_v24, val_main_v23, val_main_v22, val_main_call0_v0, val_main_call0_v1, val_main_call0_v2,
    val_main_call0_v3, val_main_call0_v4, val_main_call0_v5, val_main_call0_cst, val_main_call0_cst_0, hX, hG, hH]
  unfold Ideal.logistic
  rfl

theorem half_step : val_main_v29 (F := Ideal) x0 x1 x2 x3 x4
    = down (val_main_v25 (F := Ideal) x0 x1 x2 x3) (val_main_v8 (F := Ideal) x4) (val_main_v0 (F := Ideal) x0) := by
  funext i
  unfold down mul
  generalize hX : val_main_v25 (F := Ideal) x0 x1 x2 x3 = X
  generalize hG : val_main_v8 (F := Ideal) x4 = G
  generalize hH : val_main_v0 (F := Ideal) x0 = H
  pointwise [val_main_v29, val_main_v28, val_main_v27, val_main_v26, val_main_cst_2, hX, hG, hH]

theorem norm2 : val_main_v44 (F := Ideal) x0 x1 x2 x3 x4
    = rms (val_main_v29 (F := Ideal) x0 x1 x2 x3 x4) (val_main_v42 (F := Ideal) x1) := by
  funext i
  unfold rms
  generalize hX : val_main_v29 (F := Ideal) x0 x1 x2 x3 x4 = X
  generalize hG : val_main_v42 (F := Ideal) x1 = G
  pointwise [val_main_v44, val_main_v43, val_main_v41, val_main_v40, val_main_v39, val_main_v38, val_main_v37, val_main_v36,
    val_main_v35, val_main_v34, val_main_v33, val_main_v32, val_main_cst_3, val_main_cst_4, val_main_cst_5, hX, hG]

theorem in_proj : val_main_v46 (F := Ideal) x0 x1 x2 x3 x4 x5
    = mul (val_main_v44 (F := Ideal) x0 x1 x2 x3 x4) (val_main_v45 (F := Ideal) x5) := by
  funext i
  unfold mul
  generalize hX : val_main_v44 (F := Ideal) x0 x1 x2 x3 x4 = X
  generalize hG : val_main_v45 (F := Ideal) x5 = G
  pointwise [val_main_v46, hX, hG]

end Cert.HeadSRefIdeal.Stage
-- ==== Proof.HeadSRun.lean ====
module

public import proofs.«01_k».proof.Proof.HeadSVal
public import proofs.«01_k».proof.Proof.HeadSDown
public import proofs.«01_k».proof.Proof.HeadSRef

/-! The first half of the layer's first block at the sample: the two results of the run are the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.HeadSIdeal.Val

open Cert.HeadSIdeal Cert.HeadSIdeal.Gen Cert.Stages Cert.HeadSRefIdeal.Read

variable (m : (ℓ : Loc nD τ sig) → Buf (Elt Ideal) ℓ) (ρ : Dev nD → PrngReg) (c : Dev nD)

/-- The arguments. -/
abbrev X0 : FVec Ideal S8x8x4096 .f32 := m ((c : Thread nD τ).loc main_arg0)
abbrev X1 : FVec Ideal S2x4x4096 .f32 := m ((c : Thread nD τ).loc main_arg1)
abbrev X2 : FVec Ideal S2x4096x11008 .f32 := m ((c : Thread nD τ).loc main_arg2)
abbrev X3 : FVec Ideal S2x4096x11008 .f32 := m ((c : Thread nD τ).loc main_arg3)
abbrev X4 : FVec Ideal S2x11008x4096 .f32 := m ((c : Thread nD τ).loc main_arg4)
abbrev X5 : FVec Ideal S1x4096x6816 .f32 := m ((c : Thread nD τ).loc main_arg5)

/-! ## What the host operations hand to the calls -/

theorem in_x : V1 m ρ c main_v0 = val_main_v0 (F := Ideal) (X0 m c) := by
  show StableHlo.after hostOps0 (W0 m ρ c) (Proc.devRef .tc main_v0) = _
  simp only [hostOps0]
  after_results_simp
  rfl

theorem in_g1 : V1 m ρ c main_v9 = val_main_v19 (F := Ideal) (X1 m c) := by
  show StableHlo.after hostOps0 (W0 m ρ c) (Proc.devRef .tc main_v9) = _
  simp only [hostOps0]
  after_results_simp
  show shapeCast S1x4096 (val_main_v2 (F := Ideal) (X1 m c)) shapeCasts_S4096_S1x4096 = _
  funext i
  pointwise [val_main_v19]

theorem in_w1 : V1 m ρ c main_v4 = val_main_v4 (F := Ideal) (X2 m c) := by
  show StableHlo.after hostOps0 (W0 m ρ c) (Proc.devRef .tc main_v4) = _
  simp only [hostOps0]
  after_results_simp
  rfl

theorem in_w3 : V1 m ρ c main_v6 = val_main_v6 (F := Ideal) (X3 m c) := by
  show StableHlo.after hostOps0 (W0 m ρ c) (Proc.devRef .tc main_v6) = _
  simp only [hostOps0]
  after_results_simp
  rfl

theorem in_w2 : V1 m ρ c main_v8 = val_main_v8 (F := Ideal) (X4 m c) := by
  show StableHlo.after hostOps0 (W0 m ρ c) (Proc.devRef .tc main_v8) = _
  simp only [hostOps0]
  after_results_simp
  rfl

/-! ## The calls, one after another -/

theorem out0 : V2 m ρ c main_v10 = val_main_v21 (F := Ideal) (X0 m c) (X1 m c) := by
  refine ((W2_arr m ρ c 2).trans (final0 (V1 m ρ) c)).trans ?_
  rw [Cert.HeadSRefIdeal.Stage.norm1]
  exact congrArg₂ rms (in_x m ρ c) (in_g1 m ρ c)

theorem out1 : V3 m ρ c main_v11 = val_main_v25 (F := Ideal) (X0 m c) (X1 m c) (X2 m c) (X3 m c) := by
  refine ((W3_arr m ρ c 3).trans (final1 (V2 m ρ) c)).trans ?_
  rw [Cert.HeadSRefIdeal.Stage.gate]
  have h1 : V2 m ρ c main_v4 = _ := (W2_of m ρ c main_v4 (by decide)).trans (in_w1 m ρ c)
  have h3 : V2 m ρ c main_v6 = _ := (W2_of m ρ c main_v6 (by decide)).trans (in_w3 m ρ c)
  exact congr (congrArg₂ up (out0 m ρ c) h1) h3

theorem out2 : V4 m ρ c main_v12 = val_main_v29 (F := Ideal) (X0 m c) (X1 m c) (X2 m c) (X3 m c) (X4 m c) := by
  refine ((W4_arr m ρ c 3).trans (final2 (V3 m ρ) c)).trans ?_
  rw [Cert.HeadSRefIdeal.Stage.half_step]
  have h1 : V3 m ρ c main_v8 = _ := (W3_of m ρ c main_v8 (by decide)).trans ((W2_of m ρ c main_v8 (by decide)).trans (in_w2 m ρ c))
  have h3 : V3 m ρ c main_v0 = _ := (W3_of m ρ c main_v0 (by decide)).trans ((W2_of m ρ c main_v0 (by decide)).trans (in_x m ρ c))
  exact congr (congrArg₂ down (out1 m ρ c) h1) h3

theorem in_g2 : V5 m ρ c main_v15 = val_main_v42 (F := Ideal) (X1 m c) := by
  have e : W4 m ρ c (Proc.devRef .tc main_arg1) = X1 m c := W4_args m ρ c main_arg1 (by decide)
  show StableHlo.after hostOps3 (W4 m ρ c) (Proc.devRef .tc main_v15) = _
  simp only [hostOps3]
  after_results_simp
  rw [e]
  show shapeCast S1x4096 (val_main_v31 (F := Ideal) (X1 m c)) shapeCasts_S4096_S1x4096 = _
  funext i
  pointwise [val_main_v42]

theorem out3 : V6 m ρ c main_v16 = val_main_v44 (F := Ideal) (X0 m c) (X1 m c) (X2 m c) (X3 m c) (X4 m c) := by
  refine ((W6_arr m ρ c 2).trans (final3 (V5 m ρ) c)).trans ?_
  rw [Cert.HeadSRefIdeal.Stage.norm2]
  have h1 : V5 m ρ c main_v12 = _ := (W5_of m ρ c main_v12 (by decide)).trans (out2 m ρ c)
  exact congrArg₂ rms h1 (in_g2 m ρ c)

/-- The in-projection's weights. -/
theorem in_w : V7 m ρ c main_v17 = val_main_v45 (F := Ideal) (X5 m c) := by
  have e : W6 m ρ c (Proc.devRef .tc main_arg5) = X5 m c := W6_args m ρ c main_arg5 (by decide)
  show StableHlo.after hostOps4 (W6 m ρ c) (Proc.devRef .tc main_v17) = _
  simp only [hostOps4]
  after_results_simp
  rw [e]
  rfl

theorem in_wkv : V7 m ρ c main_v18
    = extractStridedSlice S4096x2048 ![0, 3072] (val_main_v45 (F := Ideal) (X5 m c)) slices_S4096x6816_S4096x2048_0_3072 := by
  have e : W6 m ρ c (Proc.devRef .tc main_arg5) = X5 m c := W6_args m ρ c main_arg5 (by decide)
  show StableHlo.after hostOps4 (W6 m ρ c) (Proc.devRef .tc main_v18) = _
  simp only [hostOps4]
  after_results_simp
  rw [e]
  rfl

theorem in_h4 : V7 m ρ c main_v16 = val_main_v44 (F := Ideal) (X0 m c) (X1 m c) (X2 m c) (X3 m c) (X4 m c) :=
  (W7_of m ρ c main_v16 (by decide)).trans (out3 m ρ c)

theorem out4 : V8 m ρ c main_v19_0
    = val_main_v47 (F := Ideal) (X0 m c) (X1 m c) (X2 m c) (X3 m c) (X4 m c) (X5 m c) := by
  refine ((W8_arr m ρ c 2).trans (final4 (V7 m ρ) c)).trans ?_
  refine (congrArg₂ mul (in_h4 m ρ c) (in_wkv m ρ c)).trans ?_
  funext i
  unfold val_main_v47
  rw [Cert.HeadSRefIdeal.Stage.in_proj]
  generalize val_main_v44 (F := Ideal) (X0 m c) (X1 m c) (X2 m c) (X3 m c) (X4 m c) = H
  generalize val_main_v45 (F := Ideal) (X5 m c) = U
  unfold mul
  pointwise

/-- The weights of the columns after the keys and values, side by side. -/
def rest_w (a : FVec Ideal S4096x1024 .f32) (b : FVec Ideal S4096x128 .f32) (d : FVec Ideal S4096x32 .f32)
    (z : FVec Ideal S4096x96 .f32) : FVec Ideal S4096x1280 .f32 :=
  concatenate S4096x1280 1 [⟨S4096x1024, a⟩, ⟨S4096x128, b⟩, ⟨S4096x32, d⟩, ⟨S4096x96, z⟩]
    concatenates_S4096x1024_S4096x128_S4096x32_S4096x96_S4096x1280_d1

theorem out5 : extractStridedSlice S64x128 ![0, 1024] (V10 m ρ c main_v25 : FVec Ideal S64x1280 .f32) slices_S64x1280_S64x128_0_1024
    = val_main_v49 (F := Ideal) (X0 m c) (X1 m c) (X2 m c) (X3 m c) (X4 m c) (X5 m c) := by
  have e : W8 m ρ c (Proc.devRef .tc main_v17) = _ := (W8_of m ρ c main_v17 (by decide)).trans (in_w m ρ c)
  have hw : V9 m ρ c main_v24 = rest_w (extractStridedSlice S4096x1024 ![0, 5792] (val_main_v45 (F := Ideal) (X5 m c)) slices_S4096x6816_S4096x1024_0_5792)
      (extractStridedSlice S4096x128 ![0, 5664] (val_main_v45 (F := Ideal) (X5 m c)) slices_S4096x6816_S4096x128_0_5664)
      (extractStridedSlice S4096x32 ![0, 5632] (val_main_v45 (F := Ideal) (X5 m c)) slices_S4096x6816_S4096x32_0_5632)
      (broadcastInDim S4096x96 ![] bcast_S_S4096x96 (constant (F := Ideal) S_ .f32 0x00000000#32)) := by
    rw [← e]
    show StableHlo.after hostOps5 (W8 m ρ c) (Proc.devRef .tc main_v24) = _
    simp only [hostOps5, StableHlo.after_cons, StableHlo.after_nil]
    refine (StableHlo.nary_result ..).trans ?_
    refine (show _ = rest_w (StableHlo.after (hostOps5.take 5) (W8 m ρ c) (Proc.devRef .tc main_v20))
      (StableHlo.after (hostOps5.take 5) (W8 m ρ c) (Proc.devRef .tc main_v21))
      (StableHlo.after (hostOps5.take 5) (W8 m ρ c) (Proc.devRef .tc main_v22))
      (StableHlo.after (hostOps5.take 5) (W8 m ρ c) (Proc.devRef .tc main_v23)) from rfl).trans ?_
    refine congr (congr (congrArg₂ rest_w ?_ ?_) ?_) ?_
    all_goals
      simp only [hostOps5, List.take]
      after_results_simp
  have hh : V9 m ρ c main_v16 = val_main_v44 (F := Ideal) (X0 m c) (X1 m c) (X2 m c) (X3 m c) (X4 m c) :=
    (W9_of m ρ c main_v16 (by decide)).trans ((W8_of m ρ c main_v16 (by decide)).trans (in_h4 m ρ c))
  have hv : V10 m ρ c main_v25 = _ := ((W10_arr m ρ c 2).trans (final5 (V9 m ρ) c)).trans (congrArg₂ mul hh hw)
  rw [hv]
  funext i
  unfold val_main_v49
  rw [Cert.HeadSRefIdeal.Stage.in_proj]
  generalize val_main_v44 (F := Ideal) (X0 m c) (X1 m c) (X2 m c) (X3 m c) (X4 m c) = H
  generalize val_main_v45 (F := Ideal) (X5 m c) = U
  unfold mul rest_w
  pointwise

/-! ## The results -/

theorem res_kv : W11 m ρ c (Proc.devRef .tc main_v27)
    = val_main_v48 (F := Ideal) (X0 m c) (X1 m c) (X2 m c) (X3 m c) (X4 m c) (X5 m c) := by
  have e : W10 m ρ c (Proc.devRef .tc main_v19_0) = _ := (W10_of m ρ c main_v19_0 (by decide)).trans
    ((W9_of m ρ c main_v19_0 (by decide)).trans (out4 m ρ c))
  show StableHlo.after hostOps6 (W10 m ρ c) (Proc.devRef .tc main_v27) = _
  simp only [hostOps6]
  after_results_simp
  rw [e]
  rfl

theorem res_ki : W11 m ρ c (Proc.devRef .tc main_v28)
    = val_main_v50 (F := Ideal) (X0 m c) (X1 m c) (X2 m c) (X3 m c) (X4 m c) (X5 m c) := by
  have e := out5 m ρ c
  show StableHlo.after hostOps6 (W10 m ρ c) (Proc.devRef .tc main_v28) = _
  simp only [hostOps6]
  after_results_simp
  unfold val_main_v50
  rw [← e]
  rfl

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W11 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W11 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W11 m ρ d) s)
    isplitl [A] <;> iassumption

/-- Every run ends with the reference's two results, and with the arguments as they were. -/
theorem run : θ_run defs (onTc (τ := τ) (main (F := Ideal))) ⟨m, fun _ => 0, ρ⟩ (fun r => ∀ d : Dev nD,
      r.2.mem ((d.tc : Thread nD τ).loc main_v27) = val_main_v48 (F := Ideal) (X0 m d) (X1 m d) (X2 m d) (X3 m d) (X4 m d) (X5 m d)
      ∧ r.2.mem ((d.tc : Thread nD τ).loc main_v28) = val_main_v50 (F := Ideal) (X0 m d) (X1 m d) (X2 m d) (X3 m d) (X4 m d) (X5 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)) :=
  (θ_run _ _ _).mono (fun r h d =>
    ⟨(h d _ (mem_uc main_v27 (by decide))).trans (res_kv m ρ d),
     (h d _ (mem_uc main_v28 (by decide))).trans (res_ki m ρ d),
     (h d _ (mem_uc main_arg0 (by decide))).trans (W11_main_arg0 m ρ d),
     (h d _ (mem_uc main_arg1 (by decide))).trans (W11_main_arg1 m ρ d),
     (h d _ (mem_uc main_arg2 (by decide))).trans (W11_main_arg2 m ρ d),
     (h d _ (mem_uc main_arg3 (by decide))).trans (W11_main_arg3 m ρ d),
     (h d _ (mem_uc main_arg4 (by decide))).trans (W11_main_arg4 m ρ d),
     (h d _ (mem_uc main_arg5 (by decide))).trans (W11_main_arg5 m ρ d)⟩) (run_all m ρ)

end Cert.HeadSIdeal.Val
-- ==== Proof.Layer.lean ====
module

public import proofs.«01_k».proof.Proof.Stages

/-! What the calls that project with a window of columns, with a residual or with a gate compute. -/

@[expose] public section

noncomputable section

open Idealize.ShloMosaic Idealize.ShloMosaic.TcCoe Idealize.SL.Sem

namespace Cert.Stages

/-- `N'` columns of a matrix, from column `o` on. -/
def cols (o : ℕ) {K N N' : ℕ} (h : o + N' ≤ N) (w : (Mat K N).Idx → EReal) (i : (Mat K N').Idx) : EReal :=
  w (ix2 (i 0) ⟨o + (i 1).val, lt_of_lt_of_le (Nat.add_lt_add_left (i 1).isLt o) h⟩)

/-- `K'` rows of a matrix, from row `o` on. -/
def rows (o : ℕ) {K K' N : ℕ} (h : o + K' ≤ K) (w : (Mat K N).Idx → EReal) (i : (Mat K' N).Idx) : EReal :=
  w (ix2 ⟨o + (i 0).val, lt_of_lt_of_le (Nat.add_lt_add_left (i 0).isLt o) h⟩ (i 1))

/-- A residual plus a product. -/
def resid {M K N : ℕ} (x : (Mat M K).Idx → EReal) (w : (Mat K N).Idx → EReal) (r : (Mat M N).Idx → EReal)
    (i : (Mat M N).Idx) : EReal := r i + mul x w i

/-- A residual plus a second product behind the sigmoid of a first one. -/
def gated {M K L N : ℕ} (x : (Mat M K).Idx → EReal) (w : (Mat K N).Idx → EReal) (r : (Mat M N).Idx → EReal)
    (p : (Mat M L).Idx → EReal) (v : (Mat L N).Idx → EReal) (i : (Mat M N).Idx) : EReal :=
  r i + Ideal.logistic (mul x w i) * mul p v i

/-- The number one, as the programs write it. -/
theorem one_bits : Ideal.ofBits .f32 0x3F800000#32 = (1 : EReal) := by
  simp [Ideal.ofBits, Ideal.ieee, -EReal.coe_mul]; try norm_num

end Cert.Stages
-- ==== Proof.OddVal.lean ====
module

public import proofs.«01_k».proof.Proof.Layer
public import proofs.«01_k».proof.Proof.Gen.OddIdeal.Frame

/-! The first half of the layer's second block at the prompt: what each tiled call leaves in its array. -/

@[expose] public section

set_option maxRecDepth 16384

noncomputable section

open Idealize.ShloMosaic Idealize.ShloMosaic.TcCoe Idealize.SL.Sem
open Idealize.ShloMosaic.Pipeline (Dat)

namespace Cert.OddIdeal.Val

open Cert.OddIdeal Cert.OddIdeal.Gen Cert.Stages

variable (V : (c : Dev nD) → (b : Ref sig .tc) → Buf (Elt Ideal) ((c : Thread nD τ).loc b))

/-! ## The first norm -/

theorem idx0 : ∀ t : Fin cfg0.N, win0_0.index t = ![t.val, 0] ∧ win0_1.index t = ![0, 0] ∧ win0_2.index t = ![t.val, 0] :=
  (by decide +kernel : ∀ t : Fin grid0.N, _)

theorem final0 (c : Dev nD) : (dat0 V c).arrAt 2 cfg0.N = rms (V c main_v0) (V c main_v9) := by
  refine (dat0 V c).arrAt_eq_of_covers 2 _ (by decide +kernel) fun t _ y => ?_
  blk_simp
  rw [after0_2]; frame_out
  unfold rms
  pointwise [k0_pay1]
  blk_point [iblk0, idx0 t]

/-! ## The gated up projection -/

theorem idx1 : ∀ t : Fin cfg1.N, win1_0.index t = ![t.val / 43, 0] ∧ win1_1.index t = ![0, t.val % 43]
    ∧ win1_2.index t = ![0, t.val % 43] ∧ win1_3.index t = ![t.val / 43, t.val % 43] :=
  (by decide +kernel : ∀ t : Fin grid1.N, _)

theorem final1 (c : Dev nD) : (dat1 V c).arrAt 3 cfg1.N = up (V c main_v10) (V c main_v4) (V c main_v6) := by
  refine (dat1 V c).arrAt_eq_of_covers 3 _ (by decide +kernel) fun t _ y => ?_
  blk_simp
  rw [after1_3]; frame_out
  unfold up mul
  pointwise [k1_pay1]
  blk_point [iblk1, idx1 t]

/-! ## The second norm -/

theorem idx3 : ∀ t : Fin cfg3.N, win3_0.index t = ![t.val, 0] ∧ win3_1.index t = ![0, 0] ∧ win3_2.index t = ![t.val, 0] :=
  (by decide +kernel : ∀ t : Fin grid3.N, _)

theorem final3 (c : Dev nD) : (dat3 V c).arrAt 2 cfg3.N = rms (V c main_v12) (V c main_v15) := by
  refine (dat3 V c).arrAt_eq_of_covers 2 _ (by decide +kernel) fun t _ y => ?_
  blk_simp
  rw [after3_2]; frame_out
  unfold rms
  pointwise [k3_pay1]
  blk_point [iblk3, idx3 t]

/-! ## The queries -/

theorem idx4 : ∀ t : Fin cfg4.N, win4_0.index t = ![t.val / 6, 0] ∧ win4_1.index t = ![0, t.val % 6]
    ∧ win4_2.index t = ![t.val / 6, t.val % 6] :=
  (by decide +kernel : ∀ t : Fin grid4.N, _)

theorem final4 (c : Dev nD) : (dat4 V c).arrAt 2 cfg4.N
    = mul (V c main_v16) (cols 0 (N' := 3072) (N := 9216) (by decide) (V c main_v17)) := by
  refine (dat4 V c).arrAt_eq_of_covers 2 _ (by decide +kernel) fun t _ y => ?_
  blk_simp
  rw [after4_2]; frame_out
  unfold mul cols
  pointwise [k4_pay1]
  blk_point [iblk4, idx4 t]

/-! ## The keys and values -/

theorem idx5 : ∀ t : Fin cfg5.N, win5_0.index t = ![t.val / 12, 0] ∧ win5_1.index t = ![0, 6 + t.val % 12]
    ∧ win5_2.index t = ![t.val / 12, t.val % 12] :=
  (by decide +kernel : ∀ t : Fin grid5.N, _)

theorem final5 (c : Dev nD) : (dat5 V c).arrAt 2 cfg5.N
    = mul (V c main_v16) (cols 3072 (N' := 6144) (N := 9216) (by decide) (V c main_v17)) := by
  refine (dat5 V c).arrAt_eq_of_covers 2 _ (by decide +kernel) fun t _ y => ?_
  blk_simp
  rw [after5_2]; frame_out
  unfold mul cols
  pointwise [k5_pay1, k5_pay2]
  blk_point [iblk5, idx5 t]

end Cert.OddIdeal.Val
-- ==== Proof.OddDown.lean ====
module

public import proofs.«01_k».proof.Proof.Stages
public import proofs.«01_k».proof.Proof.Gen.OddIdeal.Frame

/-! The down projection of the prompt's first half-step of the second block: what its tiled call leaves in its array. -/

@[expose] public section

set_option maxRecDepth 16384

noncomputable section

open Idealize.ShloMosaic Idealize.ShloMosaic.TcCoe Idealize.SL.Sem
open Idealize.ShloMosaic.Pipeline (Dat)

namespace Cert.OddIdeal.Val

open Cert.OddIdeal Cert.OddIdeal.Gen Cert.Stages

variable (V : (c : Dev nD) → (b : Ref sig .tc) → Buf (Elt Ideal) ((c : Thread nD τ).loc b))

/-! ## The down projection -/

theorem idx2 : ∀ t : Fin cfg2.N, win2_0.index t = ![t.val / 172, t.val % 43]
    ∧ win2_1.index t = ![t.val % 43, t.val / 43 % 4]
    ∧ win2_2.index t = ![t.val / 172, t.val / 43 % 4]
    ∧ win2_3.index t = ![t.val / 172, t.val / 43 % 4] :=
  (by decide +kernel : ∀ t : Fin grid2.N, _)

/-- Half the product of two blocks at an index. -/
def prod2 (a : FVec Ideal S2048x256 .bf16) (w : FVec Ideal S256x1024 .f32) (y : S2048x1024.Idx) : EReal :=
  half * ∑ k : Fin 256, (a (ix2 (y 0) k) * w (ix2 k (y 1)) : EReal)

theorem pay2 (acc : FVec Ideal S2048x1024 .f32) (a : FVec Ideal S2048x256 .bf16) (w : FVec Ideal S256x1024 .f32)
    (y : S2048x1024.Idx) : k2_pay2 acc a w y = acc y + prod2 a w y := by
  unfold prod2
  pointwise [k2_pay2]

theorem pay1 (v : FVec Ideal S2048x1024 .f32) : k2_pay1 v = v := shapeCast_self _ _

/-- Half the block product that grid point `n` adds. -/
def part2 (c : Dev nD) (n : ℕ) (y : S2048x1024.Idx) : EReal :=
  if h : n < cfg2.N then prod2 (iblk2 V c 0 ⟨n, h⟩) (iblk2 V c 1 ⟨n, h⟩) y else 0

/-- The residual block of grid point `n`, at an index. -/
def base2 (c : Dev nD) (n : ℕ) (y : S2048x1024.Idx) : EReal :=
  if h : n < cfg2.N then (show FVec Ideal S2048x1024 .f32 from iblk2 V c 2 ⟨n, h⟩) y else 0

/-- After a point the block holds its residual block plus the half products of its run so far. -/
theorem outs2 (c : Dev nD) (t : Fin cfg2.N) (y : S2048x1024.Idx) : (outsAt2 V c t.val t.isLt y : EReal)
    = base2 V c (43 * (t.val / 43)) y + ∑ s ∈ Finset.range (t.val % 43 + 1), part2 V c (43 * (t.val / 43) + s) y := by
  refine run_sum (fun n h y => (outsAt2 V c n h y : EReal)) (base2 V c) (part2 V c) (by decide) ?_ ?_ t.val t.isLt y
  · intro n h hn y
    show (outsAt2 V c n h y : EReal) = _
    rw [outsAt2_A V c ⟨n, h⟩ hn]; frame_out
    unfold part2 base2
    rw [dif_pos h, dif_pos h]
    rw [pay1]
    exact pay2 _ _ _ y
  · intro n h hn y
    show (outsAt2 V c (n + 1) h y : EReal) = _
    rw [outsAt2_B V c ⟨n + 1, h⟩ hn]; frame_out
    unfold part2
    rw [dif_pos h]
    exact pay2 _ _ _ y

theorem base2_eq (c : Dev nD) (t : Fin cfg2.N) (ht : t.val % 43 = 42) (y : S2048x1024.Idx) :
    base2 V c (43 * (t.val / 43)) y = V c main_v0 (((cfg2.win 3).blk t).view.emb y) := by
  have hN : t.val < cfg2.N := t.isLt
  have hb : 43 * (t.val / 43) < cfg2.N := by omega
  unfold base2
  rw [dif_pos hb]
  blk_point [iblk2, idx2 t, idx2 ⟨43 * (t.val / 43), hb⟩]

theorem part2_eq (c : Dev nD) (t : Fin cfg2.N) (ht : t.val % 43 = 42) (s : Fin 43) (y : S2048x1024.Idx) :
    part2 V c (43 * (t.val / 43) + s.val) y
      = ∑ k : Fin 256, term (V c main_v11) (V c main_v8) (((cfg2.win 3).blk t).view.emb y) ⟨s.val * 256 + k.val, by omega⟩ := by
  have hN : t.val < cfg2.N := t.isLt
  have hs : 43 * (t.val / 43) + s.val < cfg2.N := by omega
  unfold part2
  rw [dif_pos hs]
  unfold prod2 term
  rw [half_mul_sum]
  refine Finset.sum_congr rfl fun k _ => ?_
  blk_point [iblk2, idx2 t, idx2 ⟨43 * (t.val / 43) + s.val, hs⟩]

theorem final2 (c : Dev nD) : (dat2 V c).arrAt 3 cfg2.N = down (V c main_v11) (V c main_v8) (V c main_v0) := by
  refine (dat2 V c).arrAt_eq_of_covers 3 _ (by decide +kernel) fun t hf y => ?_
  have ht : t.val % 43 = 42 := (flush2_3 t).mp hf
  blk_simp
  rw [after2_3]
  refine (outs2 V c t y).trans ?_
  rw [ht, down_eq, base2_eq V c t ht y]
  refine congrArg (HAdd.hAdd (α := EReal) _) ?_
  rw [← Fin.sum_univ_eq_sum_range (fun s => part2 V c (43 * (t.val / 43) + s) y) 43]
  refine (Finset.sum_congr rfl fun s _ => part2_eq V c t ht s y).trans ?_
  exact Fin.sum_mul_add_congr fun s k hl => rfl

end Cert.OddIdeal.Val
-- ==== Proof.OddRef.lean ====
module

public import proofs.«01_k».proof.Proof.Stages
public import proofs.«01_k».proof.Proof.Gen.OddRefIdeal.Read

/-! The reference of the first half of the layer's second block at the prompt, stage by stage. -/

@[expose] public section

set_option maxRecDepth 16384

noncomputable section

open Idealize.ShloMosaic Idealize.ShloMosaic.TcCoe Idealize.SL.Sem

namespace Cert.OddRefIdeal.Stage

open Cert.OddRefIdeal Cert.OddRefIdeal.Read Cert.Stages

variable (x0 : FVec Ideal S4x2048x4096 .f32) (x1 : FVec Ideal S2x4x4096 .f32) (x2 x3 : FVec Ideal S2x4096x11008 .f32)
  (x4 : FVec Ideal S2x11008x4096 .f32) (x5 : FVec Ideal S1x4096x9216 .f32)

theorem norm1 : val_main_v21 (F := Ideal) x0 x1 = rms (val_main_v0 (F := Ideal) x0) (val_main_v19 (F := Ideal) x1) := by
  funext i
  unfold rms
  generalize hX : val_main_v0 (F := Ideal) x0 = X
  generalize hG : val_main_v19 (F := Ideal) x1 = G
  pointwise [val_main_v21, val_main_v20, val_main_v18, val_main_v17, val_main_v16, val_main_v15, val_main_v14, val_main_v13,
    val_main_v12, val_main_v11, val_main_v10, val_main_v9, val_main_cst, val_main_cst_0, val_main_cst_1, hX, hG]

theorem gate : val_main_v25 (F := Ideal) x0 x1 x2 x3
    = up (val_main_v21 (F := Ideal) x0 x1) (val_main_v4 (F := Ideal) x2) (val_main_v6 (F := Ideal) x3) := by
  funext i
  unfold up mul
  generalize hX : val_main_v21 (F := Ideal) x0 x1 = X
  generalize hG : val_main_v4 (F := Ideal) x2 = G
  generalize hH : val_main_v6 (F := Ideal) x3 = H
  pointwise [val_main_v25, val_main_v24, val_main_v23, val_main_v22, val_main_call0_v0, val_main_call0_v1, val_main_call0_v2,
    val_main_call0_v3, val_main_call0_v4, val_main_call0_v5, val_main_call0_cst, val_main_call0_cst_0, hX, hG, hH]
  unfold Ideal.logistic
  rfl

theorem half_step : val_main_v29 (F := Ideal) x0 x1 x2 x3 x4
    = down (val_main_v25 (F := Ideal) x0 x1 x2 x3) (val_main_v8 (F := Ideal) x4) (val_main_v0 (F := Ideal) x0) := by
  funext i
  unfold down mul
  generalize hX : val_main_v25 (F := Ideal) x0 x1 x2 x3 = X
  generalize hG : val_main_v8 (F := Ideal) x4 = G
  generalize hH : val_main_v0 (F := Ideal) x0 = H
  pointwise [val_main_v29, val_main_v28, val_main_v27, val_main_v26, val_main_cst_2, hX, hG, hH]

theorem norm2 : val_main_v44 (F := Ideal) x0 x1 x2 x3 x4
    = rms (val_main_v29 (F := Ideal) x0 x1 x2 x3 x4) (val_main_v42 (F := Ideal) x1) := by
  funext i
  unfold rms
  generalize hX : val_main_v29 (F := Ideal) x0 x1 x2 x3 x4 = X
  generalize hG : val_main_v42 (F := Ideal) x1 = G
  pointwise [val_main_v44, val_main_v43, val_main_v41, val_main_v40, val_main_v39, val_main_v38, val_main_v37, val_main_v36,
    val_main_v35, val_main_v34, val_main_v33, val_main_v32, val_main_cst_3, val_main_cst_4, val_main_cst_5, hX, hG]

theorem in_proj : val_main_v46 (F := Ideal) x0 x1 x2 x3 x4 x5
    = mul (val_main_v44 (F := Ideal) x0 x1 x2 x3 x4) (val_main_v45 (F := Ideal) x5) := by
  funext i
  unfold mul
  generalize hX : val_main_v44 (F := Ideal) x0 x1 x2 x3 x4 = X
  generalize hG : val_main_v45 (F := Ideal) x5 = G
  pointwise [val_main_v46, hX, hG]

end Cert.OddRefIdeal.Stage
-- ==== Proof.OddRun.lean ====
module

public import proofs.«01_k».proof.Proof.OddVal
public import proofs.«01_k».proof.Proof.OddDown
public import proofs.«01_k».proof.Proof.OddRef

/-! The first half of the layer's second block at the prompt: the four results of the run are the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.OddIdeal.Val

open Cert.OddIdeal Cert.OddIdeal.Gen Cert.Stages Cert.OddRefIdeal.Read

variable (m : (ℓ : Loc nD τ sig) → Buf (Elt Ideal) ℓ) (ρ : Dev nD → PrngReg) (c : Dev nD)

/-- The arguments. -/
abbrev X0 : FVec Ideal S4x2048x4096 .f32 := m ((c : Thread nD τ).loc main_arg0)
abbrev X1 : FVec Ideal S2x4x4096 .f32 := m ((c : Thread nD τ).loc main_arg1)
abbrev X2 : FVec Ideal S2x4096x11008 .f32 := m ((c : Thread nD τ).loc main_arg2)
abbrev X3 : FVec Ideal S2x4096x11008 .f32 := m ((c : Thread nD τ).loc main_arg3)
abbrev X4 : FVec Ideal S2x11008x4096 .f32 := m ((c : Thread nD τ).loc main_arg4)
abbrev X5 : FVec Ideal S1x4096x9216 .f32 := m ((c : Thread nD τ).loc main_arg5)

/-! ## What the host operations hand to the calls -/

theorem in_x : V1 m ρ c main_v0 = val_main_v0 (F := Ideal) (X0 m c) := by
  show StableHlo.after hostOps0 (W0 m ρ c) (Proc.devRef .tc main_v0) = _
  simp only [hostOps0]
  after_results_simp
  rfl

theorem in_g1 : V1 m ρ c main_v9 = val_main_v19 (F := Ideal) (X1 m c) := by
  show StableHlo.after hostOps0 (W0 m ρ c) (Proc.devRef .tc main_v9) = _
  simp only [hostOps0]
  after_results_simp
  show shapeCast S1x4096 (val_main_v2 (F := Ideal) (X1 m c)) shapeCasts_S4096_S1x4096 = _
  funext i
  pointwise [val_main_v19]

theorem in_w1 : V1 m ρ c main_v4 = val_main_v4 (F := Ideal) (X2 m c) := by
  show StableHlo.after hostOps0 (W0 m ρ c) (Proc.devRef .tc main_v4) = _
  simp only [hostOps0]
  after_results_simp
  rfl

theorem in_w3 : V1 m ρ c main_v6 = val_main_v6 (F := Ideal) (X3 m c) := by
  show StableHlo.after hostOps0 (W0 m ρ c) (Proc.devRef .tc main_v6) = _
  simp only [hostOps0]
  after_results_simp
  rfl

theorem in_w2 : V1 m ρ c main_v8 = val_main_v8 (F := Ideal) (X4 m c) := by
  show StableHlo.after hostOps0 (W0 m ρ c) (Proc.devRef .tc main_v8) = _
  simp only [hostOps0]
  after_results_simp
  rfl

/-! ## The calls, one after another -/

theorem out0 : V2 m ρ c main_v10 = val_main_v21 (F := Ideal) (X0 m c) (X1 m c) := by
  refine ((W2_arr m ρ c 2).trans (final0 (V1 m ρ) c)).trans ?_
  rw [Cert.OddRefIdeal.Stage.norm1]
  exact congrArg₂ rms (in_x m ρ c) (in_g1 m ρ c)

theorem out1 : V3 m ρ c main_v11 = val_main_v25 (F := Ideal) (X0 m c) (X1 m c) (X2 m c) (X3 m c) := by
  refine ((W3_arr m ρ c 3).trans (final1 (V2 m ρ) c)).trans ?_
  rw [Cert.OddRefIdeal.Stage.gate]
  have h1 : V2 m ρ c main_v4 = _ := (W2_of m ρ c main_v4 (by decide)).trans (in_w1 m ρ c)
  have h3 : V2 m ρ c main_v6 = _ := (W2_of m ρ c main_v6 (by decide)).trans (in_w3 m ρ c)
  exact congr (congrArg₂ up (out0 m ρ c) h1) h3

theorem out2 : V4 m ρ c main_v12 = val_main_v29 (F := Ideal) (X0 m c) (X1 m c) (X2 m c) (X3 m c) (X4 m c) := by
  refine ((W4_arr m ρ c 3).trans (final2 (V3 m ρ) c)).trans ?_
  rw [Cert.OddRefIdeal.Stage.half_step]
  have h1 : V3 m ρ c main_v8 = _ := (W3_of m ρ c main_v8 (by decide)).trans ((W2_of m ρ c main_v8 (by decide)).trans (in_w2 m ρ c))
  have h3 : V3 m ρ c main_v0 = _ := (W3_of m ρ c main_v0 (by decide)).trans ((W2_of m ρ c main_v0 (by decide)).trans (in_x m ρ c))
  exact congr (congrArg₂ down (out1 m ρ c) h1) h3

theorem in_g2 : V5 m ρ c main_v15 = val_main_v42 (F := Ideal) (X1 m c) := by
  have e : W4 m ρ c (Proc.devRef .tc main_arg1) = X1 m c := W4_args m ρ c main_arg1 (by decide)
  show StableHlo.after hostOps3 (W4 m ρ c) (Proc.devRef .tc main_v15) = _
  simp only [hostOps3]
  after_results_simp
  rw [e]
  show shapeCast S1x4096 (val_main_v31 (F := Ideal) (X1 m c)) shapeCasts_S4096_S1x4096 = _
  funext i
  pointwise [val_main_v42]

theorem out3 : V6 m ρ c main_v16 = val_main_v44 (F := Ideal) (X0 m c) (X1 m c) (X2 m c) (X3 m c) (X4 m c) := by
  refine ((W6_arr m ρ c 2).trans (final3 (V5 m ρ) c)).trans ?_
  rw [Cert.OddRefIdeal.Stage.norm2]
  have h1 : V5 m ρ c main_v12 = _ := (W5_of m ρ c main_v12 (by decide)).trans (out2 m ρ c)
  exact congrArg₂ rms h1 (in_g2 m ρ c)

/-- The in-projection's weights. -/
theorem in_w : V7 m ρ c main_v17 = val_main_v45 (F := Ideal) (X5 m c) := by
  have e : W6 m ρ c (Proc.devRef .tc main_arg5) = X5 m c := W6_args m ρ c main_arg5 (by decide)
  show StableHlo.after hostOps4 (W6 m ρ c) (Proc.devRef .tc main_v17) = _
  simp only [hostOps4]
  after_results_simp
  rw [e]
  rfl

theorem in_h4 : V7 m ρ c main_v16 = val_main_v44 (F := Ideal) (X0 m c) (X1 m c) (X2 m c) (X3 m c) (X4 m c) :=
  (W7_of m ρ c main_v16 (by decide)).trans (out3 m ρ c)

/-- The queries. -/
theorem out4 : V8 m ρ c main_v18 = val_main_v53 (F := Ideal) (X0 m c) (X1 m c) (X2 m c) (X3 m c) (X4 m c) (X5 m c) := by
  refine ((W8_arr m ρ c 2).trans (final4 (V7 m ρ) c)).trans ?_
  have e : cols 0 (N' := 3072) (N := 9216) (by decide) (V7 m ρ c main_v17) = _ := congrArg (cols 0 (by decide)) (in_w m ρ c)
  refine (congrArg₂ mul (in_h4 m ρ c) e).trans ?_
  funext i
  unfold val_main_v53 val_main_v52
  rw [Cert.OddRefIdeal.Stage.in_proj]
  generalize val_main_v44 (F := Ideal) (X0 m c) (X1 m c) (X2 m c) (X3 m c) (X4 m c) = H
  generalize val_main_v45 (F := Ideal) (X5 m c) = U
  unfold mul cols
  pointwise

/-- The keys and values. -/
theorem out5 : V9 m ρ c main_v19_0 = val_main_v47 (F := Ideal) (X0 m c) (X1 m c) (X2 m c) (X3 m c) (X4 m c) (X5 m c) := by
  refine ((W9_arr m ρ c 2).trans (final5 (V8 m ρ) c)).trans ?_
  have h : V8 m ρ c main_v16 = _ := (W8_of m ρ c main_v16 (by decide)).trans (in_h4 m ρ c)
  have w : V8 m ρ c main_v17 = _ := (W8_of m ρ c main_v17 (by decide)).trans (in_w m ρ c)
  have e : cols 3072 (N' := 6144) (N := 9216) (by decide) (V8 m ρ c main_v17) = _ := congrArg (cols 3072 (by decide)) w
  refine (congrArg₂ mul h e).trans ?_
  funext i
  unfold val_main_v47
  rw [Cert.OddRefIdeal.Stage.in_proj]
  generalize val_main_v44 (F := Ideal) (X0 m c) (X1 m c) (X2 m c) (X3 m c) (X4 m c) = H
  generalize val_main_v45 (F := Ideal) (X5 m c) = U
  unfold mul cols
  pointwise

/-! ## The results -/

theorem res_q : W10 m ρ c (Proc.devRef .tc main_v18) = val_main_v53 (F := Ideal) (X0 m c) (X1 m c) (X2 m c) (X3 m c) (X4 m c) (X5 m c) :=
  (W10_of m ρ c main_v18 (by decide)).trans ((W9_of m ρ c main_v18 (by decide)).trans (out4 m ρ c))

theorem res_c0 : W10 m ρ c (Proc.devRef .tc main_v22) = val_main_v49 (F := Ideal) (X0 m c) (X1 m c) (X2 m c) (X3 m c) (X4 m c) (X5 m c) := by
  have e : W9 m ρ c (Proc.devRef .tc main_v19_0) = _ := out5 m ρ c
  show StableHlo.after hostOps6 (W9 m ρ c) (Proc.devRef .tc main_v22) = _
  simp only [hostOps6]
  after_results_simp
  rw [e]
  unfold val_main_v49 val_main_v48
  generalize val_main_v47 (F := Ideal) (X0 m c) (X1 m c) (X2 m c) (X3 m c) (X4 m c) (X5 m c) = U
  funext i
  pointwise

theorem res_c1 : W10 m ρ c (Proc.devRef .tc main_v24) = val_main_v50 (F := Ideal) (X0 m c) (X1 m c) (X2 m c) (X3 m c) (X4 m c) (X5 m c) := by
  have e : W9 m ρ c (Proc.devRef .tc main_v19_0) = _ := out5 m ρ c
  show StableHlo.after hostOps6 (W9 m ρ c) (Proc.devRef .tc main_v24) = _
  simp only [hostOps6]
  after_results_simp
  rw [e]
  unfold val_main_v50 val_main_v48
  generalize val_main_v47 (F := Ideal) (X0 m c) (X1 m c) (X2 m c) (X3 m c) (X4 m c) (X5 m c) = U
  funext i
  pointwise

theorem res_c2 : W10 m ρ c (Proc.devRef .tc main_v26) = val_main_v51 (F := Ideal) (X0 m c) (X1 m c) (X2 m c) (X3 m c) (X4 m c) (X5 m c) := by
  have e : W9 m ρ c (Proc.devRef .tc main_v19_0) = _ := out5 m ρ c
  show StableHlo.after hostOps6 (W9 m ρ c) (Proc.devRef .tc main_v26) = _
  simp only [hostOps6]
  after_results_simp
  rw [e]
  unfold val_main_v51 val_main_v48
  generalize val_main_v47 (F := Ideal) (X0 m c) (X1 m c) (X2 m c) (X3 m c) (X4 m c) (X5 m c) = U
  funext i
  pointwise

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W10 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W10 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W10 m ρ d) s)
    isplitl [A] <;> iassumption

/-- Every run ends with the reference's four results, and with the arguments as they were. -/
theorem run : θ_run defs (onTc (τ := τ) (main (F := Ideal))) ⟨m, fun _ => 0, ρ⟩ (fun r => ∀ d : Dev nD,
      r.2.mem ((d.tc : Thread nD τ).loc main_v18) = val_main_v53 (F := Ideal) (X0 m d) (X1 m d) (X2 m d) (X3 m d) (X4 m d) (X5 m d)
      ∧ r.2.mem ((d.tc : Thread nD τ).loc main_v22) = val_main_v49 (F := Ideal) (X0 m d) (X1 m d) (X2 m d) (X3 m d) (X4 m d) (X5 m d)
      ∧ r.2.mem ((d.tc : Thread nD τ).loc main_v24) = val_main_v50 (F := Ideal) (X0 m d) (X1 m d) (X2 m d) (X3 m d) (X4 m d) (X5 m d)
      ∧ r.2.mem ((d.tc : Thread nD τ).loc main_v26) = val_main_v51 (F := Ideal) (X0 m d) (X1 m d) (X2 m d) (X3 m d) (X4 m d) (X5 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)) :=
  (θ_run _ _ _).mono (fun r h d =>
    ⟨(h d _ (mem_uc main_v18 (by decide))).trans (res_q m ρ d),
     (h d _ (mem_uc main_v22 (by decide))).trans (res_c0 m ρ d),
     (h d _ (mem_uc main_v24 (by decide))).trans (res_c1 m ρ d),
     (h d _ (mem_uc main_v26 (by decide))).trans (res_c2 m ρ d),
     (h d _ (mem_uc main_arg0 (by decide))).trans (W10_main_arg0 m ρ d),
     (h d _ (mem_uc main_arg1 (by decide))).trans (W10_main_arg1 m ρ d),
     (h d _ (mem_uc main_arg2 (by decide))).trans (W10_main_arg2 m ρ d),
     (h d _ (mem_uc main_arg3 (by decide))).trans (W10_main_arg3 m ρ d),
     (h d _ (mem_uc main_arg4 (by decide))).trans (W10_main_arg4 m ρ d),
     (h d _ (mem_uc main_arg5 (by decide))).trans (W10_main_arg5 m ρ d)⟩) (run_all m ρ)

end Cert.OddIdeal.Val
-- ==== Proof.OddSVal.lean ====
module

public import proofs.«01_k».proof.Proof.Layer
public import proofs.«01_k».proof.Proof.Gen.OddSIdeal.Frame

/-! The first half of the layer's second block at the sample: what each tiled call leaves in its array. -/

@[expose] public section

set_option maxRecDepth 16384

noncomputable section

open Idealize.ShloMosaic Idealize.ShloMosaic.TcCoe Idealize.SL.Sem
open Idealize.ShloMosaic.Pipeline (Dat)

namespace Cert.OddSIdeal.Val

open Cert.OddSIdeal Cert.OddSIdeal.Gen Cert.Stages

variable (V : (c : Dev nD) → (b : Ref sig .tc) → Buf (Elt Ideal) ((c : Thread nD τ).loc b))

/-! ## The first norm -/

theorem idx0 : ∀ t : Fin cfg0.N, win0_0.index t = ![t.val, 0] ∧ win0_1.index t = ![0, 0] ∧ win0_2.index t = ![t.val, 0] :=
  (by decide +kernel : ∀ t : Fin grid0.N, _)

theorem final0 (c : Dev nD) : (dat0 V c).arrAt 2 cfg0.N = rms (V c main_v0) (V c main_v9) := by
  refine (dat0 V c).arrAt_eq_of_covers 2 _ (by decide +kernel) fun t _ y => ?_
  blk_simp
  rw [after0_2]; frame_out
  unfold rms
  pointwise [k0_pay1]
  blk_point [iblk0, idx0 t]

/-! ## The gated up projection -/

theorem idx1 : ∀ t : Fin cfg1.N, win1_0.index t = ![t.val / 43, 0] ∧ win1_1.index t = ![0, t.val % 43]
    ∧ win1_2.index t = ![0, t.val % 43] ∧ win1_3.index t = ![t.val / 43, t.val % 43] :=
  (by decide +kernel : ∀ t : Fin grid1.N, _)

theorem final1 (c : Dev nD) : (dat1 V c).arrAt 3 cfg1.N = up (V c main_v10) (V c main_v4) (V c main_v6) := by
  refine (dat1 V c).arrAt_eq_of_covers 3 _ (by decide +kernel) fun t _ y => ?_
  blk_simp
  rw [after1_3]; frame_out
  unfold up mul
  pointwise [k1_pay1]
  blk_point [iblk1, idx1 t]

/-! ## The second norm -/

theorem idx3 : ∀ t : Fin cfg3.N, win3_0.index t = ![t.val, 0] ∧ win3_1.index t = ![0, 0] ∧ win3_2.index t = ![t.val, 0] :=
  (by decide +kernel : ∀ t : Fin grid3.N, _)

theorem final3 (c : Dev nD) : (dat3 V c).arrAt 2 cfg3.N = rms (V c main_v12) (V c main_v15) := by
  refine (dat3 V c).arrAt_eq_of_covers 2 _ (by decide +kernel) fun t _ y => ?_
  blk_simp
  rw [after3_2]; frame_out
  unfold rms
  pointwise [k3_pay1]
  blk_point [iblk3, idx3 t]

/-! ## The queries -/

theorem idx4 : ∀ t : Fin cfg4.N, win4_0.index t = ![t.val / 6, 0] ∧ win4_1.index t = ![0, t.val % 6]
    ∧ win4_2.index t = ![t.val / 6, t.val % 6] :=
  (by decide +kernel : ∀ t : Fin grid4.N, _)

theorem final4 (c : Dev nD) : (dat4 V c).arrAt 2 cfg4.N
    = mul (V c main_v16) (cols 0 (N' := 3072) (N := 9216) (by decide) (V c main_v17)) := by
  refine (dat4 V c).arrAt_eq_of_covers 2 _ (by decide +kernel) fun t _ y => ?_
  blk_simp
  rw [after4_2]; frame_out
  unfold mul cols
  pointwise [k4_pay1]
  blk_point [iblk4, idx4 t]

/-! ## The keys and values -/

theorem idx5 : ∀ t : Fin cfg5.N, win5_0.index t = ![t.val / 12, 0] ∧ win5_1.index t = ![0, 6 + t.val % 12]
    ∧ win5_2.index t = ![t.val / 12, t.val % 12] :=
  (by decide +kernel : ∀ t : Fin grid5.N, _)

theorem final5 (c : Dev nD) : (dat5 V c).arrAt 2 cfg5.N
    = mul (V c main_v16) (cols 3072 (N' := 6144) (N := 9216) (by decide) (V c main_v17)) := by
  refine (dat5 V c).arrAt_eq_of_covers 2 _ (by decide +kernel) fun t _ y => ?_
  blk_simp
  rw [after5_2]; frame_out
  unfold mul cols
  pointwise [k5_pay1, k5_pay2]
  blk_point [iblk5, idx5 t]

end Cert.OddSIdeal.Val
-- ==== Proof.OddSDown.lean ====
module

public import proofs.«01_k».proof.Proof.Stages
public import proofs.«01_k».proof.Proof.Gen.OddSIdeal.Frame

/-! The down projection of the sample's first half-step of the second block: what its tiled call leaves in its array. -/

@[expose] public section

set_option maxRecDepth 16384

noncomputable section

open Idealize.ShloMosaic Idealize.ShloMosaic.TcCoe Idealize.SL.Sem
open Idealize.ShloMosaic.Pipeline (Dat)

namespace Cert.OddSIdeal.Val

open Cert.OddSIdeal Cert.OddSIdeal.Gen Cert.Stages

variable (V : (c : Dev nD) → (b : Ref sig .tc) → Buf (Elt Ideal) ((c : Thread nD τ).loc b))

/-! ## The down projection -/

theorem idx2 : ∀ t : Fin cfg2.N, win2_0.index t = ![t.val / 172, t.val % 43]
    ∧ win2_1.index t = ![t.val % 43, t.val / 43 % 4]
    ∧ win2_2.index t = ![t.val / 172, t.val / 43 % 4]
    ∧ win2_3.index t = ![t.val / 172, t.val / 43 % 4] :=
  (by decide +kernel : ∀ t : Fin grid2.N, _)

/-- Half the product of two blocks at an index. -/
def prod2 (a : FVec Ideal S64x256 .bf16) (w : FVec Ideal S256x1024 .f32) (y : S64x1024.Idx) : EReal :=
  half * ∑ k : Fin 256, (a (ix2 (y 0) k) * w (ix2 k (y 1)) : EReal)

theorem pay2 (acc : FVec Ideal S64x1024 .f32) (a : FVec Ideal S64x256 .bf16) (w : FVec Ideal S256x1024 .f32)
    (y : S64x1024.Idx) : k2_pay2 acc a w y = acc y + prod2 a w y := by
  unfold prod2
  pointwise [k2_pay2]

theorem pay1 (v : FVec Ideal S64x1024 .f32) : k2_pay1 v = v := shapeCast_self _ _

/-- Half the block product that grid point `n` adds. -/
def part2 (c : Dev nD) (n : ℕ) (y : S64x1024.Idx) : EReal :=
  if h : n < cfg2.N then prod2 (iblk2 V c 0 ⟨n, h⟩) (iblk2 V c 1 ⟨n, h⟩) y else 0

/-- The residual block of grid point `n`, at an index. -/
def base2 (c : Dev nD) (n : ℕ) (y : S64x1024.Idx) : EReal :=
  if h : n < cfg2.N then (show FVec Ideal S64x1024 .f32 from iblk2 V c 2 ⟨n, h⟩) y else 0

/-- After a point the block holds its residual block plus the half products of its run so far. -/
theorem outs2 (c : Dev nD) (t : Fin cfg2.N) (y : S64x1024.Idx) : (outsAt2 V c t.val t.isLt y : EReal)
    = base2 V c (43 * (t.val / 43)) y + ∑ s ∈ Finset.range (t.val % 43 + 1), part2 V c (43 * (t.val / 43) + s) y := by
  refine run_sum (fun n h y => (outsAt2 V c n h y : EReal)) (base2 V c) (part2 V c) (by decide) ?_ ?_ t.val t.isLt y
  · intro n h hn y
    show (outsAt2 V c n h y : EReal) = _
    rw [outsAt2_A V c ⟨n, h⟩ hn]; frame_out
    unfold part2 base2
    rw [dif_pos h, dif_pos h]
    rw [pay1]
    exact pay2 _ _ _ y
  · intro n h hn y
    show (outsAt2 V c (n + 1) h y : EReal) = _
    rw [outsAt2_B V c ⟨n + 1, h⟩ hn]; frame_out
    unfold part2
    rw [dif_pos h]
    exact pay2 _ _ _ y

theorem base2_eq (c : Dev nD) (t : Fin cfg2.N) (ht : t.val % 43 = 42) (y : S64x1024.Idx) :
    base2 V c (43 * (t.val / 43)) y = V c main_v0 (((cfg2.win 3).blk t).view.emb y) := by
  have hN : t.val < cfg2.N := t.isLt
  have hb : 43 * (t.val / 43) < cfg2.N := by omega
  unfold base2
  rw [dif_pos hb]
  blk_point [iblk2, idx2 t, idx2 ⟨43 * (t.val / 43), hb⟩]

theorem part2_eq (c : Dev nD) (t : Fin cfg2.N) (ht : t.val % 43 = 42) (s : Fin 43) (y : S64x1024.Idx) :
    part2 V c (43 * (t.val / 43) + s.val) y
      = ∑ k : Fin 256, term (V c main_v11) (V c main_v8) (((cfg2.win 3).blk t).view.emb y) ⟨s.val * 256 + k.val, by omega⟩ := by
  have hN : t.val < cfg2.N := t.isLt
  have hs : 43 * (t.val / 43) + s.val < cfg2.N := by omega
  unfold part2
  rw [dif_pos hs]
  unfold prod2 term
  rw [half_mul_sum]
  refine Finset.sum_congr rfl fun k _ => ?_
  blk_point [iblk2, idx2 t, idx2 ⟨43 * (t.val / 43) + s.val, hs⟩]

theorem final2 (c : Dev nD) : (dat2 V c).arrAt 3 cfg2.N = down (V c main_v11) (V c main_v8) (V c main_v0) := by
  refine (dat2 V c).arrAt_eq_of_covers 3 _ (by decide +kernel) fun t hf y => ?_
  have ht : t.val % 43 = 42 := (flush2_3 t).mp hf
  blk_simp
  rw [after2_3]
  refine (outs2 V c t y).trans ?_
  rw [ht, down_eq, base2_eq V c t ht y]
  refine congrArg (HAdd.hAdd (α := EReal) _) ?_
  rw [← Fin.sum_univ_eq_sum_range (fun s => part2 V c (43 * (t.val / 43) + s) y) 43]
  refine (Finset.sum_congr rfl fun s _ => part2_eq V c t ht s y).trans ?_
  exact Fin.sum_mul_add_congr fun s k hl => rfl

end Cert.OddSIdeal.Val
-- ==== Proof.OddSRef.lean ====
module

public import proofs.«01_k».proof.Proof.Stages
public import proofs.«01_k».proof.Proof.Gen.OddSRefIdeal.Read

/-! The reference of the first half of the layer's second block at the sample, stage by stage. -/

@[expose] public section

set_option maxRecDepth 16384

noncomputable section

open Idealize.ShloMosaic Idealize.ShloMosaic.TcCoe Idealize.SL.Sem

namespace Cert.OddSRefIdeal.Stage

open Cert.OddSRefIdeal Cert.OddSRefIdeal.Read Cert.Stages

variable (x0 : FVec Ideal S8x8x4096 .f32) (x1 : FVec Ideal S2x4x4096 .f32) (x2 x3 : FVec Ideal S2x4096x11008 .f32)
  (x4 : FVec Ideal S2x11008x4096 .f32) (x5 : FVec Ideal S1x4096x9216 .f32)

theorem norm1 : val_main_v21 (F := Ideal) x0 x1 = rms (val_main_v0 (F := Ideal) x0) (val_main_v19 (F := Ideal) x1) := by
  funext i
  unfold rms
  generalize hX : val_main_v0 (F := Ideal) x0 = X
  generalize hG : val_main_v19 (F := Ideal) x1 = G
  pointwise [val_main_v21, val_main_v20, val_main_v18, val_main_v17, val_main_v16, val_main_v15, val_main_v14, val_main_v13,
    val_main_v12, val_main_v11, val_main_v10, val_main_v9, val_main_cst, val_main_cst_0, val_main_cst_1, hX, hG]

theorem gate : val_main_v25 (F := Ideal) x0 x1 x2 x3
    = up (val_main_v21 (F := Ideal) x0 x1) (val_main_v4 (F := Ideal) x2) (val_main_v6 (F := Ideal) x3) := by
  funext i
  unfold up mul
  generalize hX : val_main_v21 (F := Ideal) x0 x1 = X
  generalize hG : val_main_v4 (F := Ideal) x2 = G
  generalize hH : val_main_v6 (F := Ideal) x3 = H
  pointwise [val_main_v25, val_main_v24, val_main_v23, val_main_v22, val_main_call0_v0, val_main_call0_v1, val_main_call0_v2,
    val_main_call0_v3, val_main_call0_v4, val_main_call0_v5, val_main_call0_cst, val_main_call0_cst_0, hX, hG, hH]
  unfold Ideal.logistic
  rfl

theorem half_step : val_main_v29 (F := Ideal) x0 x1 x2 x3 x4
    = down (val_main_v25 (F := Ideal) x0 x1 x2 x3) (val_main_v8 (F := Ideal) x4) (val_main_v0 (F := Ideal) x0) := by
  funext i
  unfold down mul
  generalize hX : val_main_v25 (F := Ideal) x0 x1 x2 x3 = X
  generalize hG : val_main_v8 (F := Ideal) x4 = G
  generalize hH : val_main_v0 (F := Ideal) x0 = H
  pointwise [val_main_v29, val_main_v28, val_main_v27, val_main_v26, val_main_cst_2, hX, hG, hH]

theorem norm2 : val_main_v44 (F := Ideal) x0 x1 x2 x3 x4
    = rms (val_main_v29 (F := Ideal) x0 x1 x2 x3 x4) (val_main_v42 (F := Ideal) x1) := by
  funext i
  unfold rms
  generalize hX : val_main_v29 (F := Ideal) x0 x1 x2 x3 x4 = X
  generalize hG : val_main_v42 (F := Ideal) x1 = G
  pointwise [val_main_v44, val_main_v43, val_main_v41, val_main_v40, val_main_v39, val_main_v38, val_main_v37, val_main_v36,
    val_main_v35, val_main_v34, val_main_v33, val_main_v32, val_main_cst_3, val_main_cst_4, val_main_cst_5, hX, hG]

theorem in_proj : val_main_v46 (F := Ideal) x0 x1 x2 x3 x4 x5
    = mul (val_main_v44 (F := Ideal) x0 x1 x2 x3 x4) (val_main_v45 (F := Ideal) x5) := by
  funext i
  unfold mul
  generalize hX : val_main_v44 (F := Ideal) x0 x1 x2 x3 x4 = X
  generalize hG : val_main_v45 (F := Ideal) x5 = G
  pointwise [val_main_v46, hX, hG]

end Cert.OddSRefIdeal.Stage
-- ==== Proof.OddSRun.lean ====
module

public import proofs.«01_k».proof.Proof.OddSVal
public import proofs.«01_k».proof.Proof.OddSDown
public import proofs.«01_k».proof.Proof.OddSRef

/-! The first half of the layer's second block at the sample: the four results of the run are the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.OddSIdeal.Val

open Cert.OddSIdeal Cert.OddSIdeal.Gen Cert.Stages Cert.OddSRefIdeal.Read

variable (m : (ℓ : Loc nD τ sig) → Buf (Elt Ideal) ℓ) (ρ : Dev nD → PrngReg) (c : Dev nD)

/-- The arguments. -/
abbrev X0 : FVec Ideal S8x8x4096 .f32 := m ((c : Thread nD τ).loc main_arg0)
abbrev X1 : FVec Ideal S2x4x4096 .f32 := m ((c : Thread nD τ).loc main_arg1)
abbrev X2 : FVec Ideal S2x4096x11008 .f32 := m ((c : Thread nD τ).loc main_arg2)
abbrev X3 : FVec Ideal S2x4096x11008 .f32 := m ((c : Thread nD τ).loc main_arg3)
abbrev X4 : FVec Ideal S2x11008x4096 .f32 := m ((c : Thread nD τ).loc main_arg4)
abbrev X5 : FVec Ideal S1x4096x9216 .f32 := m ((c : Thread nD τ).loc main_arg5)

/-! ## What the host operations hand to the calls -/

theorem in_x : V1 m ρ c main_v0 = val_main_v0 (F := Ideal) (X0 m c) := by
  show StableHlo.after hostOps0 (W0 m ρ c) (Proc.devRef .tc main_v0) = _
  simp only [hostOps0]
  after_results_simp
  rfl

theorem in_g1 : V1 m ρ c main_v9 = val_main_v19 (F := Ideal) (X1 m c) := by
  show StableHlo.after hostOps0 (W0 m ρ c) (Proc.devRef .tc main_v9) = _
  simp only [hostOps0]
  after_results_simp
  show shapeCast S1x4096 (val_main_v2 (F := Ideal) (X1 m c)) shapeCasts_S4096_S1x4096 = _
  funext i
  pointwise [val_main_v19]

theorem in_w1 : V1 m ρ c main_v4 = val_main_v4 (F := Ideal) (X2 m c) := by
  show StableHlo.after hostOps0 (W0 m ρ c) (Proc.devRef .tc main_v4) = _
  simp only [hostOps0]
  after_results_simp
  rfl

theorem in_w3 : V1 m ρ c main_v6 = val_main_v6 (F := Ideal) (X3 m c) := by
  show StableHlo.after hostOps0 (W0 m ρ c) (Proc.devRef .tc main_v6) = _
  simp only [hostOps0]
  after_results_simp
  rfl

theorem in_w2 : V1 m ρ c main_v8 = val_main_v8 (F := Ideal) (X4 m c) := by
  show StableHlo.after hostOps0 (W0 m ρ c) (Proc.devRef .tc main_v8) = _
  simp only [hostOps0]
  after_results_simp
  rfl

/-! ## The calls, one after another -/

theorem out0 : V2 m ρ c main_v10 = val_main_v21 (F := Ideal) (X0 m c) (X1 m c) := by
  refine ((W2_arr m ρ c 2).trans (final0 (V1 m ρ) c)).trans ?_
  rw [Cert.OddSRefIdeal.Stage.norm1]
  exact congrArg₂ rms (in_x m ρ c) (in_g1 m ρ c)

theorem out1 : V3 m ρ c main_v11 = val_main_v25 (F := Ideal) (X0 m c) (X1 m c) (X2 m c) (X3 m c) := by
  refine ((W3_arr m ρ c 3).trans (final1 (V2 m ρ) c)).trans ?_
  rw [Cert.OddSRefIdeal.Stage.gate]
  have h1 : V2 m ρ c main_v4 = _ := (W2_of m ρ c main_v4 (by decide)).trans (in_w1 m ρ c)
  have h3 : V2 m ρ c main_v6 = _ := (W2_of m ρ c main_v6 (by decide)).trans (in_w3 m ρ c)
  exact congr (congrArg₂ up (out0 m ρ c) h1) h3

theorem out2 : V4 m ρ c main_v12 = val_main_v29 (F := Ideal) (X0 m c) (X1 m c) (X2 m c) (X3 m c) (X4 m c) := by
  refine ((W4_arr m ρ c 3).trans (final2 (V3 m ρ) c)).trans ?_
  rw [Cert.OddSRefIdeal.Stage.half_step]
  have h1 : V3 m ρ c main_v8 = _ := (W3_of m ρ c main_v8 (by decide)).trans ((W2_of m ρ c main_v8 (by decide)).trans (in_w2 m ρ c))
  have h3 : V3 m ρ c main_v0 = _ := (W3_of m ρ c main_v0 (by decide)).trans ((W2_of m ρ c main_v0 (by decide)).trans (in_x m ρ c))
  exact congr (congrArg₂ down (out1 m ρ c) h1) h3

theorem in_g2 : V5 m ρ c main_v15 = val_main_v42 (F := Ideal) (X1 m c) := by
  have e : W4 m ρ c (Proc.devRef .tc main_arg1) = X1 m c := W4_args m ρ c main_arg1 (by decide)
  show StableHlo.after hostOps3 (W4 m ρ c) (Proc.devRef .tc main_v15) = _
  simp only [hostOps3]
  after_results_simp
  rw [e]
  show shapeCast S1x4096 (val_main_v31 (F := Ideal) (X1 m c)) shapeCasts_S4096_S1x4096 = _
  funext i
  pointwise [val_main_v42]

theorem out3 : V6 m ρ c main_v16 = val_main_v44 (F := Ideal) (X0 m c) (X1 m c) (X2 m c) (X3 m c) (X4 m c) := by
  refine ((W6_arr m ρ c 2).trans (final3 (V5 m ρ) c)).trans ?_
  rw [Cert.OddSRefIdeal.Stage.norm2]
  have h1 : V5 m ρ c main_v12 = _ := (W5_of m ρ c main_v12 (by decide)).trans (out2 m ρ c)
  exact congrArg₂ rms h1 (in_g2 m ρ c)

/-- The in-projection's weights. -/
theorem in_w : V7 m ρ c main_v17 = val_main_v45 (F := Ideal) (X5 m c) := by
  have e : W6 m ρ c (Proc.devRef .tc main_arg5) = X5 m c := W6_args m ρ c main_arg5 (by decide)
  show StableHlo.after hostOps4 (W6 m ρ c) (Proc.devRef .tc main_v17) = _
  simp only [hostOps4]
  after_results_simp
  rw [e]
  rfl

theorem in_h4 : V7 m ρ c main_v16 = val_main_v44 (F := Ideal) (X0 m c) (X1 m c) (X2 m c) (X3 m c) (X4 m c) :=
  (W7_of m ρ c main_v16 (by decide)).trans (out3 m ρ c)

/-- The queries. -/
theorem out4 : V8 m ρ c main_v18 = val_main_v53 (F := Ideal) (X0 m c) (X1 m c) (X2 m c) (X3 m c) (X4 m c) (X5 m c) := by
  refine ((W8_arr m ρ c 2).trans (final4 (V7 m ρ) c)).trans ?_
  have e : cols 0 (N' := 3072) (N := 9216) (by decide) (V7 m ρ c main_v17) = _ := congrArg (cols 0 (by decide)) (in_w m ρ c)
  refine (congrArg₂ mul (in_h4 m ρ c) e).trans ?_
  funext i
  unfold val_main_v53 val_main_v52
  rw [Cert.OddSRefIdeal.Stage.in_proj]
  generalize val_main_v44 (F := Ideal) (X0 m c) (X1 m c) (X2 m c) (X3 m c) (X4 m c) = H
  generalize val_main_v45 (F := Ideal) (X5 m c) = U
  unfold mul cols
  pointwise

/-- The keys and values. -/
theorem out5 : V9 m ρ c main_v19_0 = val_main_v47 (F := Ideal) (X0 m c) (X1 m c) (X2 m c) (X3 m c) (X4 m c) (X5 m c) := by
  refine ((W9_arr m ρ c 2).trans (final5 (V8 m ρ) c)).trans ?_
  have h : V8 m ρ c main_v16 = _ := (W8_of m ρ c main_v16 (by decide)).trans (in_h4 m ρ c)
  have w : V8 m ρ c main_v17 = _ := (W8_of m ρ c main_v17 (by decide)).trans (in_w m ρ c)
  have e : cols 3072 (N' := 6144) (N := 9216) (by decide) (V8 m ρ c main_v17) = _ := congrArg (cols 3072 (by decide)) w
  refine (congrArg₂ mul h e).trans ?_
  funext i
  unfold val_main_v47
  rw [Cert.OddSRefIdeal.Stage.in_proj]
  generalize val_main_v44 (F := Ideal) (X0 m c) (X1 m c) (X2 m c) (X3 m c) (X4 m c) = H
  generalize val_main_v45 (F := Ideal) (X5 m c) = U
  unfold mul cols
  pointwise

/-! ## The results -/

theorem res_q : W10 m ρ c (Proc.devRef .tc main_v18) = val_main_v53 (F := Ideal) (X0 m c) (X1 m c) (X2 m c) (X3 m c) (X4 m c) (X5 m c) :=
  (W10_of m ρ c main_v18 (by decide)).trans ((W9_of m ρ c main_v18 (by decide)).trans (out4 m ρ c))

theorem res_c0 : W10 m ρ c (Proc.devRef .tc main_v22) = val_main_v49 (F := Ideal) (X0 m c) (X1 m c) (X2 m c) (X3 m c) (X4 m c) (X5 m c) := by
  have e : W9 m ρ c (Proc.devRef .tc main_v19_0) = _ := out5 m ρ c
  show StableHlo.after hostOps6 (W9 m ρ c) (Proc.devRef .tc main_v22) = _
  simp only [hostOps6]
  after_results_simp
  rw [e]
  unfold val_main_v49 val_main_v48
  generalize val_main_v47 (F := Ideal) (X0 m c) (X1 m c) (X2 m c) (X3 m c) (X4 m c) (X5 m c) = U
  funext i
  pointwise

theorem res_c1 : W10 m ρ c (Proc.devRef .tc main_v24) = val_main_v50 (F := Ideal) (X0 m c) (X1 m c) (X2 m c) (X3 m c) (X4 m c) (X5 m c) := by
  have e : W9 m ρ c (Proc.devRef .tc main_v19_0) = _ := out5 m ρ c
  show StableHlo.after hostOps6 (W9 m ρ c) (Proc.devRef .tc main_v24) = _
  simp only [hostOps6]
  after_results_simp
  rw [e]
  unfold val_main_v50 val_main_v48
  generalize val_main_v47 (F := Ideal) (X0 m c) (X1 m c) (X2 m c) (X3 m c) (X4 m c) (X5 m c) = U
  funext i
  pointwise

theorem res_c2 : W10 m ρ c (Proc.devRef .tc main_v26) = val_main_v51 (F := Ideal) (X0 m c) (X1 m c) (X2 m c) (X3 m c) (X4 m c) (X5 m c) := by
  have e : W9 m ρ c (Proc.devRef .tc main_v19_0) = _ := out5 m ρ c
  show StableHlo.after hostOps6 (W9 m ρ c) (Proc.devRef .tc main_v26) = _
  simp only [hostOps6]
  after_results_simp
  rw [e]
  unfold val_main_v51 val_main_v48
  generalize val_main_v47 (F := Ideal) (X0 m c) (X1 m c) (X2 m c) (X3 m c) (X4 m c) (X5 m c) = U
  funext i
  pointwise

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W10 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W10 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W10 m ρ d) s)
    isplitl [A] <;> iassumption

/-- Every run ends with the reference's four results, and with the arguments as they were. -/
theorem run : θ_run defs (onTc (τ := τ) (main (F := Ideal))) ⟨m, fun _ => 0, ρ⟩ (fun r => ∀ d : Dev nD,
      r.2.mem ((d.tc : Thread nD τ).loc main_v18) = val_main_v53 (F := Ideal) (X0 m d) (X1 m d) (X2 m d) (X3 m d) (X4 m d) (X5 m d)
      ∧ r.2.mem ((d.tc : Thread nD τ).loc main_v22) = val_main_v49 (F := Ideal) (X0 m d) (X1 m d) (X2 m d) (X3 m d) (X4 m d) (X5 m d)
      ∧ r.2.mem ((d.tc : Thread nD τ).loc main_v24) = val_main_v50 (F := Ideal) (X0 m d) (X1 m d) (X2 m d) (X3 m d) (X4 m d) (X5 m d)
      ∧ r.2.mem ((d.tc : Thread nD τ).loc main_v26) = val_main_v51 (F := Ideal) (X0 m d) (X1 m d) (X2 m d) (X3 m d) (X4 m d) (X5 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)) :=
  (θ_run _ _ _).mono (fun r h d =>
    ⟨(h d _ (mem_uc main_v18 (by decide))).trans (res_q m ρ d),
     (h d _ (mem_uc main_v22 (by decide))).trans (res_c0 m ρ d),
     (h d _ (mem_uc main_v24 (by decide))).trans (res_c1 m ρ d),
     (h d _ (mem_uc main_v26 (by decide))).trans (res_c2 m ρ d),
     (h d _ (mem_uc main_arg0 (by decide))).trans (W10_main_arg0 m ρ d),
     (h d _ (mem_uc main_arg1 (by decide))).trans (W10_main_arg1 m ρ d),
     (h d _ (mem_uc main_arg2 (by decide))).trans (W10_main_arg2 m ρ d),
     (h d _ (mem_uc main_arg3 (by decide))).trans (W10_main_arg3 m ρ d),
     (h d _ (mem_uc main_arg4 (by decide))).trans (W10_main_arg4 m ρ d),
     (h d _ (mem_uc main_arg5 (by decide))).trans (W10_main_arg5 m ρ d)⟩) (run_all m ρ)

end Cert.OddSIdeal.Val
-- ==== Proof.TailVal.lean ====
module

public import proofs.«01_k».proof.Proof.Layer
public import proofs.«01_k».proof.Proof.Gen.TailIdeal.Frame

/-! The end of the layer's second block at the prompt: what each tiled call leaves in its array. -/

@[expose] public section

set_option maxRecDepth 16384

noncomputable section

open Idealize.ShloMosaic Idealize.ShloMosaic.TcCoe Idealize.SL.Sem
open Idealize.ShloMosaic.Pipeline (Dat)

namespace Cert.TailIdeal.Val

open Cert.TailIdeal Cert.TailIdeal.Gen Cert.Stages

variable (V : (c : Dev nD) → (b : Ref sig .tc) → Buf (Elt Ideal) ((c : Thread nD τ).loc b))

/-! ## The mixer's output projection -/

theorem idx0 : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

theorem final0 (c : Dev nD) : (dat0 V c).arrAt 3 cfg0.N = resid (V c main_arg1) (V c main_v1) (V c main_v0) := by
  refine (dat0 V c).arrAt_eq_of_covers 3 _ (by decide +kernel) fun t _ y => ?_
  blk_simp
  rw [after0_3]; frame_out
  unfold resid mul
  pointwise [k0_pay1]
  blk_point [iblk0, idx0 t]

/-! ## The norm before the half-step -/

theorem idx1 : ∀ t : Fin cfg1.N, win1_0.index t = ![t.val, 0] ∧ win1_1.index t = ![0, 0] ∧ win1_2.index t = ![t.val, 0] :=
  (by decide +kernel : ∀ t : Fin grid1.N, _)

theorem final1 (c : Dev nD) : (dat1 V c).arrAt 2 cfg1.N = rms (V c main_v2) (V c main_v11) := by
  refine (dat1 V c).arrAt_eq_of_covers 2 _ (by decide +kernel) fun t _ y => ?_
  blk_simp
  rw [after1_2]; frame_out
  unfold rms
  pointwise [k1_pay1]
  blk_point [iblk1, idx1 t]

/-! ## The gated up projection -/

theorem idx2 : ∀ t : Fin cfg2.N, win2_0.index t = ![t.val / 43, 0] ∧ win2_1.index t = ![0, t.val % 43]
    ∧ win2_2.index t = ![0, t.val % 43] ∧ win2_3.index t = ![t.val / 43, t.val % 43] :=
  (by decide +kernel : ∀ t : Fin grid2.N, _)

theorem final2 (c : Dev nD) : (dat2 V c).arrAt 3 cfg2.N = up (V c main_v12) (V c main_v6) (V c main_v8) := by
  refine (dat2 V c).arrAt_eq_of_covers 3 _ (by decide +kernel) fun t _ y => ?_
  blk_simp
  rw [after2_3]; frame_out
  unfold up mul
  pointwise [k2_pay1]
  blk_point [iblk2, idx2 t]

/-! ## The norm before the gate -/

theorem idx4 : ∀ t : Fin cfg4.N, win4_0.index t = ![t.val, 0] ∧ win4_1.index t = ![0, 0] ∧ win4_2.index t = ![t.val, 0] :=
  (by decide +kernel : ∀ t : Fin grid4.N, _)

theorem final4 (c : Dev nD) : (dat4 V c).arrAt 2 cfg4.N = rms (V c main_v14) (V c main_v24) := by
  refine (dat4 V c).arrAt_eq_of_covers 2 _ (by decide +kernel) fun t _ y => ?_
  blk_simp
  rw [after4_2]; frame_out
  unfold rms
  pointwise [k4_pay1]
  blk_point [iblk4, idx4 t]

/-! ## The gated input embedding -/

theorem idx5 : ∀ t : Fin cfg5.N, win5_0.index t = ![t.val / 16, 0] ∧ win5_1.index t = ![0, t.val % 16]
    ∧ win5_2.index t = ![t.val / 16, t.val % 16] ∧ win5_3.index t = ![t.val / 16, 0]
    ∧ win5_4.index t = ![0, t.val % 16] ∧ win5_5.index t = ![t.val / 16, t.val % 16] :=
  (by decide +kernel : ∀ t : Fin grid5.N, _)

theorem final5 (c : Dev nD) : (dat5 V c).arrAt 5 cfg5.N
    = gated (V c main_v25) (V c main_v21) (V c main_v14) (V c main_v26) (V c main_v23) := by
  refine (dat5 V c).arrAt_eq_of_covers 5 _ (by decide +kernel) fun t _ y => ?_
  blk_simp
  rw [after5_5]; frame_out
  unfold gated mul
  pointwise [k5_pay1]
  blk_point [iblk5, idx5 t]

/-! ## The last norm -/

theorem idx6 : ∀ t : Fin cfg6.N, win6_0.index t = ![t.val, 0] ∧ win6_1.index t = ![0, 0] ∧ win6_2.index t = ![t.val, 0] :=
  (by decide +kernel : ∀ t : Fin grid6.N, _)

theorem final6 (c : Dev nD) : (dat6 V c).arrAt 2 cfg6.N = rms (V c main_v27) (V c main_v28) := by
  refine (dat6 V c).arrAt_eq_of_covers 2 _ (by decide +kernel) fun t _ y => ?_
  blk_simp
  rw [after6_2]; frame_out
  unfold rms
  pointwise [k6_pay1]
  blk_point [iblk6, idx6 t]

end Cert.TailIdeal.Val
-- ==== Proof.TailDown.lean ====
module

public import proofs.«01_k».proof.Proof.Stages
public import proofs.«01_k».proof.Proof.Gen.TailIdeal.Frame

/-! The down projection of the second block's last half-step at the prompt: what its tiled call leaves in its array. -/

@[expose] public section

set_option maxRecDepth 16384

noncomputable section

open Idealize.ShloMosaic Idealize.ShloMosaic.TcCoe Idealize.SL.Sem
open Idealize.ShloMosaic.Pipeline (Dat)

namespace Cert.TailIdeal.Val

open Cert.TailIdeal Cert.TailIdeal.Gen Cert.Stages

variable (V : (c : Dev nD) → (b : Ref sig .tc) → Buf (Elt Ideal) ((c : Thread nD τ).loc b))

/-! ## The down projection -/

theorem idx3 : ∀ t : Fin cfg3.N, win3_0.index t = ![t.val / 172, t.val % 43]
    ∧ win3_1.index t = ![t.val % 43, t.val / 43 % 4]
    ∧ win3_2.index t = ![t.val / 172, t.val / 43 % 4]
    ∧ win3_3.index t = ![t.val / 172, t.val / 43 % 4] :=
  (by decide +kernel : ∀ t : Fin grid3.N, _)

/-- Half the product of two blocks at an index. -/
def prod3 (a : FVec Ideal S2048x256 .bf16) (w : FVec Ideal S256x1024 .f32) (y : S2048x1024.Idx) : EReal :=
  half * ∑ k : Fin 256, (a (ix2 (y 0) k) * w (ix2 k (y 1)) : EReal)

theorem pay2 (acc : FVec Ideal S2048x1024 .f32) (a : FVec Ideal S2048x256 .bf16) (w : FVec Ideal S256x1024 .f32)
    (y : S2048x1024.Idx) : k3_pay2 acc a w y = acc y + prod3 a w y := by
  unfold prod3
  pointwise [k3_pay2]

theorem pay1 (v : FVec Ideal S2048x1024 .f32) : k3_pay1 v = v := shapeCast_self _ _

/-- Half the block product that grid point `n` adds. -/
def part3 (c : Dev nD) (n : ℕ) (y : S2048x1024.Idx) : EReal :=
  if h : n < cfg3.N then prod3 (iblk3 V c 0 ⟨n, h⟩) (iblk3 V c 1 ⟨n, h⟩) y else 0

/-- The residual block of grid point `n`, at an index. -/
def base3 (c : Dev nD) (n : ℕ) (y : S2048x1024.Idx) : EReal :=
  if h : n < cfg3.N then (show FVec Ideal S2048x1024 .f32 from iblk3 V c 2 ⟨n, h⟩) y else 0

/-- After a point the block holds its residual block plus the half products of its run so far. -/
theorem outs3 (c : Dev nD) (t : Fin cfg3.N) (y : S2048x1024.Idx) : (outsAt3 V c t.val t.isLt y : EReal)
    = base3 V c (43 * (t.val / 43)) y + ∑ s ∈ Finset.range (t.val % 43 + 1), part3 V c (43 * (t.val / 43) + s) y := by
  refine run_sum (fun n h y => (outsAt3 V c n h y : EReal)) (base3 V c) (part3 V c) (by decide) ?_ ?_ t.val t.isLt y
  · intro n h hn y
    show (outsAt3 V c n h y : EReal) = _
    rw [outsAt3_A V c ⟨n, h⟩ hn]; frame_out
    unfold part3 base3
    rw [dif_pos h, dif_pos h]
    rw [pay1]
    exact pay2 _ _ _ y
  · intro n h hn y
    show (outsAt3 V c (n + 1) h y : EReal) = _
    rw [outsAt3_B V c ⟨n + 1, h⟩ hn]; frame_out
    unfold part3
    rw [dif_pos h]
    exact pay2 _ _ _ y

theorem base3_eq (c : Dev nD) (t : Fin cfg3.N) (ht : t.val % 43 = 42) (y : S2048x1024.Idx) :
    base3 V c (43 * (t.val / 43)) y = V c main_v2 (((cfg3.win 3).blk t).view.emb y) := by
  have hN : t.val < cfg3.N := t.isLt
  have hb : 43 * (t.val / 43) < cfg3.N := by omega
  unfold base3
  rw [dif_pos hb]
  blk_point [iblk3, idx3 t, idx3 ⟨43 * (t.val / 43), hb⟩]

theorem part3_eq (c : Dev nD) (t : Fin cfg3.N) (ht : t.val % 43 = 42) (s : Fin 43) (y : S2048x1024.Idx) :
    part3 V c (43 * (t.val / 43) + s.val) y
      = ∑ k : Fin 256, term (V c main_v13) (V c main_v10) (((cfg3.win 3).blk t).view.emb y) ⟨s.val * 256 + k.val, by omega⟩ := by
  have hN : t.val < cfg3.N := t.isLt
  have hs : 43 * (t.val / 43) + s.val < cfg3.N := by omega
  unfold part3
  rw [dif_pos hs]
  unfold prod3 term
  rw [half_mul_sum]
  refine Finset.sum_congr rfl fun k _ => ?_
  blk_point [iblk3, idx3 t, idx3 ⟨43 * (t.val / 43) + s.val, hs⟩]

theorem final3 (c : Dev nD) : (dat3 V c).arrAt 3 cfg3.N = down (V c main_v13) (V c main_v10) (V c main_v2) := by
  refine (dat3 V c).arrAt_eq_of_covers 3 _ (by decide +kernel) fun t hf y => ?_
  have ht : t.val % 43 = 42 := (flush3_3 t).mp hf
  blk_simp
  rw [after3_3]
  refine (outs3 V c t y).trans ?_
  rw [ht, down_eq, base3_eq V c t ht y]
  refine congrArg (HAdd.hAdd (α := EReal) _) ?_
  rw [← Fin.sum_univ_eq_sum_range (fun s => part3 V c (43 * (t.val / 43) + s) y) 43]
  refine (Finset.sum_congr rfl fun s _ => part3_eq V c t ht s y).trans ?_
  exact Fin.sum_mul_add_congr fun s k hl => rfl

end Cert.TailIdeal.Val
-- ==== Proof.TailRef.lean ====
module

public import proofs.«01_k».proof.Proof.Layer
public import proofs.«01_k».proof.Proof.Gen.TailRefIdeal.Read

/-! The reference of the end of the layer's second block at the prompt, stage by stage. -/

@[expose] public section

set_option maxRecDepth 16384

noncomputable section

open Idealize.ShloMosaic Idealize.ShloMosaic.TcCoe Idealize.SL.Sem

namespace Cert.TailRefIdeal.Stage

open Cert.TailRefIdeal Cert.TailRefIdeal.Read Cert.Stages

variable (x0 : FVec Ideal S4x2048x4096 .f32) (x1 : FVec Ideal S8192x1024 .bf16) (x2 : FVec Ideal S2x4x2048x256 .f32)
  (x3 : FVec Ideal S2x4x4096 .f32) (x4 : FVec Ideal S4096 .f32) (x5 x6 : FVec Ideal S2x4096x11008 .f32)
  (x7 : FVec Ideal S2x11008x4096 .f32) (x8 : FVec Ideal S2x4096x4096 .f32) (x9 : FVec Ideal S2x256x4096 .f32)
  (x10 : FVec Ideal S1x1024x4096 .f32)

/-- The mixer's output projection with its residual. -/
theorem mixed : val_main_v4 (F := Ideal) x0 x1 x10 = resid x1 (val_main_v2 (F := Ideal) x10) (val_main_v0 (F := Ideal) x0) := by
  funext i
  unfold resid mul
  generalize hX : val_main_v0 (F := Ideal) x0 = X
  generalize hG : val_main_v2 (F := Ideal) x10 = G
  pointwise [val_main_v4, val_main_v3, val_main_v1, hX, hG]

/-- The norm before the half-step. -/
theorem norm1 : val_main_v25 (F := Ideal) x0 x1 x3 x10 = rms (val_main_v4 (F := Ideal) x0 x1 x10) (val_main_v23 (F := Ideal) x3) := by
  funext i
  unfold rms
  generalize hX : val_main_v4 (F := Ideal) x0 x1 x10 = X
  generalize hG : val_main_v23 (F := Ideal) x3 = G
  pointwise [val_main_v25, val_main_v24, val_main_v22, val_main_v21, val_main_v20, val_main_v19, val_main_v18, val_main_v17, val_main_v16, val_main_v15, val_main_v14, val_main_v13,
    val_main_cst, val_main_cst_0, val_main_cst_1, hX, hG]

/-- The gated up projection. -/
theorem gate : val_main_v29 (F := Ideal) x0 x1 x3 x5 x6 x10
    = up (val_main_v25 (F := Ideal) x0 x1 x3 x10) (val_main_v8 (F := Ideal) x5) (val_main_v10 (F := Ideal) x6) := by
  funext i
  unfold up mul
  generalize hX : val_main_v25 (F := Ideal) x0 x1 x3 x10 = X
  generalize hG : val_main_v8 (F := Ideal) x5 = G
  generalize hH : val_main_v10 (F := Ideal) x6 = H
  pointwise [val_main_v29, val_main_v28, val_main_v27, val_main_v26, val_main_call0_v0, val_main_call0_v1, val_main_call0_v2,
    val_main_call0_v3, val_main_call0_v4, val_main_call0_v5, val_main_call0_cst, val_main_call0_cst_0, hX, hG, hH]
  unfold Ideal.logistic
  rfl

/-- The half-step. -/
theorem half_step : val_main_v33 (F := Ideal) x0 x1 x3 x5 x6 x7 x10
    = down (val_main_v29 (F := Ideal) x0 x1 x3 x5 x6 x10) (val_main_v12 (F := Ideal) x7) (val_main_v4 (F := Ideal) x0 x1 x10) := by
  funext i
  unfold down mul
  generalize hX : val_main_v29 (F := Ideal) x0 x1 x3 x5 x6 x10 = X
  generalize hG : val_main_v12 (F := Ideal) x7 = G
  generalize hH : val_main_v4 (F := Ideal) x0 x1 x10 = H
  pointwise [val_main_v33, val_main_v32, val_main_v31, val_main_v30, val_main_cst_2, hX, hG, hH]

/-- The norm before the gate. -/
theorem norm2 : val_main_v48 (F := Ideal) x0 x1 x3 x5 x6 x7 x10 = rms (val_main_v33 (F := Ideal) x0 x1 x3 x5 x6 x7 x10) (val_main_v46 (F := Ideal) x3) := by
  funext i
  unfold rms
  generalize hX : val_main_v33 (F := Ideal) x0 x1 x3 x5 x6 x7 x10 = X
  generalize hG : val_main_v46 (F := Ideal) x3 = G
  pointwise [val_main_v48, val_main_v47, val_main_v45, val_main_v44, val_main_v43, val_main_v42, val_main_v41, val_main_v40, val_main_v39, val_main_v38, val_main_v37, val_main_v36,
    val_main_cst_3, val_main_cst_4, val_main_cst_5, hX, hG]

/-- The gated input embedding. -/
theorem embed : val_main_v65 (F := Ideal) x0 x1 x2 x3 x5 x6 x7 x8 x9 x10
    = gated (val_main_v48 (F := Ideal) x0 x1 x3 x5 x6 x7 x10) (val_main_v50 (F := Ideal) x8) (val_main_v33 (F := Ideal) x0 x1 x3 x5 x6 x7 x10) (val_main_v60 (F := Ideal) x2) (val_main_v62 (F := Ideal) x9) := by
  funext i
  unfold gated mul
  generalize hX : val_main_v48 (F := Ideal) x0 x1 x3 x5 x6 x7 x10 = X
  generalize hG : val_main_v50 (F := Ideal) x8 = G
  generalize hR : val_main_v33 (F := Ideal) x0 x1 x3 x5 x6 x7 x10 = R
  generalize hP : val_main_v60 (F := Ideal) x2 = P
  generalize hH : val_main_v62 (F := Ideal) x9 = H
  pointwise [val_main_v65, val_main_v64, val_main_v63, val_main_v57, val_main_v56, val_main_v55, val_main_v54, val_main_v53, val_main_v52, val_main_v51, val_main_cst_6, val_main_cst_7, hX, hG, hR, hP, hH]
  unfold Ideal.logistic
  rfl

/-- The last norm. -/
theorem norm3 : val_main_v78 (F := Ideal) x0 x1 x2 x3 x4 x5 x6 x7 x8 x9 x10 = rms (val_main_v65 (F := Ideal) x0 x1 x2 x3 x5 x6 x7 x8 x9 x10) (val_main_v76 (F := Ideal) x4) := by
  funext i
  unfold rms
  generalize hX : val_main_v65 (F := Ideal) x0 x1 x2 x3 x5 x6 x7 x8 x9 x10 = X
  generalize hG : val_main_v76 (F := Ideal) x4 = G
  pointwise [val_main_v78, val_main_v77, val_main_v75, val_main_v74, val_main_v73, val_main_v72, val_main_v71, val_main_v70, val_main_v69, val_main_v68, val_main_v67, val_main_v66,
    val_main_cst_8, val_main_cst_9, val_main_cst_10, hX, hG]

end Cert.TailRefIdeal.Stage
-- ==== Proof.TailRun.lean ====
module

public import proofs.«01_k».proof.Proof.TailVal
public import proofs.«01_k».proof.Proof.TailDown
public import proofs.«01_k».proof.Proof.TailRef

/-! The end of the layer's second block at the prompt: the result of the run is the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.TailIdeal.Val

open Cert.TailIdeal Cert.TailIdeal.Gen Cert.Stages Cert.TailRefIdeal.Read

variable (m : (ℓ : Loc nD τ sig) → Buf (Elt Ideal) ℓ) (ρ : Dev nD → PrngReg) (c : Dev nD)

/-- The arguments. -/
abbrev X0 : FVec Ideal S4x2048x4096 .f32 := m ((c : Thread nD τ).loc main_arg0)
abbrev X1 : FVec Ideal S8192x1024 .bf16 := m ((c : Thread nD τ).loc main_arg1)
abbrev X2 : FVec Ideal S2x4x2048x256 .f32 := m ((c : Thread nD τ).loc main_arg2)
abbrev X3 : FVec Ideal S2x4x4096 .f32 := m ((c : Thread nD τ).loc main_arg3)
abbrev X4 : FVec Ideal S4096 .f32 := m ((c : Thread nD τ).loc main_arg4)
abbrev X5 : FVec Ideal S2x4096x11008 .f32 := m ((c : Thread nD τ).loc main_arg5)
abbrev X6 : FVec Ideal S2x4096x11008 .f32 := m ((c : Thread nD τ).loc main_arg6)
abbrev X7 : FVec Ideal S2x11008x4096 .f32 := m ((c : Thread nD τ).loc main_arg7)
abbrev X8 : FVec Ideal S2x4096x4096 .f32 := m ((c : Thread nD τ).loc main_arg8)
abbrev X9 : FVec Ideal S2x256x4096 .f32 := m ((c : Thread nD τ).loc main_arg9)
abbrev X10 : FVec Ideal S1x1024x4096 .f32 := m ((c : Thread nD τ).loc main_arg10)

/-! ## What the host operations hand to the calls -/

theorem in_x : V1 m ρ c main_v0 = val_main_v0 (F := Ideal) (X0 m c) := by
  show StableHlo.after hostOps0 (W0 m ρ c) (Proc.devRef .tc main_v0) = _
  simp only [hostOps0]
  after_results_simp
  rfl

theorem in_wo : V1 m ρ c main_v1 = val_main_v2 (F := Ideal) (X10 m c) := by
  show StableHlo.after hostOps0 (W0 m ρ c) (Proc.devRef .tc main_v1) = _
  simp only [hostOps0]
  after_results_simp
  rfl

/-- The mixer's output projection with its residual. -/
theorem out0 : V2 m ρ c main_v2 = val_main_v4 (F := Ideal) (X0 m c) (X1 m c) (X10 m c) := by
  refine ((W2_arr m ρ c 3).trans (final0 (V1 m ρ) c)).trans ?_
  rw [Cert.TailRefIdeal.Stage.mixed]
  have h : V1 m ρ c main_arg1 = X1 m c := W1_args m ρ c main_arg1 (by decide)
  exact congr (congrArg₂ resid h (in_wo m ρ c)) (in_x m ρ c)

/-! ## The half-step -/

theorem in_g1 : V3 m ρ c main_v11 = val_main_v23 (F := Ideal) (X3 m c) := by
  have e : W2 m ρ c (Proc.devRef .tc main_arg3) = X3 m c := W2_args m ρ c main_arg3 (by decide)
  show StableHlo.after hostOps1 (W2 m ρ c) (Proc.devRef .tc main_v11) = _
  simp only [hostOps1]
  after_results_simp
  rw [e]
  show shapeCast S1x4096 (val_main_v6 (F := Ideal) (X3 m c)) shapeCasts_S4096_S1x4096 = _
  funext i
  pointwise [val_main_v23]

theorem in_w1 : V3 m ρ c main_v6 = val_main_v8 (F := Ideal) (X5 m c) := by
  have e : W2 m ρ c (Proc.devRef .tc main_arg5) = X5 m c := W2_args m ρ c main_arg5 (by decide)
  show StableHlo.after hostOps1 (W2 m ρ c) (Proc.devRef .tc main_v6) = _
  simp only [hostOps1]
  after_results_simp
  rw [e]
  rfl

theorem in_w3 : V3 m ρ c main_v8 = val_main_v10 (F := Ideal) (X6 m c) := by
  have e : W2 m ρ c (Proc.devRef .tc main_arg6) = X6 m c := W2_args m ρ c main_arg6 (by decide)
  show StableHlo.after hostOps1 (W2 m ρ c) (Proc.devRef .tc main_v8) = _
  simp only [hostOps1]
  after_results_simp
  rw [e]
  rfl

theorem in_w2 : V3 m ρ c main_v10 = val_main_v12 (F := Ideal) (X7 m c) := by
  have e : W2 m ρ c (Proc.devRef .tc main_arg7) = X7 m c := W2_args m ρ c main_arg7 (by decide)
  show StableHlo.after hostOps1 (W2 m ρ c) (Proc.devRef .tc main_v10) = _
  simp only [hostOps1]
  after_results_simp
  rw [e]
  rfl

/-- The norm before the half-step. -/
theorem out1 : V4 m ρ c main_v12 = val_main_v25 (F := Ideal) (X0 m c) (X1 m c) (X3 m c) (X10 m c) := by
  refine ((W4_arr m ρ c 2).trans (final1 (V3 m ρ) c)).trans ?_
  rw [Cert.TailRefIdeal.Stage.norm1]
  have h0 : V3 m ρ c main_v2 = _ := (W3_of m ρ c main_v2 (by decide)).trans (out0 m ρ c)
  have h1 : V3 m ρ c main_v11 = _ := in_g1 m ρ c
  exact congrArg₂ rms h0 h1

/-- The gated up projection. -/
theorem out2 : V5 m ρ c main_v13 = val_main_v29 (F := Ideal) (X0 m c) (X1 m c) (X3 m c) (X5 m c) (X6 m c) (X10 m c) := by
  refine ((W5_arr m ρ c 3).trans (final2 (V4 m ρ) c)).trans ?_
  rw [Cert.TailRefIdeal.Stage.gate]
  have h0 : V4 m ρ c main_v12 = _ := out1 m ρ c
  have h1 : V4 m ρ c main_v6 = _ := (W4_of m ρ c main_v6 (by decide)).trans (in_w1 m ρ c)
  have h2 : V4 m ρ c main_v8 = _ := (W4_of m ρ c main_v8 (by decide)).trans (in_w3 m ρ c)
  exact congr (congrArg₂ up h0 h1) h2

/-- The half-step. -/
theorem out3 : V6 m ρ c main_v14 = val_main_v33 (F := Ideal) (X0 m c) (X1 m c) (X3 m c) (X5 m c) (X6 m c) (X7 m c) (X10 m c) := by
  refine ((W6_arr m ρ c 3).trans (final3 (V5 m ρ) c)).trans ?_
  rw [Cert.TailRefIdeal.Stage.half_step]
  have h0 : V5 m ρ c main_v13 = _ := out2 m ρ c
  have h1 : V5 m ρ c main_v10 = _ := (W5_of m ρ c main_v10 (by decide)).trans ((W4_of m ρ c main_v10 (by decide)).trans (in_w2 m ρ c))
  have h2 : V5 m ρ c main_v2 = _ := (W5_of m ρ c main_v2 (by decide)).trans ((W4_of m ρ c main_v2 (by decide)).trans ((W3_of m ρ c main_v2 (by decide)).trans (out0 m ρ c)))
  exact congr (congrArg₂ down h0 h1) h2

/-! ## The gated input embedding -/

theorem in_g2 : V7 m ρ c main_v24 = val_main_v46 (F := Ideal) (X3 m c) := by
  have e : W6 m ρ c (Proc.devRef .tc main_arg3) = X3 m c := W6_args m ρ c main_arg3 (by decide)
  show StableHlo.after hostOps4 (W6 m ρ c) (Proc.devRef .tc main_v24) = _
  simp only [hostOps4]
  after_results_simp
  rw [e]
  show shapeCast S1x4096 (val_main_v35 (F := Ideal) (X3 m c)) shapeCasts_S4096_S1x4096 = _
  funext i
  pointwise [val_main_v46]

theorem in_wg : V7 m ρ c main_v21 = val_main_v50 (F := Ideal) (X8 m c) := by
  have e : W6 m ρ c (Proc.devRef .tc main_arg8) = X8 m c := W6_args m ρ c main_arg8 (by decide)
  show StableHlo.after hostOps4 (W6 m ρ c) (Proc.devRef .tc main_v21) = _
  simp only [hostOps4]
  after_results_simp
  rw [e]
  rfl

theorem in_wp : V7 m ρ c main_v23 = val_main_v62 (F := Ideal) (X9 m c) := by
  have e : W6 m ρ c (Proc.devRef .tc main_arg9) = X9 m c := W6_args m ρ c main_arg9 (by decide)
  show StableHlo.after hostOps4 (W6 m ρ c) (Proc.devRef .tc main_v23) = _
  simp only [hostOps4]
  after_results_simp
  rw [e]
  rfl

/-- The norm before the gate. -/
theorem out4 : V8 m ρ c main_v25 = val_main_v48 (F := Ideal) (X0 m c) (X1 m c) (X3 m c) (X5 m c) (X6 m c) (X7 m c) (X10 m c) := by
  refine ((W8_arr m ρ c 2).trans (final4 (V7 m ρ) c)).trans ?_
  rw [Cert.TailRefIdeal.Stage.norm2]
  have h0 : V7 m ρ c main_v14 = _ := (W7_of m ρ c main_v14 (by decide)).trans (out3 m ρ c)
  have h1 : V7 m ρ c main_v24 = _ := in_g2 m ρ c
  exact congrArg₂ rms h0 h1

/-- The input embeddings of the block. -/
theorem in_p0 : V7 m ρ c main_v17 = val_main_v60 (F := Ideal) (X2 m c) := by
  have e : W6 m ρ c (Proc.devRef .tc main_arg2) = X2 m c := W6_args m ρ c main_arg2 (by decide)
  show StableHlo.after hostOps4 (W6 m ρ c) (Proc.devRef .tc main_v17) = _
  simp only [hostOps4]
  after_results_simp
  rw [e]
  generalize X2 m c = P
  funext i
  pointwise [val_main_v60, val_main_v59, val_main_v58]

theorem in_p : V9 m ρ c main_v26 = val_main_v60 (F := Ideal) (X2 m c) := by
  have e : W8 m ρ c (Proc.devRef .tc main_v17) = _ := (W8_of m ρ c main_v17 (by decide)).trans (in_p0 m ρ c)
  show StableHlo.after hostOps5 (W8 m ρ c) (Proc.devRef .tc main_v26) = _
  simp only [hostOps5]
  after_results_simp
  rw [e]
  rfl

/-- The gated input embedding. -/
theorem out5 : V10 m ρ c main_v27 = val_main_v65 (F := Ideal) (X0 m c) (X1 m c) (X2 m c) (X3 m c) (X5 m c) (X6 m c) (X7 m c) (X8 m c) (X9 m c) (X10 m c) := by
  refine ((W10_arr m ρ c 5).trans (final5 (V9 m ρ) c)).trans ?_
  rw [Cert.TailRefIdeal.Stage.embed]
  have h0 : V9 m ρ c main_v25 = _ := (W9_of m ρ c main_v25 (by decide)).trans (out4 m ρ c)
  have h1 : V9 m ρ c main_v21 = _ := (W9_of m ρ c main_v21 (by decide)).trans ((W8_of m ρ c main_v21 (by decide)).trans (in_wg m ρ c))
  have h2 : V9 m ρ c main_v14 = _ := (W9_of m ρ c main_v14 (by decide)).trans ((W8_of m ρ c main_v14 (by decide)).trans ((W7_of m ρ c main_v14 (by decide)).trans (out3 m ρ c)))
  have h3 : V9 m ρ c main_v26 = _ := in_p m ρ c
  have h4 : V9 m ρ c main_v23 = _ := (W9_of m ρ c main_v23 (by decide)).trans ((W8_of m ρ c main_v23 (by decide)).trans (in_wp m ρ c))
  exact congr (congr (congr (congrArg₂ gated h0 h1) h2) h3) h4

/-! ## The last norm -/

theorem in_g3 : V11 m ρ c main_v28 = val_main_v76 (F := Ideal) (X4 m c) := by
  have e : W10 m ρ c (Proc.devRef .tc main_arg4) = X4 m c := W10_args m ρ c main_arg4 (by decide)
  show StableHlo.after hostOps6 (W10 m ρ c) (Proc.devRef .tc main_v28) = _
  simp only [hostOps6]
  after_results_simp
  rw [e]
  funext i
  pointwise [val_main_v76]

/-- The last norm. -/
theorem out6 : V12 m ρ c main_v29 = val_main_v78 (F := Ideal) (X0 m c) (X1 m c) (X2 m c) (X3 m c) (X4 m c) (X5 m c) (X6 m c) (X7 m c) (X8 m c) (X9 m c) (X10 m c) := by
  refine ((W12_arr m ρ c 2).trans (final6 (V11 m ρ) c)).trans ?_
  rw [Cert.TailRefIdeal.Stage.norm3]
  have h0 : V11 m ρ c main_v27 = _ := (W11_of m ρ c main_v27 (by decide)).trans (out5 m ρ c)
  have h1 : V11 m ρ c main_v28 = _ := in_g3 m ρ c
  exact congrArg₂ rms h0 h1

theorem res_y : W13 m ρ c (Proc.devRef .tc main_v30) = val_main_v79 (F := Ideal) (X0 m c) (X1 m c) (X2 m c) (X3 m c) (X4 m c) (X5 m c) (X6 m c) (X7 m c) (X8 m c) (X9 m c) (X10 m c) := by
  have e : W12 m ρ c (Proc.devRef .tc main_v29) = _ := out6 m ρ c
  show StableHlo.after hostOps7 (W12 m ρ c) (Proc.devRef .tc main_v30) = _
  simp only [hostOps7]
  after_results_simp
  rw [e]
  rfl

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W13 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W13 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W13 m ρ d) s)
    isplitl [A] <;> iassumption

/-- Every run ends with the reference's result, and with the arguments as they were. -/
theorem run : θ_run defs (onTc (τ := τ) (main (F := Ideal))) ⟨m, fun _ => 0, ρ⟩ (fun r => ∀ d : Dev nD,
      r.2.mem ((d.tc : Thread nD τ).loc main_v30) = val_main_v79 (F := Ideal) (X0 m d) (X1 m d) (X2 m d) (X3 m d) (X4 m d) (X5 m d) (X6 m d) (X7 m d) (X8 m d) (X9 m d) (X10 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)) :=
  (θ_run _ _ _).mono (fun r h d =>
    ⟨(h d _ (mem_uc main_v30 (by decide))).trans (res_y m ρ d),
     (h d _ (mem_uc main_arg0 (by decide))).trans (W13_main_arg0 m ρ d),
     (h d _ (mem_uc main_arg1 (by decide))).trans (W13_main_arg1 m ρ d),
     (h d _ (mem_uc main_arg2 (by decide))).trans (W13_main_arg2 m ρ d),
     (h d _ (mem_uc main_arg3 (by decide))).trans (W13_main_arg3 m ρ d),
     (h d _ (mem_uc main_arg4 (by decide))).trans (W13_main_arg4 m ρ d),
     (h d _ (mem_uc main_arg5 (by decide))).trans (W13_main_arg5 m ρ d),
     (h d _ (mem_uc main_arg6 (by decide))).trans (W13_main_arg6 m ρ d),
     (h d _ (mem_uc main_arg7 (by decide))).trans (W13_main_arg7 m ρ d),
     (h d _ (mem_uc main_arg8 (by decide))).trans (W13_main_arg8 m ρ d),
     (h d _ (mem_uc main_arg9 (by decide))).trans (W13_main_arg9 m ρ d),
     (h d _ (mem_uc main_arg10 (by decide))).trans (W13_main_arg10 m ρ d)⟩) (run_all m ρ)

end Cert.TailIdeal.Val
-- ==== Proof.TailSVal.lean ====
module

public import proofs.«01_k».proof.Proof.Layer
public import proofs.«01_k».proof.Proof.Gen.TailSIdeal.Frame

/-! The end of the layer's second block at the sample: what each tiled call leaves in its array. -/

@[expose] public section

set_option maxRecDepth 16384

noncomputable section

open Idealize.ShloMosaic Idealize.ShloMosaic.TcCoe Idealize.SL.Sem
open Idealize.ShloMosaic.Pipeline (Dat)

namespace Cert.TailSIdeal.Val

open Cert.TailSIdeal Cert.TailSIdeal.Gen Cert.Stages

variable (V : (c : Dev nD) → (b : Ref sig .tc) → Buf (Elt Ideal) ((c : Thread nD τ).loc b))

/-! ## The mixer's output projection -/

theorem idx0 : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

theorem final0 (c : Dev nD) : (dat0 V c).arrAt 3 cfg0.N = resid (V c main_arg1) (V c main_v1) (V c main_v0) := by
  refine (dat0 V c).arrAt_eq_of_covers 3 _ (by decide +kernel) fun t _ y => ?_
  blk_simp
  rw [after0_3]; frame_out
  unfold resid mul
  pointwise [k0_pay1]
  blk_point [iblk0, idx0 t]

/-! ## The norm before the half-step -/

theorem idx1 : ∀ t : Fin cfg1.N, win1_0.index t = ![t.val, 0] ∧ win1_1.index t = ![0, 0] ∧ win1_2.index t = ![t.val, 0] :=
  (by decide +kernel : ∀ t : Fin grid1.N, _)

theorem final1 (c : Dev nD) : (dat1 V c).arrAt 2 cfg1.N = rms (V c main_v2) (V c main_v11) := by
  refine (dat1 V c).arrAt_eq_of_covers 2 _ (by decide +kernel) fun t _ y => ?_
  blk_simp
  rw [after1_2]; frame_out
  unfold rms
  pointwise [k1_pay1]
  blk_point [iblk1, idx1 t]

/-! ## The gated up projection -/

theorem idx2 : ∀ t : Fin cfg2.N, win2_0.index t = ![t.val / 43, 0] ∧ win2_1.index t = ![0, t.val % 43]
    ∧ win2_2.index t = ![0, t.val % 43] ∧ win2_3.index t = ![t.val / 43, t.val % 43] :=
  (by decide +kernel : ∀ t : Fin grid2.N, _)

theorem final2 (c : Dev nD) : (dat2 V c).arrAt 3 cfg2.N = up (V c main_v12) (V c main_v6) (V c main_v8) := by
  refine (dat2 V c).arrAt_eq_of_covers 3 _ (by decide +kernel) fun t _ y => ?_
  blk_simp
  rw [after2_3]; frame_out
  unfold up mul
  pointwise [k2_pay1]
  blk_point [iblk2, idx2 t]

/-! ## The norm before the gate -/

theorem idx4 : ∀ t : Fin cfg4.N, win4_0.index t = ![t.val, 0] ∧ win4_1.index t = ![0, 0] ∧ win4_2.index t = ![t.val, 0] :=
  (by decide +kernel : ∀ t : Fin grid4.N, _)

theorem final4 (c : Dev nD) : (dat4 V c).arrAt 2 cfg4.N = rms (V c main_v14) (V c main_v24) := by
  refine (dat4 V c).arrAt_eq_of_covers 2 _ (by decide +kernel) fun t _ y => ?_
  blk_simp
  rw [after4_2]; frame_out
  unfold rms
  pointwise [k4_pay1]
  blk_point [iblk4, idx4 t]

/-! ## The gated input embedding -/

theorem idx5 : ∀ t : Fin cfg5.N, win5_0.index t = ![t.val / 16, 0] ∧ win5_1.index t = ![0, t.val % 16]
    ∧ win5_2.index t = ![t.val / 16, t.val % 16] ∧ win5_3.index t = ![t.val / 16, 0]
    ∧ win5_4.index t = ![0, t.val % 16] ∧ win5_5.index t = ![t.val / 16, t.val % 16] :=
  (by decide +kernel : ∀ t : Fin grid5.N, _)

theorem final5 (c : Dev nD) : (dat5 V c).arrAt 5 cfg5.N
    = gated (V c main_v25) (V c main_v21) (V c main_v14) (V c main_v26) (V c main_v23) := by
  refine (dat5 V c).arrAt_eq_of_covers 5 _ (by decide +kernel) fun t _ y => ?_
  blk_simp
  rw [after5_5]; frame_out
  unfold gated mul
  pointwise [k5_pay1]
  blk_point [iblk5, idx5 t]

/-! ## The last norm -/

theorem idx6 : ∀ t : Fin cfg6.N, win6_0.index t = ![t.val, 0] ∧ win6_1.index t = ![0, 0] ∧ win6_2.index t = ![t.val, 0] :=
  (by decide +kernel : ∀ t : Fin grid6.N, _)

theorem final6 (c : Dev nD) : (dat6 V c).arrAt 2 cfg6.N = rms (V c main_v27) (V c main_v28) := by
  refine (dat6 V c).arrAt_eq_of_covers 2 _ (by decide +kernel) fun t _ y => ?_
  blk_simp
  rw [after6_2]; frame_out
  unfold rms
  pointwise [k6_pay1]
  blk_point [iblk6, idx6 t]

end Cert.TailSIdeal.Val
-- ==== Proof.TailSDown.lean ====
module

public import proofs.«01_k».proof.Proof.Stages
public import proofs.«01_k».proof.Proof.Gen.TailSIdeal.Frame

/-! The down projection of the second block's last half-step at the sample: what its tiled call leaves in its array. -/

@[expose] public section

set_option maxRecDepth 16384

noncomputable section

open Idealize.ShloMosaic Idealize.ShloMosaic.TcCoe Idealize.SL.Sem
open Idealize.ShloMosaic.Pipeline (Dat)

namespace Cert.TailSIdeal.Val

open Cert.TailSIdeal Cert.TailSIdeal.Gen Cert.Stages

variable (V : (c : Dev nD) → (b : Ref sig .tc) → Buf (Elt Ideal) ((c : Thread nD τ).loc b))

/-! ## The down projection -/

theorem idx3 : ∀ t : Fin cfg3.N, win3_0.index t = ![t.val / 172, t.val % 43]
    ∧ win3_1.index t = ![t.val % 43, t.val / 43 % 4]
    ∧ win3_2.index t = ![t.val / 172, t.val / 43 % 4]
    ∧ win3_3.index t = ![t.val / 172, t.val / 43 % 4] :=
  (by decide +kernel : ∀ t : Fin grid3.N, _)

/-- Half the product of two blocks at an index. -/
def prod3 (a : FVec Ideal S64x256 .bf16) (w : FVec Ideal S256x1024 .f32) (y : S64x1024.Idx) : EReal :=
  half * ∑ k : Fin 256, (a (ix2 (y 0) k) * w (ix2 k (y 1)) : EReal)

theorem pay2 (acc : FVec Ideal S64x1024 .f32) (a : FVec Ideal S64x256 .bf16) (w : FVec Ideal S256x1024 .f32)
    (y : S64x1024.Idx) : k3_pay2 acc a w y = acc y + prod3 a w y := by
  unfold prod3
  pointwise [k3_pay2]

theorem pay1 (v : FVec Ideal S64x1024 .f32) : k3_pay1 v = v := shapeCast_self _ _

/-- Half the block product that grid point `n` adds. -/
def part3 (c : Dev nD) (n : ℕ) (y : S64x1024.Idx) : EReal :=
  if h : n < cfg3.N then prod3 (iblk3 V c 0 ⟨n, h⟩) (iblk3 V c 1 ⟨n, h⟩) y else 0

/-- The residual block of grid point `n`, at an index. -/
def base3 (c : Dev nD) (n : ℕ) (y : S64x1024.Idx) : EReal :=
  if h : n < cfg3.N then (show FVec Ideal S64x1024 .f32 from iblk3 V c 2 ⟨n, h⟩) y else 0

/-- After a point the block holds its residual block plus the half products of its run so far. -/
theorem outs3 (c : Dev nD) (t : Fin cfg3.N) (y : S64x1024.Idx) : (outsAt3 V c t.val t.isLt y : EReal)
    = base3 V c (43 * (t.val / 43)) y + ∑ s ∈ Finset.range (t.val % 43 + 1), part3 V c (43 * (t.val / 43) + s) y := by
  refine run_sum (fun n h y => (outsAt3 V c n h y : EReal)) (base3 V c) (part3 V c) (by decide) ?_ ?_ t.val t.isLt y
  · intro n h hn y
    show (outsAt3 V c n h y : EReal) = _
    rw [outsAt3_A V c ⟨n, h⟩ hn]; frame_out
    unfold part3 base3
    rw [dif_pos h, dif_pos h]
    rw [pay1]
    exact pay2 _ _ _ y
  · intro n h hn y
    show (outsAt3 V c (n + 1) h y : EReal) = _
    rw [outsAt3_B V c ⟨n + 1, h⟩ hn]; frame_out
    unfold part3
    rw [dif_pos h]
    exact pay2 _ _ _ y

theorem base3_eq (c : Dev nD) (t : Fin cfg3.N) (ht : t.val % 43 = 42) (y : S64x1024.Idx) :
    base3 V c (43 * (t.val / 43)) y = V c main_v2 (((cfg3.win 3).blk t).view.emb y) := by
  have hN : t.val < cfg3.N := t.isLt
  have hb : 43 * (t.val / 43) < cfg3.N := by omega
  unfold base3
  rw [dif_pos hb]
  blk_point [iblk3, idx3 t, idx3 ⟨43 * (t.val / 43), hb⟩]

theorem part3_eq (c : Dev nD) (t : Fin cfg3.N) (ht : t.val % 43 = 42) (s : Fin 43) (y : S64x1024.Idx) :
    part3 V c (43 * (t.val / 43) + s.val) y
      = ∑ k : Fin 256, term (V c main_v13) (V c main_v10) (((cfg3.win 3).blk t).view.emb y) ⟨s.val * 256 + k.val, by omega⟩ := by
  have hN : t.val < cfg3.N := t.isLt
  have hs : 43 * (t.val / 43) + s.val < cfg3.N := by omega
  unfold part3
  rw [dif_pos hs]
  unfold prod3 term
  rw [half_mul_sum]
  refine Finset.sum_congr rfl fun k _ => ?_
  blk_point [iblk3, idx3 t, idx3 ⟨43 * (t.val / 43) + s.val, hs⟩]

theorem final3 (c : Dev nD) : (dat3 V c).arrAt 3 cfg3.N = down (V c main_v13) (V c main_v10) (V c main_v2) := by
  refine (dat3 V c).arrAt_eq_of_covers 3 _ (by decide +kernel) fun t hf y => ?_
  have ht : t.val % 43 = 42 := (flush3_3 t).mp hf
  blk_simp
  rw [after3_3]
  refine (outs3 V c t y).trans ?_
  rw [ht, down_eq, base3_eq V c t ht y]
  refine congrArg (HAdd.hAdd (α := EReal) _) ?_
  rw [← Fin.sum_univ_eq_sum_range (fun s => part3 V c (43 * (t.val / 43) + s) y) 43]
  refine (Finset.sum_congr rfl fun s _ => part3_eq V c t ht s y).trans ?_
  exact Fin.sum_mul_add_congr fun s k hl => rfl

end Cert.TailSIdeal.Val
-- ==== Proof.TailSRef.lean ====
module

public import proofs.«01_k».proof.Proof.Layer
public import proofs.«01_k».proof.Proof.Gen.TailSRefIdeal.Read

/-! The reference of the end of the layer's second block at the sample, stage by stage. -/

@[expose] public section

set_option maxRecDepth 16384

noncomputable section

open Idealize.ShloMosaic Idealize.ShloMosaic.TcCoe Idealize.SL.Sem

namespace Cert.TailSRefIdeal.Stage

open Cert.TailSRefIdeal Cert.TailSRefIdeal.Read Cert.Stages

variable (x0 : FVec Ideal S8x8x4096 .f32) (x1 : FVec Ideal S64x1024 .bf16) (x2 : FVec Ideal S2x8x8x256 .f32)
  (x3 : FVec Ideal S2x4x4096 .f32) (x4 : FVec Ideal S4096 .f32) (x5 x6 : FVec Ideal S2x4096x11008 .f32)
  (x7 : FVec Ideal S2x11008x4096 .f32) (x8 : FVec Ideal S2x4096x4096 .f32) (x9 : FVec Ideal S2x256x4096 .f32)
  (x10 : FVec Ideal S1x1024x4096 .f32)

/-- The mixer's output projection with its residual. -/
theorem mixed : val_main_v4 (F := Ideal) x0 x1 x10 = resid x1 (val_main_v2 (F := Ideal) x10) (val_main_v0 (F := Ideal) x0) := by
  funext i
  unfold resid mul
  generalize hX : val_main_v0 (F := Ideal) x0 = X
  generalize hG : val_main_v2 (F := Ideal) x10 = G
  pointwise [val_main_v4, val_main_v3, val_main_v1, hX, hG]

/-- The norm before the half-step. -/
theorem norm1 : val_main_v25 (F := Ideal) x0 x1 x3 x10 = rms (val_main_v4 (F := Ideal) x0 x1 x10) (val_main_v23 (F := Ideal) x3) := by
  funext i
  unfold rms
  generalize hX : val_main_v4 (F := Ideal) x0 x1 x10 = X
  generalize hG : val_main_v23 (F := Ideal) x3 = G
  pointwise [val_main_v25, val_main_v24, val_main_v22, val_main_v21, val_main_v20, val_main_v19, val_main_v18, val_main_v17, val_main_v16, val_main_v15, val_main_v14, val_main_v13,
    val_main_cst, val_main_cst_0, val_main_cst_1, hX, hG]

/-- The gated up projection. -/
theorem gate : val_main_v29 (F := Ideal) x0 x1 x3 x5 x6 x10
    = up (val_main_v25 (F := Ideal) x0 x1 x3 x10) (val_main_v8 (F := Ideal) x5) (val_main_v10 (F := Ideal) x6) := by
  funext i
  unfold up mul
  generalize hX : val_main_v25 (F := Ideal) x0 x1 x3 x10 = X
  generalize hG : val_main_v8 (F := Ideal) x5 = G
  generalize hH : val_main_v10 (F := Ideal) x6 = H
  pointwise [val_main_v29, val_main_v28, val_main_v27, val_main_v26, val_main_call0_v0, val_main_call0_v1, val_main_call0_v2,
    val_main_call0_v3, val_main_call0_v4, val_main_call0_v5, val_main_call0_cst, val_main_call0_cst_0, hX, hG, hH]
  unfold Ideal.logistic
  rfl

/-- The half-step. -/
theorem half_step : val_main_v33 (F := Ideal) x0 x1 x3 x5 x6 x7 x10
    = down (val_main_v29 (F := Ideal) x0 x1 x3 x5 x6 x10) (val_main_v12 (F := Ideal) x7) (val_main_v4 (F := Ideal) x0 x1 x10) := by
  funext i
  unfold down mul
  generalize hX : val_main_v29 (F := Ideal) x0 x1 x3 x5 x6 x10 = X
  generalize hG : val_main_v12 (F := Ideal) x7 = G
  generalize hH : val_main_v4 (F := Ideal) x0 x1 x10 = H
  pointwise [val_main_v33, val_main_v32, val_main_v31, val_main_v30, val_main_cst_2, hX, hG, hH]

/-- The norm before the gate. -/
theorem norm2 : val_main_v48 (F := Ideal) x0 x1 x3 x5 x6 x7 x10 = rms (val_main_v33 (F := Ideal) x0 x1 x3 x5 x6 x7 x10) (val_main_v46 (F := Ideal) x3) := by
  funext i
  unfold rms
  generalize hX : val_main_v33 (F := Ideal) x0 x1 x3 x5 x6 x7 x10 = X
  generalize hG : val_main_v46 (F := Ideal) x3 = G
  pointwise [val_main_v48, val_main_v47, val_main_v45, val_main_v44, val_main_v43, val_main_v42, val_main_v41, val_main_v40, val_main_v39, val_main_v38, val_main_v37, val_main_v36,
    val_main_cst_3, val_main_cst_4, val_main_cst_5, hX, hG]

/-- The gated input embedding. -/
theorem embed : val_main_v65 (F := Ideal) x0 x1 x2 x3 x5 x6 x7 x8 x9 x10
    = gated (val_main_v48 (F := Ideal) x0 x1 x3 x5 x6 x7 x10) (val_main_v50 (F := Ideal) x8) (val_main_v33 (F := Ideal) x0 x1 x3 x5 x6 x7 x10) (val_main_v60 (F := Ideal) x2) (val_main_v62 (F := Ideal) x9) := by
  funext i
  unfold gated mul
  generalize hX : val_main_v48 (F := Ideal) x0 x1 x3 x5 x6 x7 x10 = X
  generalize hG : val_main_v50 (F := Ideal) x8 = G
  generalize hR : val_main_v33 (F := Ideal) x0 x1 x3 x5 x6 x7 x10 = R
  generalize hP : val_main_v60 (F := Ideal) x2 = P
  generalize hH : val_main_v62 (F := Ideal) x9 = H
  pointwise [val_main_v65, val_main_v64, val_main_v63, val_main_v57, val_main_v56, val_main_v55, val_main_v54, val_main_v53, val_main_v52, val_main_v51, val_main_cst_6, val_main_cst_7, hX, hG, hR, hP, hH]
  unfold Ideal.logistic
  rfl

/-- The last norm. -/
theorem norm3 : val_main_v78 (F := Ideal) x0 x1 x2 x3 x4 x5 x6 x7 x8 x9 x10 = rms (val_main_v65 (F := Ideal) x0 x1 x2 x3 x5 x6 x7 x8 x9 x10) (val_main_v76 (F := Ideal) x4) := by
  funext i
  unfold rms
  generalize hX : val_main_v65 (F := Ideal) x0 x1 x2 x3 x5 x6 x7 x8 x9 x10 = X
  generalize hG : val_main_v76 (F := Ideal) x4 = G
  pointwise [val_main_v78, val_main_v77, val_main_v75, val_main_v74, val_main_v73, val_main_v72, val_main_v71, val_main_v70, val_main_v69, val_main_v68, val_main_v67, val_main_v66,
    val_main_cst_8, val_main_cst_9, val_main_cst_10, hX, hG]

end Cert.TailSRefIdeal.Stage
-- ==== Proof.TailSRun.lean ====
module

public import proofs.«01_k».proof.Proof.TailSVal
public import proofs.«01_k».proof.Proof.TailSDown
public import proofs.«01_k».proof.Proof.TailSRef

/-! The end of the layer's second block at the sample: the result of the run is the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.TailSIdeal.Val

open Cert.TailSIdeal Cert.TailSIdeal.Gen Cert.Stages Cert.TailSRefIdeal.Read

variable (m : (ℓ : Loc nD τ sig) → Buf (Elt Ideal) ℓ) (ρ : Dev nD → PrngReg) (c : Dev nD)

/-- The arguments. -/
abbrev X0 : FVec Ideal S8x8x4096 .f32 := m ((c : Thread nD τ).loc main_arg0)
abbrev X1 : FVec Ideal S64x1024 .bf16 := m ((c : Thread nD τ).loc main_arg1)
abbrev X2 : FVec Ideal S2x8x8x256 .f32 := m ((c : Thread nD τ).loc main_arg2)
abbrev X3 : FVec Ideal S2x4x4096 .f32 := m ((c : Thread nD τ).loc main_arg3)
abbrev X4 : FVec Ideal S4096 .f32 := m ((c : Thread nD τ).loc main_arg4)
abbrev X5 : FVec Ideal S2x4096x11008 .f32 := m ((c : Thread nD τ).loc main_arg5)
abbrev X6 : FVec Ideal S2x4096x11008 .f32 := m ((c : Thread nD τ).loc main_arg6)
abbrev X7 : FVec Ideal S2x11008x4096 .f32 := m ((c : Thread nD τ).loc main_arg7)
abbrev X8 : FVec Ideal S2x4096x4096 .f32 := m ((c : Thread nD τ).loc main_arg8)
abbrev X9 : FVec Ideal S2x256x4096 .f32 := m ((c : Thread nD τ).loc main_arg9)
abbrev X10 : FVec Ideal S1x1024x4096 .f32 := m ((c : Thread nD τ).loc main_arg10)

/-! ## What the host operations hand to the calls -/

theorem in_x : V1 m ρ c main_v0 = val_main_v0 (F := Ideal) (X0 m c) := by
  show StableHlo.after hostOps0 (W0 m ρ c) (Proc.devRef .tc main_v0) = _
  simp only [hostOps0]
  after_results_simp
  rfl

theorem in_wo : V1 m ρ c main_v1 = val_main_v2 (F := Ideal) (X10 m c) := by
  show StableHlo.after hostOps0 (W0 m ρ c) (Proc.devRef .tc main_v1) = _
  simp only [hostOps0]
  after_results_simp
  rfl

/-- The mixer's output projection with its residual. -/
theorem out0 : V2 m ρ c main_v2 = val_main_v4 (F := Ideal) (X0 m c) (X1 m c) (X10 m c) := by
  refine ((W2_arr m ρ c 3).trans (final0 (V1 m ρ) c)).trans ?_
  rw [Cert.TailSRefIdeal.Stage.mixed]
  have h : V1 m ρ c main_arg1 = X1 m c := W1_args m ρ c main_arg1 (by decide)
  exact congr (congrArg₂ resid h (in_wo m ρ c)) (in_x m ρ c)

/-! ## The half-step -/

theorem in_g1 : V3 m ρ c main_v11 = val_main_v23 (F := Ideal) (X3 m c) := by
  have e : W2 m ρ c (Proc.devRef .tc main_arg3) = X3 m c := W2_args m ρ c main_arg3 (by decide)
  show StableHlo.after hostOps1 (W2 m ρ c) (Proc.devRef .tc main_v11) = _
  simp only [hostOps1]
  after_results_simp
  rw [e]
  show shapeCast S1x4096 (val_main_v6 (F := Ideal) (X3 m c)) shapeCasts_S4096_S1x4096 = _
  funext i
  pointwise [val_main_v23]

theorem in_w1 : V3 m ρ c main_v6 = val_main_v8 (F := Ideal) (X5 m c) := by
  have e : W2 m ρ c (Proc.devRef .tc main_arg5) = X5 m c := W2_args m ρ c main_arg5 (by decide)
  show StableHlo.after hostOps1 (W2 m ρ c) (Proc.devRef .tc main_v6) = _
  simp only [hostOps1]
  after_results_simp
  rw [e]
  rfl

theorem in_w3 : V3 m ρ c main_v8 = val_main_v10 (F := Ideal) (X6 m c) := by
  have e : W2 m ρ c (Proc.devRef .tc main_arg6) = X6 m c := W2_args m ρ c main_arg6 (by decide)
  show StableHlo.after hostOps1 (W2 m ρ c) (Proc.devRef .tc main_v8) = _
  simp only [hostOps1]
  after_results_simp
  rw [e]
  rfl

theorem in_w2 : V3 m ρ c main_v10 = val_main_v12 (F := Ideal) (X7 m c) := by
  have e : W2 m ρ c (Proc.devRef .tc main_arg7) = X7 m c := W2_args m ρ c main_arg7 (by decide)
  show StableHlo.after hostOps1 (W2 m ρ c) (Proc.devRef .tc main_v10) = _
  simp only [hostOps1]
  after_results_simp
  rw [e]
  rfl

/-- The norm before the half-step. -/
theorem out1 : V4 m ρ c main_v12 = val_main_v25 (F := Ideal) (X0 m c) (X1 m c) (X3 m c) (X10 m c) := by
  refine ((W4_arr m ρ c 2).trans (final1 (V3 m ρ) c)).trans ?_
  rw [Cert.TailSRefIdeal.Stage.norm1]
  have h0 : V3 m ρ c main_v2 = _ := (W3_of m ρ c main_v2 (by decide)).trans (out0 m ρ c)
  have h1 : V3 m ρ c main_v11 = _ := in_g1 m ρ c
  exact congrArg₂ rms h0 h1

/-- The gated up projection. -/
theorem out2 : V5 m ρ c main_v13 = val_main_v29 (F := Ideal) (X0 m c) (X1 m c) (X3 m c) (X5 m c) (X6 m c) (X10 m c) := by
  refine ((W5_arr m ρ c 3).trans (final2 (V4 m ρ) c)).trans ?_
  rw [Cert.TailSRefIdeal.Stage.gate]
  have h0 : V4 m ρ c main_v12 = _ := out1 m ρ c
  have h1 : V4 m ρ c main_v6 = _ := (W4_of m ρ c main_v6 (by decide)).trans (in_w1 m ρ c)
  have h2 : V4 m ρ c main_v8 = _ := (W4_of m ρ c main_v8 (by decide)).trans (in_w3 m ρ c)
  exact congr (congrArg₂ up h0 h1) h2

/-- The half-step. -/
theorem out3 : V6 m ρ c main_v14 = val_main_v33 (F := Ideal) (X0 m c) (X1 m c) (X3 m c) (X5 m c) (X6 m c) (X7 m c) (X10 m c) := by
  refine ((W6_arr m ρ c 3).trans (final3 (V5 m ρ) c)).trans ?_
  rw [Cert.TailSRefIdeal.Stage.half_step]
  have h0 : V5 m ρ c main_v13 = _ := out2 m ρ c
  have h1 : V5 m ρ c main_v10 = _ := (W5_of m ρ c main_v10 (by decide)).trans ((W4_of m ρ c main_v10 (by decide)).trans (in_w2 m ρ c))
  have h2 : V5 m ρ c main_v2 = _ := (W5_of m ρ c main_v2 (by decide)).trans ((W4_of m ρ c main_v2 (by decide)).trans ((W3_of m ρ c main_v2 (by decide)).trans (out0 m ρ c)))
  exact congr (congrArg₂ down h0 h1) h2

/-! ## The gated input embedding -/

theorem in_g2 : V7 m ρ c main_v24 = val_main_v46 (F := Ideal) (X3 m c) := by
  have e : W6 m ρ c (Proc.devRef .tc main_arg3) = X3 m c := W6_args m ρ c main_arg3 (by decide)
  show StableHlo.after hostOps4 (W6 m ρ c) (Proc.devRef .tc main_v24) = _
  simp only [hostOps4]
  after_results_simp
  rw [e]
  show shapeCast S1x4096 (val_main_v35 (F := Ideal) (X3 m c)) shapeCasts_S4096_S1x4096 = _
  funext i
  pointwise [val_main_v46]

theorem in_wg : V7 m ρ c main_v21 = val_main_v50 (F := Ideal) (X8 m c) := by
  have e : W6 m ρ c (Proc.devRef .tc main_arg8) = X8 m c := W6_args m ρ c main_arg8 (by decide)
  show StableHlo.after hostOps4 (W6 m ρ c) (Proc.devRef .tc main_v21) = _
  simp only [hostOps4]
  after_results_simp
  rw [e]
  rfl

theorem in_wp : V7 m ρ c main_v23 = val_main_v62 (F := Ideal) (X9 m c) := by
  have e : W6 m ρ c (Proc.devRef .tc main_arg9) = X9 m c := W6_args m ρ c main_arg9 (by decide)
  show StableHlo.after hostOps4 (W6 m ρ c) (Proc.devRef .tc main_v23) = _
  simp only [hostOps4]
  after_results_simp
  rw [e]
  rfl

/-- The norm before the gate. -/
theorem out4 : V8 m ρ c main_v25 = val_main_v48 (F := Ideal) (X0 m c) (X1 m c) (X3 m c) (X5 m c) (X6 m c) (X7 m c) (X10 m c) := by
  refine ((W8_arr m ρ c 2).trans (final4 (V7 m ρ) c)).trans ?_
  rw [Cert.TailSRefIdeal.Stage.norm2]
  have h0 : V7 m ρ c main_v14 = _ := (W7_of m ρ c main_v14 (by decide)).trans (out3 m ρ c)
  have h1 : V7 m ρ c main_v24 = _ := in_g2 m ρ c
  exact congrArg₂ rms h0 h1

/-- The input embeddings of the block. -/
theorem in_p0 : V7 m ρ c main_v17 = val_main_v60 (F := Ideal) (X2 m c) := by
  have e : W6 m ρ c (Proc.devRef .tc main_arg2) = X2 m c := W6_args m ρ c main_arg2 (by decide)
  show StableHlo.after hostOps4 (W6 m ρ c) (Proc.devRef .tc main_v17) = _
  simp only [hostOps4]
  after_results_simp
  rw [e]
  generalize X2 m c = P
  funext i
  pointwise [val_main_v60, val_main_v59, val_main_v58]

theorem in_p : V9 m ρ c main_v26 = val_main_v60 (F := Ideal) (X2 m c) := by
  have e : W8 m ρ c (Proc.devRef .tc main_v17) = _ := (W8_of m ρ c main_v17 (by decide)).trans (in_p0 m ρ c)
  show StableHlo.after hostOps5 (W8 m ρ c) (Proc.devRef .tc main_v26) = _
  simp only [hostOps5]
  after_results_simp
  rw [e]
  rfl

/-- The gated input embedding. -/
theorem out5 : V10 m ρ c main_v27 = val_main_v65 (F := Ideal) (X0 m c) (X1 m c) (X2 m c) (X3 m c) (X5 m c) (X6 m c) (X7 m c) (X8 m c) (X9 m c) (X10 m c) := by
  refine ((W10_arr m ρ c 5).trans (final5 (V9 m ρ) c)).trans ?_
  rw [Cert.TailSRefIdeal.Stage.embed]
  have h0 : V9 m ρ c main_v25 = _ := (W9_of m ρ c main_v25 (by decide)).trans (out4 m ρ c)
  have h1 : V9 m ρ c main_v21 = _ := (W9_of m ρ c main_v21 (by decide)).trans ((W8_of m ρ c main_v21 (by decide)).trans (in_wg m ρ c))
  have h2 : V9 m ρ c main_v14 = _ := (W9_of m ρ c main_v14 (by decide)).trans ((W8_of m ρ c main_v14 (by decide)).trans ((W7_of m ρ c main_v14 (by decide)).trans (out3 m ρ c)))
  have h3 : V9 m ρ c main_v26 = _ := in_p m ρ c
  have h4 : V9 m ρ c main_v23 = _ := (W9_of m ρ c main_v23 (by decide)).trans ((W8_of m ρ c main_v23 (by decide)).trans (in_wp m ρ c))
  exact congr (congr (congr (congrArg₂ gated h0 h1) h2) h3) h4

/-! ## The last norm -/

theorem in_g3 : V11 m ρ c main_v28 = val_main_v76 (F := Ideal) (X4 m c) := by
  have e : W10 m ρ c (Proc.devRef .tc main_arg4) = X4 m c := W10_args m ρ c main_arg4 (by decide)
  show StableHlo.after hostOps6 (W10 m ρ c) (Proc.devRef .tc main_v28) = _
  simp only [hostOps6]
  after_results_simp
  rw [e]
  funext i
  pointwise [val_main_v76]

/-- The last norm. -/
theorem out6 : V12 m ρ c main_v29 = val_main_v78 (F := Ideal) (X0 m c) (X1 m c) (X2 m c) (X3 m c) (X4 m c) (X5 m c) (X6 m c) (X7 m c) (X8 m c) (X9 m c) (X10 m c) := by
  refine ((W12_arr m ρ c 2).trans (final6 (V11 m ρ) c)).trans ?_
  rw [Cert.TailSRefIdeal.Stage.norm3]
  have h0 : V11 m ρ c main_v27 = _ := (W11_of m ρ c main_v27 (by decide)).trans (out5 m ρ c)
  have h1 : V11 m ρ c main_v28 = _ := in_g3 m ρ c
  exact congrArg₂ rms h0 h1

theorem res_y : W13 m ρ c (Proc.devRef .tc main_v30) = val_main_v79 (F := Ideal) (X0 m c) (X1 m c) (X2 m c) (X3 m c) (X4 m c) (X5 m c) (X6 m c) (X7 m c) (X8 m c) (X9 m c) (X10 m c) := by
  have e : W12 m ρ c (Proc.devRef .tc main_v29) = _ := out6 m ρ c
  show StableHlo.after hostOps7 (W12 m ρ c) (Proc.devRef .tc main_v30) = _
  simp only [hostOps7]
  after_results_simp
  rw [e]
  rfl

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W13 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W13 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W13 m ρ d) s)
    isplitl [A] <;> iassumption

/-- Every run ends with the reference's result, and with the arguments as they were. -/
theorem run : θ_run defs (onTc (τ := τ) (main (F := Ideal))) ⟨m, fun _ => 0, ρ⟩ (fun r => ∀ d : Dev nD,
      r.2.mem ((d.tc : Thread nD τ).loc main_v30) = val_main_v79 (F := Ideal) (X0 m d) (X1 m d) (X2 m d) (X3 m d) (X4 m d) (X5 m d) (X6 m d) (X7 m d) (X8 m d) (X9 m d) (X10 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)) :=
  (θ_run _ _ _).mono (fun r h d =>
    ⟨(h d _ (mem_uc main_v30 (by decide))).trans (res_y m ρ d),
     (h d _ (mem_uc main_arg0 (by decide))).trans (W13_main_arg0 m ρ d),
     (h d _ (mem_uc main_arg1 (by decide))).trans (W13_main_arg1 m ρ d),
     (h d _ (mem_uc main_arg2 (by decide))).trans (W13_main_arg2 m ρ d),
     (h d _ (mem_uc main_arg3 (by decide))).trans (W13_main_arg3 m ρ d),
     (h d _ (mem_uc main_arg4 (by decide))).trans (W13_main_arg4 m ρ d),
     (h d _ (mem_uc main_arg5 (by decide))).trans (W13_main_arg5 m ρ d),
     (h d _ (mem_uc main_arg6 (by decide))).trans (W13_main_arg6 m ρ d),
     (h d _ (mem_uc main_arg7 (by decide))).trans (W13_main_arg7 m ρ d),
     (h d _ (mem_uc main_arg8 (by decide))).trans (W13_main_arg8 m ρ d),
     (h d _ (mem_uc main_arg9 (by decide))).trans (W13_main_arg9 m ρ d),
     (h d _ (mem_uc main_arg10 (by decide))).trans (W13_main_arg10 m ρ d)⟩) (run_all m ρ)

end Cert.TailSIdeal.Val
-- ==== Proof.EvenVal.lean ====
module

public import proofs.«01_k».proof.Proof.Layer
public import proofs.«01_k».proof.Proof.Gen.EvenIdeal.Frame

/-! What each of the four calls of the first block's in-projection at the prompt computes, whatever it is given. -/

@[expose] public section

set_option maxRecDepth 16384

noncomputable section

open Idealize.ShloMosaic Idealize.ShloMosaic.TcCoe Idealize.SL.Sem
open Idealize.ShloMosaic.Pipeline (Dat)

namespace Cert.EvenIdeal.Val

open Cert.EvenIdeal Cert.EvenIdeal.Gen Cert.Stages

variable (V : (c : Dev nD) → (b : Ref sig .tc) → Buf (Elt Ideal) ((c : Thread nD τ).loc b))

/-! ## The queries, the compressed queries of the index, and the other columns -/

theorem idx0 : ∀ t : Fin cfg0.N, win0_0.index t = ![t.val / 6, 0] ∧ win0_1.index t = ![0, t.val % 6]
    ∧ win0_2.index t = ![t.val / 6, t.val % 6] :=
  (by decide +kernel : ∀ t : Fin grid0.N, _)

theorem final0 (c : Dev nD) : (dat0 V c).arrAt 2 cfg0.N = mul (V c main_arg0) (V c main_v0) := by
  refine (dat0 V c).arrAt_eq_of_covers 2 _ (by decide +kernel) fun t _ y => ?_
  blk_simp
  rw [after0_2]; frame_out
  unfold mul
  pointwise [k0_pay1]
  blk_point [iblk0, idx0 t]

theorem idx1 : ∀ t : Fin cfg1.N, win1_0.index t = ![t.val / 1, 0] ∧ win1_1.index t = ![0, t.val % 1]
    ∧ win1_2.index t = ![t.val / 1, t.val % 1] :=
  (by decide +kernel : ∀ t : Fin grid1.N, _)

theorem final1 (c : Dev nD) : (dat1 V c).arrAt 2 cfg1.N = mul (V c main_arg0) (V c main_v2) := by
  refine (dat1 V c).arrAt_eq_of_covers 2 _ (by decide +kernel) fun t _ y => ?_
  blk_simp
  rw [after1_2]; frame_out
  unfold mul
  pointwise [k1_pay1]
  blk_point [iblk1, idx1 t]

theorem idx2 : ∀ t : Fin cfg2.N, win2_0.index t = ![t.val / 5, 0] ∧ win2_1.index t = ![0, t.val % 5]
    ∧ win2_2.index t = ![t.val / 5, t.val % 5] :=
  (by decide +kernel : ∀ t : Fin grid2.N, _)

theorem final2 (c : Dev nD) : (dat2 V c).arrAt 2 cfg2.N = mul (V c main_arg0) (V c main_v8) := by
  refine (dat2 V c).arrAt_eq_of_covers 2 _ (by decide +kernel) fun t _ y => ?_
  blk_simp
  rw [after2_2]; frame_out
  unfold mul
  pointwise [k2_pay1]
  blk_point [iblk2, idx2 t]

/-! ## The queries of the index -/

theorem idx3 : ∀ t : Fin cfg3.N, win3_0.index t = ![t.val / 8, 0] ∧ win3_1.index t = ![0, t.val % 8]
    ∧ win3_2.index t = ![t.val / 8, t.val % 8] :=
  (by decide +kernel : ∀ t : Fin grid3.N, _)

theorem final3 (c : Dev nD) : (dat3 V c).arrAt 2 cfg3.N = mul (V c main_v3) (V c main_arg2) := by
  refine (dat3 V c).arrAt_eq_of_covers 2 _ (by decide +kernel) fun t _ y => ?_
  blk_simp
  rw [after3_2]; frame_out
  unfold mul
  pointwise [k3_pay1]
  blk_point [iblk3, idx3 t]

end Cert.EvenIdeal.Val
-- ==== Proof.EvenRef.lean ====
module

public import proofs.«01_k».proof.Proof.Layer
public import proofs.«01_k».proof.Proof.Gen.EvenRefIdeal.Read

/-! The reference of the first block's in-projection at the prompt: its two products. -/

@[expose] public section

set_option maxRecDepth 16384

noncomputable section

open Idealize.ShloMosaic Idealize.ShloMosaic.TcCoe Idealize.SL.Sem

namespace Cert.EvenRefIdeal.Stage

open Cert.EvenRefIdeal Cert.EvenRefIdeal.Read Cert.Stages

variable (x0 : FVec Ideal S8192x4096 .bf16) (x1 : FVec Ideal S4096x6816 .f32) (x2 : FVec Ideal S512x4096 .f32)

/-- The in-projection. -/
theorem in_proj : val_main_v1 (F := Ideal) x0 x1 = mul x0 x1 := by
  funext i
  unfold mul
  pointwise [val_main_v1, val_main_v0]

/-- The projection of the index queries. -/
theorem qi_proj : val_main_v3 (F := Ideal) x0 x1 x2 = mul (val_main_v2 (F := Ideal) x0 x1) x2 := by
  funext i
  unfold mul
  generalize hX : val_main_v2 (F := Ideal) x0 x1 = X
  pointwise [val_main_v3, hX]

end Cert.EvenRefIdeal.Stage
-- ==== Proof.EvenRun.lean ====
module

public import proofs.«01_k».proof.Proof.EvenVal
public import proofs.«01_k».proof.Proof.EvenRef

/-! The first block's in-projection at the prompt: the four results of the run are the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.EvenIdeal.Val

open Cert.EvenIdeal Cert.EvenIdeal.Gen Cert.Stages Cert.EvenRefIdeal.Read

variable (m : (ℓ : Loc nD τ sig) → Buf (Elt Ideal) ℓ) (ρ : Dev nD → PrngReg) (c : Dev nD)

/-- The arguments. -/
abbrev X0 : FVec Ideal S8192x4096 .bf16 := m ((c : Thread nD τ).loc main_arg0)
abbrev X1 : FVec Ideal S4096x6816 .f32 := m ((c : Thread nD τ).loc main_arg1)
abbrev X2 : FVec Ideal S512x4096 .f32 := m ((c : Thread nD τ).loc main_arg2)

/-- The queries. -/
theorem out0 : V2 m ρ c main_v1 = val_main_v5 (F := Ideal) (X0 m c) (X1 m c) := by
  have w : V1 m ρ c main_v0 = extractStridedSlice S4096x3072 ![0, 0] (X1 m c) slices_S4096x6816_S4096x3072_0_0 := by
    show StableHlo.after hostOps0 (W0 m ρ c) (Proc.devRef .tc main_v0) = _
    simp only [hostOps0]
    after_results_simp
  have h : V1 m ρ c main_arg0 = X0 m c := W1_args m ρ c main_arg0 (by decide)
  refine ((W2_arr m ρ c 2).trans (final0 (V1 m ρ) c)).trans ((congrArg₂ mul h w).trans ?_)
  funext i
  unfold val_main_v5 val_main_v4
  rw [Cert.EvenRefIdeal.Stage.in_proj]
  generalize X0 m c = H
  generalize X1 m c = U
  unfold mul
  pointwise

/-- The compressed queries of the index. -/
theorem out1 : (V4 m ρ c main_v3 : (Mat 8192 512).Idx → EReal) = val_main_v2 (F := Ideal) (X0 m c) (X1 m c) := by
  have e : W2 m ρ c (Proc.devRef .tc main_arg1) = X1 m c := W2_args m ρ c main_arg1 (by decide)
  have w : V3 m ρ c main_v2 = extractStridedSlice S4096x512 ![0, 5120] (X1 m c) slices_S4096x6816_S4096x512_0_5120 := by
    show StableHlo.after hostOps1 (W2 m ρ c) (Proc.devRef .tc main_v2) = _
    simp only [hostOps1]
    after_results_simp
    rw [e]
  have h : V3 m ρ c main_arg0 = X0 m c := W3_args m ρ c main_arg0 (by decide)
  refine ((W4_arr m ρ c 2).trans (final1 (V3 m ρ) c)).trans ((congrArg₂ mul h w).trans ?_)
  funext i
  unfold val_main_v2
  rw [Cert.EvenRefIdeal.Stage.in_proj]
  generalize X0 m c = H
  generalize X1 m c = U
  unfold mul
  pointwise

/-- The weights of the other columns, side by side. -/
def rest_w (a : FVec Ideal S4096x1024 .f32) (b : FVec Ideal S4096x128 .f32) (d : FVec Ideal S4096x32 .f32)
    (z : FVec Ideal S4096x96 .f32) : FVec Ideal S4096x1280 .f32 :=
  concatenate S4096x1280 1 [⟨S4096x1024, a⟩, ⟨S4096x128, b⟩, ⟨S4096x32, d⟩, ⟨S4096x96, z⟩]
    concatenates_S4096x1024_S4096x128_S4096x32_S4096x96_S4096x1280_d1

/-- The other columns. -/
theorem out2 : V6 m ρ c main_v9 = mul (X0 m c)
    (rest_w (extractStridedSlice S4096x1024 ![0, 5792] (X1 m c) slices_S4096x6816_S4096x1024_0_5792)
      (extractStridedSlice S4096x128 ![0, 5664] (X1 m c) slices_S4096x6816_S4096x128_0_5664)
      (extractStridedSlice S4096x32 ![0, 5632] (X1 m c) slices_S4096x6816_S4096x32_0_5632)
      (broadcastInDim S4096x96 ![] bcast_S_S4096x96 (constant (F := Ideal) S_ .f32 0x00000000#32))) := by
  have e : W4 m ρ c (Proc.devRef .tc main_arg1) = X1 m c := W4_args m ρ c main_arg1 (by decide)
  have h : V5 m ρ c main_arg0 = X0 m c := W5_args m ρ c main_arg0 (by decide)
  refine ((W6_arr m ρ c 2).trans (final2 (V5 m ρ) c)).trans (congrArg₂ mul h ?_)
  rw [← e]
  show StableHlo.after hostOps2 (W4 m ρ c) (Proc.devRef .tc main_v8) = _
  simp only [hostOps2, StableHlo.after_cons, StableHlo.after_nil]
  refine (StableHlo.nary_result ..).trans ?_
  refine (show _ = rest_w (StableHlo.after (hostOps2.take 5) (W4 m ρ c) (Proc.devRef .tc main_v4))
    (StableHlo.after (hostOps2.take 5) (W4 m ρ c) (Proc.devRef .tc main_v5))
    (StableHlo.after (hostOps2.take 5) (W4 m ρ c) (Proc.devRef .tc main_v6))
    (StableHlo.after (hostOps2.take 5) (W4 m ρ c) (Proc.devRef .tc main_v7)) from rfl).trans ?_
  refine congr (congr (congrArg₂ rest_w ?_ ?_) ?_) ?_
  all_goals
    simp only [hostOps2, List.take]
    after_results_simp

theorem res_u : W8 m ρ c (Proc.devRef .tc main_v10) = val_main_v8 (F := Ideal) (X0 m c) (X1 m c) := by
  have e : W6 m ρ c (Proc.devRef .tc main_v9) = _ := out2 m ρ c
  refine (W8_of m ρ c main_v10 (by decide)).trans ?_
  show StableHlo.after hostOps3 (W6 m ρ c) (Proc.devRef .tc main_v10) = _
  simp only [hostOps3]
  after_results_simp
  rw [e]
  funext i
  unfold val_main_v8
  rw [Cert.EvenRefIdeal.Stage.in_proj]
  generalize X0 m c = H
  generalize X1 m c = U
  unfold mul rest_w
  pointwise

theorem res_wi : W8 m ρ c (Proc.devRef .tc main_v11) = val_main_v7 (F := Ideal) (X0 m c) (X1 m c) := by
  have e : W6 m ρ c (Proc.devRef .tc main_v9) = _ := out2 m ρ c
  refine (W8_of m ρ c main_v11 (by decide)).trans ?_
  show StableHlo.after hostOps3 (W6 m ρ c) (Proc.devRef .tc main_v11) = _
  simp only [hostOps3]
  after_results_simp
  rw [e]
  funext i
  unfold val_main_v7
  rw [Cert.EvenRefIdeal.Stage.in_proj]
  generalize X0 m c = H
  generalize X1 m c = U
  unfold mul rest_w
  pointwise
  refine Finset.sum_congr rfl fun x _ => congrArg (H (ix2 (i 0) x) * ·) ?_
  have hi : (i 1).val < 32 := (i 1).isLt
  rw [dif_neg (show ¬1152 + (i 1).val < 1024 by omega), dif_neg (show ¬1152 + (i 1).val - 1024 < 128 by omega),
    dif_pos (show 1152 + (i 1).val - 1024 - 128 < 32 by omega)]
  exact congrArg U (congrArg (ix2 x) (Fin.ext (show 5632 + (1152 + (i 1).val - 1024 - 128) = 5632 + (i 1).val by omega)))

theorem res_q : W8 m ρ c (Proc.devRef .tc main_v1) = val_main_v5 (F := Ideal) (X0 m c) (X1 m c) :=
  (W8_of m ρ c main_v1 (by decide)).trans ((W7_of m ρ c main_v1 (by decide)).trans ((W6_of m ρ c main_v1 (by decide)).trans
    ((W5_of m ρ c main_v1 (by decide)).trans ((W4_of m ρ c main_v1 (by decide)).trans
      ((W3_of m ρ c main_v1 (by decide)).trans (out0 m ρ c))))))

/-- The queries of the index. -/
theorem res_qi : W8 m ρ c (Proc.devRef .tc main_v12) = val_main_v6 (F := Ideal) (X0 m c) (X1 m c) (X2 m c) := by
  have h : (V7 m ρ c main_v3 : (Mat 8192 512).Idx → EReal) = val_main_v2 (F := Ideal) (X0 m c) (X1 m c) :=
    (W7_of m ρ c main_v3 (by decide)).trans ((W6_of m ρ c main_v3 (by decide)).trans
      ((W5_of m ρ c main_v3 (by decide)).trans (out1 m ρ c)))
  have w : V7 m ρ c main_arg2 = X2 m c := W7_args m ρ c main_arg2 (by decide)
  refine ((W8_arr m ρ c 2).trans (final3 (V7 m ρ) c)).trans ((congrArg₂ mul h w).trans ?_)
  unfold val_main_v6
  rw [Cert.EvenRefIdeal.Stage.qi_proj]
  generalize val_main_v2 (F := Ideal) (X0 m c) (X1 m c) = H
  generalize X2 m c = U
  funext i
  pointwise

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W8 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := Pipeline.initEach L lv fun d => ?_)
    (QY := fun d s => ∀ b ∈ Pipeline.ucRefs τ sig, s.mem ((d : Thread nD τ).1, b) = W8 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W8 m ρ d) s)
    isplitl [A] <;> iassumption

/-- Every run ends with the reference's four results, and with the arguments as they were. -/
theorem run : θ_run defs (onTc (τ := τ) (main (F := Ideal))) ⟨m, fun _ => 0, ρ⟩ (fun r => ∀ d : Dev nD,
      r.2.mem ((d.tc : Thread nD τ).loc main_v1) = val_main_v5 (F := Ideal) (X0 m d) (X1 m d)
      ∧ r.2.mem ((d.tc : Thread nD τ).loc main_v12) = val_main_v6 (F := Ideal) (X0 m d) (X1 m d) (X2 m d)
      ∧ r.2.mem ((d.tc : Thread nD τ).loc main_v11) = val_main_v7 (F := Ideal) (X0 m d) (X1 m d)
      ∧ r.2.mem ((d.tc : Thread nD τ).loc main_v10) = val_main_v8 (F := Ideal) (X0 m d) (X1 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) :=
  (θ_run _ _ _).mono (fun r h d =>
    ⟨(h d _ (mem_uc main_v1 (by decide))).trans (res_q m ρ d),
     (h d _ (mem_uc main_v12 (by decide))).trans (res_qi m ρ d),
     (h d _ (mem_uc main_v11 (by decide))).trans (res_wi m ρ d),
     (h d _ (mem_uc main_v10 (by decide))).trans (res_u m ρ d),
     (h d _ (mem_uc main_arg0 (by decide))).trans (W8_main_arg0 m ρ d),
     (h d _ (mem_uc main_arg1 (by decide))).trans (W8_main_arg1 m ρ d),
     (h d _ (mem_uc main_arg2 (by decide))).trans (W8_main_arg2 m ρ d)⟩) (run_all m ρ)

end Cert.EvenIdeal.Val
-- ==== Proof.MixVal.lean ====
module

public import proofs.«01_k».proof.Proof.Layer
public import proofs.«01_k».proof.Proof.Gen.MixIdeal.Frame

/-! What each of the two calls of the first block's out-projection at the prompt computes, whatever it is given. -/

@[expose] public section

set_option maxRecDepth 16384

noncomputable section

open Idealize.ShloMosaic Idealize.ShloMosaic.TcCoe Idealize.SL.Sem
open Idealize.ShloMosaic.Pipeline (Dat)

namespace Cert.MixIdeal.Val

open Cert.MixIdeal Cert.MixIdeal.Gen Cert.Stages

variable (V : (c : Dev nD) → (b : Ref sig .tc) → Buf (Elt Ideal) ((c : Thread nD τ).loc b))

/-! ## The attention half -/

theorem idx0 : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

theorem final0 (c : Dev nD) : (dat0 V c).arrAt 3 cfg0.N = resid (V c main_arg1) (V c main_v0) (V c main_arg0) := by
  refine (dat0 V c).arrAt_eq_of_covers 3 _ (by decide +kernel) fun t _ y => ?_
  blk_simp
  rw [after0_3]; frame_out
  unfold resid mul
  pointwise [k0_pay1]
  blk_point [iblk0, idx0 t]

/-! ## The state half -/

theorem idx1 : ∀ t : Fin cfg1.N, win1_0.index t = ![t.val / 8, 0] ∧ win1_1.index t = ![3, t.val % 8]
    ∧ win1_2.index t = ![t.val / 8, t.val % 8] ∧ win1_3.index t = ![t.val / 8, t.val % 8] :=
  (by decide +kernel : ∀ t : Fin grid1.N, _)

theorem final1 (c : Dev nD) : (dat1 V c).arrAt 3 cfg1.N = resid (V c main_arg2) (rows 3072 (K' := 1024) (K := 4096) (by decide) (V c main_arg3)) (V c main_v1) := by
  refine (dat1 V c).arrAt_eq_of_covers 3 _ (by decide +kernel) fun t _ y => ?_
  blk_simp
  rw [after1_3]; frame_out
  unfold resid mul rows
  pointwise [k1_pay1]
  blk_point [iblk1, idx1 t]

end Cert.MixIdeal.Val
-- ==== Proof.MixRun.lean ====
module

public import proofs.«01_k».proof.Proof.MixVal
public import proofs.«01_k».proof.Proof.Gen.MixRefIdeal.Read

/-! The first block's out-projection at the prompt: the result of the run is the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.MixIdeal.Val

open Cert.MixIdeal Cert.MixIdeal.Gen Cert.Stages Cert.MixRefIdeal.Read

variable (m : (ℓ : Loc nD τ sig) → Buf (Elt Ideal) ℓ) (ρ : Dev nD → PrngReg) (c : Dev nD)

/-- The arguments. -/
abbrev X0 : FVec Ideal S8192x4096 .f32 := m ((c : Thread nD τ).loc main_arg0)
abbrev X1 : FVec Ideal S8192x3072 .bf16 := m ((c : Thread nD τ).loc main_arg1)
abbrev X2 : FVec Ideal S8192x1024 .bf16 := m ((c : Thread nD τ).loc main_arg2)
abbrev X3 : FVec Ideal S4096x4096 .f32 := m ((c : Thread nD τ).loc main_arg3)

/-- The reference's product of the joined rows is the sum of the two halves' products. -/
theorem joined (x0 : FVec Ideal S8192x4096 .f32) (x1 : FVec Ideal S8192x3072 .bf16) (x2 : FVec Ideal S8192x1024 .bf16)
    (x3 : FVec Ideal S4096x4096 .f32) : val_main_v4 (F := Ideal) x0 x1 x2 x3
      = resid x2 (rows 3072 (K' := 1024) (K := 4096) (by decide) x3)
        (resid x1 (rows 0 (K' := 3072) (K := 4096) (by decide) x3) x0) := by
  have e : val_main_v4 (F := Ideal) x0 x1 x2 x3 = resid (val_main_v2 (F := Ideal) x1 x2) x3 x0 := by
    funext i
    unfold resid mul
    generalize hX : val_main_v2 (F := Ideal) x1 x2 = X
    pointwise [val_main_v4, val_main_v3, hX]
  rw [e]
  funext i
  unfold resid mul rows
  rw [add_assoc]
  refine congrArg (x0 i + ·) ?_
  refine (Fin.sum_univ_add (a := 3072) (b := 1024) (fun k : Fin (3072 + 1024) =>
    val_main_v2 (F := Ideal) x1 x2 (ix2 (i 0) k) * x3 (ix2 k (i 1)))).trans ?_
  refine congrArg₂ (· + ·) ?_ ?_
  · refine Finset.sum_congr rfl fun k _ => ?_
    pointwise [val_main_v2, val_main_v0]
    rw [dif_pos (show (Fin.castAdd 1024 k).val < 3072 from k.isLt)]
    rfl
  · refine Finset.sum_congr rfl fun k _ => ?_
    pointwise [val_main_v2, val_main_v1]
    rw [dif_neg (show ¬(Fin.natAdd 3072 k).val < 3072 from Nat.not_lt.mpr (Nat.le_add_right 3072 k.val))]
    exact congrArg₂ (· * ·) (congrArg x2 (congrArg (ix2 (i 0)) (Fin.ext (Nat.add_sub_cancel_left 3072 k.val)))) rfl

/-- The first half of the rows of the weights. -/
theorem in_w : V1 m ρ c main_v0 = rows 0 (K' := 3072) (K := 4096) (by decide) (X3 m c) := by
  show StableHlo.after hostOps0 (W0 m ρ c) (Proc.devRef .tc main_v0) = _
  simp only [hostOps0]
  after_results_simp
  show extractStridedSlice S3072x4096 ![0, 0] (X3 m c) slices_S4096x4096_S3072x4096_0_0 = _
  generalize X3 m c = U
  funext i
  unfold rows
  pointwise

/-- The attention half. -/
theorem out0 : V2 m ρ c main_v1 = resid (X1 m c) (rows 0 (K' := 3072) (K := 4096) (by decide) (X3 m c)) (X0 m c) := by
  refine ((W2_arr m ρ c 3).trans (final0 (V1 m ρ) c)).trans ?_
  have h : V1 m ρ c main_arg1 = X1 m c := W1_args m ρ c main_arg1 (by decide)
  have r : V1 m ρ c main_arg0 = X0 m c := W1_args m ρ c main_arg0 (by decide)
  exact congr (congrArg₂ resid h (in_w m ρ c)) r

theorem res_y : W3 m ρ c (Proc.devRef .tc main_v2) = val_main_v4 (F := Ideal) (X0 m c) (X1 m c) (X2 m c) (X3 m c) := by
  refine ((W3_arr m ρ c 3).trans (final1 (V2 m ρ) c)).trans ?_
  rw [joined]
  have h : V2 m ρ c main_arg2 = X2 m c := W2_args m ρ c main_arg2 (by decide)
  have w : V2 m ρ c main_arg3 = X3 m c := W2_args m ρ c main_arg3 (by decide)
  exact congr (congrArg₂ resid h (congrArg (rows 3072 (by decide)) w)) (out0 m ρ c)

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W3 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl⟩)
    (hinit := Pipeline.initEach L lv fun d => ?_)
    (QY := fun d s => ∀ b ∈ Pipeline.ucRefs τ sig, s.mem ((d : Thread nD τ).1, b) = W3 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W3 m ρ d) s)
    isplitl [A] <;> iassumption

/-- Every run ends with the reference's result, and with the arguments as they were. -/
theorem run : θ_run defs (onTc (τ := τ) (main (F := Ideal))) ⟨m, fun _ => 0, ρ⟩ (fun r => ∀ d : Dev nD,
      r.2.mem ((d.tc : Thread nD τ).loc main_v2) = val_main_v4 (F := Ideal) (X0 m d) (X1 m d) (X2 m d) (X3 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)) :=
  (θ_run _ _ _).mono (fun r h d =>
    ⟨(h d _ (mem_uc main_v2 (by decide))).trans (res_y m ρ d),
     (h d _ (mem_uc main_arg0 (by decide))).trans (W3_main_arg0 m ρ d),
     (h d _ (mem_uc main_arg1 (by decide))).trans (W3_main_arg1 m ρ d),
     (h d _ (mem_uc main_arg2 (by decide))).trans (W3_main_arg2 m ρ d),
     (h d _ (mem_uc main_arg3 (by decide))).trans (W3_main_arg3 m ρ d)⟩) (run_all m ρ)

end Cert.MixIdeal.Val
-- ==== Proof.StateStep.lean ====
module

public import proofs.«01_k».proof.Proof.Stages

/-! The state's recurrence: one complex step, eight of them, and the sum over a block of the diagonal. -/

@[expose] public section

noncomputable section

open Idealize.ShloMosaic

namespace Cert.Stages

/-- One step of the complex recurrence `h' = x + a h`: numbers are pairs, real part first. -/
def step (a h x : EReal × EReal) : EReal × EReal :=
  (x.1 + (a.1 * h.1 - a.2 * h.2), x.2 + (a.1 * h.2 + a.2 * h.1))

/-- Eight steps from `h`. -/
def eight (a h : EReal × EReal) (x : Fin 8 → EReal × EReal) : EReal × EReal :=
  step a (step a (step a (step a (step a (step a (step a (step a h (x 0)) (x 1)) (x 2)) (x 3)) (x 4)) (x 5)) (x 6)) (x 7)

/-- A sum over the 128 columns of a chunk, whose terms carry the mark of the block `m` of the diagonal, is the sum over
    the 16 columns of that block. -/
theorem sum_block (f h : Fin 128 → EReal) (m : Fin 8) :
    ∑ l : Fin 128, f l * (h l * (if l.val / 16 = m.val then 1 else 0))
      = ∑ c : Fin 16, f ⟨16 * m.val + c.val, by omega⟩ * h ⟨16 * m.val + c.val, by omega⟩ := by
  rw [← Equiv.sum_comp (finProdFinEquiv : Fin 8 × Fin 16 ≃ Fin 128), Fintype.sum_prod_type,
    Finset.sum_eq_single m]
  · refine Finset.sum_congr rfl fun c _ => ?_
    have e : (finProdFinEquiv (m, c) : Fin 128) = ⟨16 * m.val + c.val, by omega⟩ := by
      ext; simp [finProdFinEquiv]; omega
    rw [e]
    have : (16 * m.val + c.val) / 16 = m.val := by omega
    simp only [this, if_true, mul_one]
  · intro p _ hp
    refine Finset.sum_eq_zero fun c _ => ?_
    have e : (finProdFinEquiv (p, c) : Fin 128).val / 16 = p.val := by
      simp [finProdFinEquiv]; omega
    rw [e, if_neg (fun h => hp (Fin.ext h)), mul_zero, mul_zero]
  · intro h; exact absurd (Finset.mem_univ _) h

end Cert.Stages
-- ==== Proof.StateScan.lean ====
module

public import proofs.«01_k».proof.Proof.StateStep
public import proofs.«01_k».proof.Proof.Gen.StateIdeal.Skeleton

/-! The state's recurrence at the sample: what the scan's body computes, as eight steps. -/

@[expose] public section

set_option maxRecDepth 16384

noncomputable section

open Idealize.ShloMosaic Idealize.ShloMosaic.TcCoe Idealize.SL.Sem

namespace Cert.StateIdeal.Val

open Cert.StateIdeal Cert.StateIdeal.Gen Cert.Stages

/-! ## The body, step by step -/

section
variable (v17 v21 v25 v28 v32 v37 v33 v38 : FVec Ideal S8x512 .f32) (v53 v55 : FVec Ideal S1x1x1x512 .f32)
  (v51 v52 v72 v74 : FVec Ideal S1x512 .f32) (y : S1x512.Idx)

theorem pay10 (z : S8x512.Idx) : k1_pay10 v25 v32 z = v25 z + v32 z := rfl

theorem pay11 (z : S8x512.Idx) : k1_pay11 v28 v37 z = v28 z + v37 z := rfl

theorem pay14 : k1_pay14 v17 y = v17 (ix2 0 (y 1)) := by pointwise [k1_pay14]

theorem pay15 : k1_pay15 v21 y = v21 (ix2 0 (y 1)) := by pointwise [k1_pay15]

theorem pay16 : k1_pay16 (F := Ideal) v53 y = v53 (ix4 0 0 0 (y 1)) := by pointwise [k1_pay16]

theorem pay17 : k1_pay17 (F := Ideal) v55 y = v55 (ix4 0 0 0 (y 1)) := by pointwise [k1_pay17]

theorem pay18 : (k1_pay18 v17 v21 v25 v32 v53 v55 y : EReal) = k1_pay10 v25 v32 (ix2 0 (y 1)) + (k1_pay14 v17 y * k1_pay16 (F := Ideal) v53 y - k1_pay15 v21 y * k1_pay17 (F := Ideal) v55 y) := by
  unfold k1_pay18
  generalize k1_pay10 v25 v32 = G0
  generalize k1_pay14 v17 = G1
  generalize k1_pay15 v21 = G2
  generalize k1_pay16 (F := Ideal) v53 = G3
  generalize k1_pay17 (F := Ideal) v55 = G4
  pointwise

theorem pay19 : (k1_pay19 v17 v21 v28 v37 v53 v55 y : EReal) = k1_pay11 v28 v37 (ix2 0 (y 1)) + (k1_pay14 v17 y * k1_pay17 (F := Ideal) v55 y + k1_pay15 v21 y * k1_pay16 (F := Ideal) v53 y) := by
  unfold k1_pay19
  generalize k1_pay11 v28 v37 = G0
  generalize k1_pay14 v17 = G1
  generalize k1_pay15 v21 = G2
  generalize k1_pay16 (F := Ideal) v53 = G3
  generalize k1_pay17 (F := Ideal) v55 = G4
  pointwise

theorem pay21 : (k1_pay21 v17 v21 v25 v28 v32 v37 v53 v55 y : EReal) = k1_pay10 v25 v32 (ix2 1 (y 1)) + (k1_pay14 v17 y * k1_pay18 v17 v21 v25 v32 v53 v55 y - k1_pay15 v21 y * k1_pay19 v17 v21 v28 v37 v53 v55 y) := by
  unfold k1_pay21
  generalize k1_pay10 v25 v32 = G0
  generalize k1_pay18 v17 v21 v25 v32 v53 v55 = G1
  generalize k1_pay19 v17 v21 v28 v37 v53 v55 = G2
  generalize k1_pay14 v17 = G3
  generalize k1_pay15 v21 = G4
  pointwise

theorem pay20 : (k1_pay20 v17 v21 v25 v28 v32 v37 v53 v55 y : EReal) = k1_pay14 v17 y * k1_pay19 v17 v21 v28 v37 v53 v55 y + k1_pay15 v21 y * k1_pay18 v17 v21 v25 v32 v53 v55 y := by
  unfold k1_pay20
  generalize k1_pay18 v17 v21 v25 v32 v53 v55 = G0
  generalize k1_pay19 v17 v21 v28 v37 v53 v55 = G1
  generalize k1_pay14 v17 = G2
  generalize k1_pay15 v21 = G3
  pointwise

theorem pay22 : (k1_pay22 v38 v72 y : EReal) = v38 (ix2 1 (y 1)) + v72 y := by
  unfold k1_pay22

  pointwise

theorem pay23 : (k1_pay23 v33 v38 v51 v52 v72 v74 y : EReal) = v33 (ix2 2 (y 1)) + (v51 y * v74 y - v52 y * k1_pay22 v38 v72 y) := by
  unfold k1_pay23
  generalize k1_pay22 v38 v72 = G0
  pointwise

theorem pay24 : (k1_pay24 v38 v51 v52 v72 v74 y : EReal) = v38 (ix2 2 (y 1)) + (v51 y * k1_pay22 v38 v72 y + v52 y * v74 y) := by
  unfold k1_pay24
  generalize k1_pay22 v38 v72 = G0
  pointwise

theorem pay25 : (k1_pay25 v33 v38 v51 v52 v72 v74 y : EReal) = v33 (ix2 3 (y 1)) + (v51 y * k1_pay23 v33 v38 v51 v52 v72 v74 y - v52 y * k1_pay24 v38 v51 v52 v72 v74 y) := by
  unfold k1_pay25
  generalize k1_pay23 v33 v38 v51 v52 v72 v74 = G0
  generalize k1_pay24 v38 v51 v52 v72 v74 = G1
  pointwise

theorem pay26 : (k1_pay26 v33 v38 v51 v52 v72 v74 y : EReal) = v38 (ix2 3 (y 1)) + (v51 y * k1_pay24 v38 v51 v52 v72 v74 y + v52 y * k1_pay23 v33 v38 v51 v52 v72 v74 y) := by
  unfold k1_pay26
  generalize k1_pay23 v33 v38 v51 v52 v72 v74 = G0
  generalize k1_pay24 v38 v51 v52 v72 v74 = G1
  pointwise

theorem pay27 : (k1_pay27 v33 v38 v51 v52 v72 v74 y : EReal) = v33 (ix2 4 (y 1)) + (v51 y * k1_pay25 v33 v38 v51 v52 v72 v74 y - v52 y * k1_pay26 v33 v38 v51 v52 v72 v74 y) := by
  unfold k1_pay27
  generalize k1_pay25 v33 v38 v51 v52 v72 v74 = G0
  generalize k1_pay26 v33 v38 v51 v52 v72 v74 = G1
  pointwise

theorem pay28 : (k1_pay28 v33 v38 v51 v52 v72 v74 y : EReal) = v38 (ix2 4 (y 1)) + (v51 y * k1_pay26 v33 v38 v51 v52 v72 v74 y + v52 y * k1_pay25 v33 v38 v51 v52 v72 v74 y) := by
  unfold k1_pay28
  generalize k1_pay25 v33 v38 v51 v52 v72 v74 = G0
  generalize k1_pay26 v33 v38 v51 v52 v72 v74 = G1
  pointwise

theorem pay29 : (k1_pay29 v33 v38 v51 v52 v72 v74 y : EReal) = v33 (ix2 5 (y 1)) + (v51 y * k1_pay27 v33 v38 v51 v52 v72 v74 y - v52 y * k1_pay28 v33 v38 v51 v52 v72 v74 y) := by
  unfold k1_pay29
  generalize k1_pay27 v33 v38 v51 v52 v72 v74 = G0
  generalize k1_pay28 v33 v38 v51 v52 v72 v74 = G1
  pointwise

theorem pay30 : (k1_pay30 v33 v38 v51 v52 v72 v74 y : EReal) = v38 (ix2 5 (y 1)) + (v51 y * k1_pay28 v33 v38 v51 v52 v72 v74 y + v52 y * k1_pay27 v33 v38 v51 v52 v72 v74 y) := by
  unfold k1_pay30
  generalize k1_pay27 v33 v38 v51 v52 v72 v74 = G0
  generalize k1_pay28 v33 v38 v51 v52 v72 v74 = G1
  pointwise

theorem pay31 : (k1_pay31 v33 v38 v51 v52 v72 v74 y : EReal) = v33 (ix2 6 (y 1)) + (v51 y * k1_pay29 v33 v38 v51 v52 v72 v74 y - v52 y * k1_pay30 v33 v38 v51 v52 v72 v74 y) := by
  unfold k1_pay31
  generalize k1_pay29 v33 v38 v51 v52 v72 v74 = G0
  generalize k1_pay30 v33 v38 v51 v52 v72 v74 = G1
  pointwise

theorem pay32 : (k1_pay32 v33 v38 v51 v52 v72 v74 y : EReal) = v38 (ix2 6 (y 1)) + (v51 y * k1_pay30 v33 v38 v51 v52 v72 v74 y + v52 y * k1_pay29 v33 v38 v51 v52 v72 v74 y) := by
  unfold k1_pay32
  generalize k1_pay29 v33 v38 v51 v52 v72 v74 = G0
  generalize k1_pay30 v33 v38 v51 v52 v72 v74 = G1
  pointwise

theorem pay34 : (k1_pay34 v33 v38 v51 v52 v72 v74 y : EReal) = v33 (ix2 7 (y 1)) + (v51 y * k1_pay31 v33 v38 v51 v52 v72 v74 y - v52 y * k1_pay32 v33 v38 v51 v52 v72 v74 y) := by
  unfold k1_pay34
  generalize k1_pay31 v33 v38 v51 v52 v72 v74 = G0
  generalize k1_pay32 v33 v38 v51 v52 v72 v74 = G1
  pointwise

theorem pay33 : (k1_pay33 v33 v38 v51 v52 v72 v74 y : EReal) = v51 y * k1_pay32 v33 v38 v51 v52 v72 v74 y + v52 y * k1_pay31 v33 v38 v51 v52 v72 v74 y := by
  unfold k1_pay33
  generalize k1_pay31 v33 v38 v51 v52 v72 v74 = G0
  generalize k1_pay32 v33 v38 v51 v52 v72 v74 = G1
  pointwise

end

section
variable (v17 v21 v25 v28 v32 v37 : FVec Ideal S8x512 .f32) (v53 v55 : FVec Ideal S1x1x1x512 .f32) (y : S1x1x1x512.Idx)

/-- The last step's real part and imaginary part. -/
theorem pay35 (v134 : FVec Ideal S1x512 .f32) : k1_pay35 v134 y = v134 (ix2 0 (y 3)) := by pointwise [k1_pay35]

theorem pay36 (v38 : FVec Ideal S8x512 .f32) (v132 : FVec Ideal S1x512 .f32) :
    k1_pay36 v38 v132 y = (v38 (ix2 7 (y 3)) + v132 (ix2 0 (y 3)) : EReal) := by pointwise [k1_pay36]

theorem last_re : k1_pay35 (k1_pay34 (k1_pay10 v25 v32) (k1_pay11 v28 v37) (k1_pay14 v17) (k1_pay15 v21)
      (k1_pay20 v17 v21 v25 v28 v32 v37 v53 v55) (k1_pay21 v17 v21 v25 v28 v32 v37 v53 v55)) y
    = (eight (v17 (ix2 0 (y 3)), v21 (ix2 0 (y 3))) (v53 (ix4 0 0 0 (y 3)), v55 (ix4 0 0 0 (y 3)))
        fun k => (v25 (ix2 k (y 3)) + v32 (ix2 k (y 3)), v28 (ix2 k (y 3)) + v37 (ix2 k (y 3)))).1 := by
  rw [pay35]
  simp only [pay34, pay33, pay32, pay31, pay30, pay29, pay28, pay27, pay26, pay25, pay24, pay23, pay22, pay21, pay20, pay19, pay18,
    pay17, pay16, pay15, pay14, pay11, pay10]
  rfl

theorem last_im : k1_pay36 (k1_pay11 v28 v37) (k1_pay33 (k1_pay10 v25 v32) (k1_pay11 v28 v37) (k1_pay14 v17) (k1_pay15 v21)
      (k1_pay20 v17 v21 v25 v28 v32 v37 v53 v55) (k1_pay21 v17 v21 v25 v28 v32 v37 v53 v55)) y
    = (eight (v17 (ix2 0 (y 3)), v21 (ix2 0 (y 3))) (v53 (ix4 0 0 0 (y 3)), v55 (ix4 0 0 0 (y 3)))
        fun k => (v25 (ix2 k (y 3)) + v32 (ix2 k (y 3)), v28 (ix2 k (y 3)) + v37 (ix2 k (y 3)))).2 := by
  rw [pay36]
  simp only [pay34, pay33, pay32, pay31, pay30, pay29, pay28, pay27, pay26, pay25, pay24, pay23, pay22, pay21, pay20, pay19, pay18,
    pay17, pay16, pay15, pay14, pay11, pay10]
  rfl

end

section
variable (v0 : FVec Ideal S8x128 .f32) (v2 v8 : FVec Ideal S1x128x512 .f32) (v14 v18 : FVec Ideal S1x1x512 .f32) (z : S8x512.Idx)

/-- The products, and the coefficient of the step as every row holds it. -/
theorem pay3 : k1_pay3 (F := Ideal) v0 v2 z = (∑ l : Fin 128, v0 (ix2 (z 0) l) * v2 (ix3 0 l (z 1)) : EReal) := by
  pointwise [k1_pay3, k1_pay2]

theorem pay4 : k1_pay4 (F := Ideal) v0 v8 z = (∑ l : Fin 128, v0 (ix2 (z 0) l) * v8 (ix3 0 l (z 1)) : EReal) := by
  pointwise [k1_pay4, k1_pay2]

theorem pay5 : k1_pay5 (F := Ideal) v14 z = v14 (ix3 0 0 (z 1)) := by pointwise [k1_pay5]

theorem pay6 : k1_pay6 (F := Ideal) v18 z = v18 (ix3 0 0 (z 1)) := by pointwise [k1_pay6]

/-- A segment starts from zero. -/
theorem pay8 : k1_pay8 (F := Ideal) v14 v18 z = (0 : EReal) := by
  show k1_pay5 (F := Ideal) v14 z * Ideal.ofBits .f32 0x00000000#32 - k1_pay6 (F := Ideal) v18 z * Ideal.ofBits .f32 0x00000000#32 = (0 : EReal)
  rw [Ideal.ofBits_zero_f32, mul_zero, mul_zero, sub_zero]

theorem pay9 : k1_pay9 (F := Ideal) v14 v18 z = (0 : EReal) := by
  show k1_pay5 (F := Ideal) v14 z * Ideal.ofBits .f32 0x00000000#32 + k1_pay6 (F := Ideal) v18 z * Ideal.ofBits .f32 0x00000000#32 = (0 : EReal)
  rw [Ideal.ofBits_zero_f32, mul_zero, mul_zero, add_zero]

end

end Cert.StateIdeal.Val
-- ==== Proof.StateVal.lean ====
module

public import proofs.«01_k».proof.Proof.StateScan
public import proofs.«01_k».proof.Proof.Gen.StateIdeal.Frame

/-! The state's recurrence at the sample: what each tiled call leaves in its arrays. -/

@[expose] public section

set_option maxRecDepth 16384

noncomputable section

open Idealize.ShloMosaic Idealize.ShloMosaic.TcCoe Idealize.SL.Sem
open Idealize.ShloMosaic.Pipeline (Dat)

namespace Cert.StateIdeal.Val

open Cert.StateIdeal Cert.StateIdeal.Gen Cert.Stages

variable (V : (c : Dev nD) → (b : Ref sig .tc) → Buf (Elt Ideal) ((c : Thread nD τ).loc b))

/-! ## The coefficients -/

theorem idx0 : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem in0_0 (c : Dev nD) (t : Fin cfg0.N) : iblk0 V c 0 t = V c main_v3 := by
  blk_ext! [iblk0, idx0 t]

theorem in0_1 (c : Dev nD) (t : Fin cfg0.N) : iblk0 V c 1 t = V c main_v5 := by
  blk_ext! [iblk0, idx0 t]

theorem in0_2 (c : Dev nD) (t : Fin cfg0.N) : iblk0 V c 2 t = V c main_v1 := by
  blk_ext! [iblk0, idx0 t]

theorem in0_3 (c : Dev nD) (t : Fin cfg0.N) : iblk0 V c 3 t = V c main_v6 := by
  blk_ext! [iblk0, idx0 t]

theorem in0_4 (c : Dev nD) (t : Fin cfg0.N) : iblk0 V c 4 t = V c main_v7 := by
  blk_ext! [iblk0, idx0 t]

theorem final0_5 (c : Dev nD) : (dat0 V c).arrAt 5 cfg0.N = k0_pay6 (V c main_v3) (V c main_v5) (V c main_v1) := by
  refine (dat0 V c).arrAt_eq_of_after_last 5 t0_0 (by decide +kernel) _ fun j => ?_
  blk_simp
  rw [after0_5]; frame_out
  rw [in0_0, in0_1, in0_2]

theorem final0_6 (c : Dev nD) : (dat0 V c).arrAt 6 cfg0.N = k0_pay7 (V c main_v3) (V c main_v5) (V c main_v1) := by
  refine (dat0 V c).arrAt_eq_of_after_last 6 t0_0 (by decide +kernel) _ fun j => ?_
  blk_simp
  rw [after0_6]; frame_out
  rw [in0_0, in0_1, in0_2]

theorem final0_7 (c : Dev nD) : (dat0 V c).arrAt 7 cfg0.N = k0_pay14 (V c main_v3) (V c main_v5) (V c main_v1) (V c main_v6) (V c main_v7) := by
  refine (dat0 V c).arrAt_eq_of_after_last 7 t0_0 (by decide +kernel) _ fun j => ?_
  blk_simp
  rw [after0_7]; frame_out
  rw [in0_0, in0_1, in0_2, in0_3, in0_4]

theorem final0_8 (c : Dev nD) : (dat0 V c).arrAt 8 cfg0.N = k0_pay1 (k0_pay15 (V c main_v3) (V c main_v5) (V c main_v1) (V c main_v7)) (k0_pay16 (V c main_v3) (V c main_v5) (V c main_v1) (V c main_v6)) := by
  refine (dat0 V c).arrAt_eq_of_after_last 8 t0_0 (by decide +kernel) _ fun j => ?_
  blk_simp
  rw [after0_8]; frame_out
  rw [in0_0, in0_1, in0_2, in0_3, in0_4]

/-! ## The scan -/

theorem idx1 : ∀ t : Fin cfg1.N, win1_0.index t = ![t.val / 8, t.val % 8] ∧ win1_1.index t = ![t.val % 8, 0, 0]
    ∧ win1_2.index t = ![t.val % 8, 0, 0] ∧ win1_5.index t = ![t.val % 8, 0, 0] ∧ win1_6.index t = ![t.val % 8, 0, 0]
    ∧ win1_8.index t = ![t.val / 8, t.val % 8, 0, 0] ∧ win1_9.index t = ![t.val / 8, t.val % 8, 0, 0]
    ∧ win1_11.index t = ![t.val / 8, t.val % 8, 0, 0] ∧ win1_12.index t = ![t.val / 8, t.val % 8, 0, 0] :=
  (by decide +kernel : ∀ t : Fin grid1.N, _)

/-- Row `k` of batch entry `b`, and column `l` of chunk `q`. -/
abbrev urow (b k : Fin 8) : Fin 64 := ⟨b.val * 8 + k.val, by omega⟩
abbrev ucol (q : Fin 8) (l : Fin 128) : Fin 1024 := ⟨q.val * 128 + l.val, by omega⟩

/-- The state after the eight steps, from the arrays the call is handed. -/
def scanAt (u : FVec Ideal S64x1024 .f32) (br bi : FVec Ideal S8x128x512 .f32) (ar ai : FVec Ideal S8x1x512 .f32)
    (hr hi : FVec Ideal S8x8x1x512 .f32) (i : S8x8x1x512.Idx) : EReal × EReal :=
  eight (ar (ix3 (i 1) 0 (i 3)), ai (ix3 (i 1) 0 (i 3))) (hr (ix4 (i 0) (i 1) 0 (i 3)), hi (ix4 (i 0) (i 1) 0 (i 3)))
    fun k => (∑ l : Fin 128, u (ix2 (urow (i 0) k) (ucol (i 1) l)) * br (ix3 (i 1) l (i 3)),
      ∑ l : Fin 128, u (ix2 (urow (i 0) k) (ucol (i 1) l)) * bi (ix3 (i 1) l (i 3)))

/-- The batch entry and the chunk of a grid point. -/
abbrev bat (t : Fin cfg1.N) : Fin 8 := ⟨t.val / 8, by have h : t.val < 64 := t.isLt; omega⟩
abbrev chk (t : Fin cfg1.N) : Fin 8 := ⟨t.val % 8, by omega⟩

theorem in1_0 (c : Dev nD) (t : Fin cfg1.N) (r : Fin 8) (l : Fin 128) :
    iblk1 V c 0 t (ix2 r l) = V c main_v15 (ix2 (urow (bat t) r) (ucol (chk t) l)) := by
  blk_point [iblk1, idx1 t]

theorem in1_1 (c : Dev nD) (t : Fin cfg1.N) (l : Fin 128) (n : Fin 512) :
    iblk1 V c 1 t (ix3 0 l n) = V c main_v28 (ix3 (chk t) l n) := by
  blk_point [iblk1, idx1 t]

theorem in1_2 (c : Dev nD) (t : Fin cfg1.N) (l : Fin 128) (n : Fin 512) :
    iblk1 V c 2 t (ix3 0 l n) = V c main_v41 (ix3 (chk t) l n) := by
  blk_point [iblk1, idx1 t]

theorem in1_5 (c : Dev nD) (t : Fin cfg1.N) (n : Fin 512) :
    iblk1 V c 5 t (ix3 0 0 n) = V c main_v68 (ix3 (chk t) 0 n) := by
  blk_point [iblk1, idx1 t]

theorem in1_6 (c : Dev nD) (t : Fin cfg1.N) (n : Fin 512) :
    iblk1 V c 6 t (ix3 0 0 n) = V c main_v69 (ix3 (chk t) 0 n) := by
  blk_point [iblk1, idx1 t]

theorem in1_8 (c : Dev nD) (t : Fin cfg1.N) (n : Fin 512) :
    iblk1 V c 8 t (ix4 0 0 0 n) = V c main_v71 (ix4 (bat t) (chk t) 0 n) := by
  blk_point [iblk1, idx1 t]

theorem in1_9 (c : Dev nD) (t : Fin cfg1.N) (n : Fin 512) :
    iblk1 V c 9 t (ix4 0 0 0 n) = V c main_v72 (ix4 (bat t) (chk t) 0 n) := by
  blk_point [iblk1, idx1 t]

/-- Where a grid point's results lie in the two arrays. -/
theorem at1_11 (X : FVec Ideal S8x8x1x512 .f32) (t : Fin cfg1.N) (y : S1x1x1x512.Idx) :
    X (((View.whole main_v73_1).slice (win1_11.rect t)).emb y) = X (ix4 (bat t) (chk t) 0 (y 3)) := by
  blk_point [idx1 t]

theorem at1_12 (X : FVec Ideal S8x8x1x512 .f32) (t : Fin cfg1.N) (y : S1x1x1x512.Idx) :
    X (((View.whole main_v73_2).slice (win1_12.rect t)).emb y) = X (ix4 (bat t) (chk t) 0 (y 3)) := by
  blk_point [idx1 t]

theorem final1_11 (c : Dev nD) : (dat1 V c).arrAt 11 cfg1.N = fun i => (scanAt (V c main_v15) (V c main_v28) (V c main_v41)
    (V c main_v68) (V c main_v69) (V c main_v71) (V c main_v72) i).1 := by
  refine (dat1 V c).arrAt_eq_of_covers 11 _ (by decide +kernel) fun t _ y => ?_
  blk_simp
  rw [after1_11]
  unfold outsAt1
  dsimp only
  frame_out
  refine Eq.trans ?_ (at1_11 (fun i => (scanAt (V c main_v15) (V c main_v28) (V c main_v41)
    (V c main_v68) (V c main_v69) (V c main_v71) (V c main_v72) i).1) t y).symm
  rw [last_re]
  simp only [pay8, pay9, zero_add, pay5, pay6, pay3, pay4]
  unfold scanAt
  refine congrArg (fun p : EReal × EReal => p.1) (congr (congrArg₂ eight
    (congrArg₂ Prod.mk (in1_5 V c t (y 3)) (in1_6 V c t (y 3))) (congrArg₂ Prod.mk (in1_8 V c t (y 3)) (in1_9 V c t (y 3))))
    (funext fun k => congrArg₂ Prod.mk
      (Finset.sum_congr rfl fun l _ => congrArg₂ (fun a b : EReal => a * b) (in1_0 V c t k l) (in1_1 V c t l (y 3)))
      (Finset.sum_congr rfl fun l _ => congrArg₂ (fun a b : EReal => a * b) (in1_0 V c t k l) (in1_2 V c t l (y 3)))))

theorem final1_12 (c : Dev nD) : (dat1 V c).arrAt 12 cfg1.N = fun i => (scanAt (V c main_v15) (V c main_v28) (V c main_v41)
    (V c main_v68) (V c main_v69) (V c main_v71) (V c main_v72) i).2 := by
  refine (dat1 V c).arrAt_eq_of_covers 12 _ (by decide +kernel) fun t _ y => ?_
  blk_simp
  rw [after1_12]
  unfold outsAt1
  dsimp only
  frame_out
  refine Eq.trans ?_ (at1_12 (fun i => (scanAt (V c main_v15) (V c main_v28) (V c main_v41)
    (V c main_v68) (V c main_v69) (V c main_v71) (V c main_v72) i).2) t y).symm
  rw [last_im]
  simp only [pay8, pay9, zero_add, pay5, pay6, pay3, pay4]
  unfold scanAt
  refine congrArg (fun p : EReal × EReal => p.2) (congr (congrArg₂ eight
    (congrArg₂ Prod.mk (in1_5 V c t (y 3)) (in1_6 V c t (y 3))) (congrArg₂ Prod.mk (in1_8 V c t (y 3)) (in1_9 V c t (y 3))))
    (funext fun k => congrArg₂ Prod.mk
      (Finset.sum_congr rfl fun l _ => congrArg₂ (fun a b : EReal => a * b) (in1_0 V c t k l) (in1_1 V c t l (y 3)))
      (Finset.sum_congr rfl fun l _ => congrArg₂ (fun a b : EReal => a * b) (in1_0 V c t k l) (in1_2 V c t l (y 3)))))

end Cert.StateIdeal.Val
-- ==== Proof.StateHost.lean ====
module

public import proofs.«01_k».proof.Proof.StateStep
public import proofs.«01_k».proof.Proof.Gen.StateIdeal.Skeleton
public import proofs.«01_k».proof.Proof.Gen.StateRefIdeal.Read

/-! The state's recurrence at the sample: the arrays the host operations hand to the scan, at an index. -/

@[expose] public section

set_option maxRecDepth 16384

noncomputable section

open Idealize.ShloMosaic Idealize.ShloMosaic.TcCoe Idealize.SL.Sem

namespace Cert.StateIdeal.Val

open Cert.StateIdeal Cert.StateIdeal.Gen Cert.Stages Cert.StateRefIdeal.Read

/-- Each column repeated 16 times. -/
def rep (L : FVec Ideal S64x64 .f32) : FVec Ideal S64x1024 .f32 :=
  shapeCast S64x1024 (broadcastInDim S64x64x16 ![0, 1] bcast_S64x64_S64x64x16_0_1 L) shapeCasts_S64x64x16_S64x1024

/-- One column in every column. -/
def col (S : FVec Ideal S64 .f32) : FVec Ideal S64x1024 .f32 :=
  broadcastInDim S64x1024 ![0, 1] bcast_S64x1_S64x1024_0_1 (broadcastInDim S64x1 ![0] bcast_S64_S64x1_0 S)

/-- The last two axes as one. -/
def flat (B : FVec Ideal S64x64x16 .f32) : FVec Ideal S64x1024 .f32 := shapeCast S64x1024 B shapeCasts_S64x64x16_S64x1024

/-- The column of entry `(n, c)` of a row. -/
abbrev at16 (n : Fin 64) (c : Fin 16) : Fin 1024 := ⟨16 * n.val + c.val, by omega⟩

section
variable (L M : FVec Ideal S64x64 .f32) (S : FVec Ideal S64 .f32) (B C : FVec Ideal S64x64x16 .f32) (g n : Fin 64) (c : Fin 16)

theorem rep_at : rep L (ix2 g (at16 n c)) = L (ix2 g n) := by
  pointwise [rep]
  exact congrArg (fun a => L (ix2 g a)) (Fin.ext (by show (16 * n.val + c.val) / 16 = n.val; omega))

theorem col_at : col S (ix2 g (at16 n c)) = S (ix1 g) := by
  pointwise [col]

theorem flat_at : flat B (ix2 g (at16 n c)) = B (ix3 g n c) := by
  pointwise [flat]
  exact congrArg₂ (fun a b => B (ix3 g a b)) (Fin.ext (by show (16 * n.val + c.val) / 16 = n.val; omega))
    (Fin.ext (by show (16 * n.val + c.val) % 16 = c.val; omega))

theorem a_re : k0_pay6 (F := Ideal) (rep L) (rep M) (col S) (ix2 g (at16 n c)) = val_main_v9 (F := Ideal) L M S (ix2 g n) := by
  have h1 := rep_at L g n c
  have h2 := rep_at M g n c
  have h3 := col_at S g n c
  revert h1 h2 h3
  generalize rep L = A; generalize rep M = A'; generalize col S = A''
  intro h1 h2 h3
  pointwise [k0_pay6, k0_pay5, k0_pay4, k0_pay3, k0_pay2, val_main_v9, val_main_v8, val_main_v7, val_main_v6, val_main_v5, val_main_v4,
    val_main_v3, val_main_v2, val_main_v1, h1, h2, h3]

theorem a_im : k0_pay7 (F := Ideal) (rep L) (rep M) (col S) (ix2 g (at16 n c)) = val_main_v13 (F := Ideal) L M S (ix2 g n) := by
  have h1 := rep_at L g n c
  have h2 := rep_at M g n c
  have h3 := col_at S g n c
  revert h1 h2 h3
  generalize rep L = A; generalize rep M = A'; generalize col S = A''
  intro h1 h2 h3
  pointwise [k0_pay7, k0_pay5, k0_pay4, k0_pay3, k0_pay2, val_main_v13, val_main_v12, val_main_v11, val_main_v10, val_main_v5, val_main_v4,
    val_main_v3, val_main_v2, val_main_v1, h1, h2, h3]

theorem f_re : k0_pay10 (F := Ideal) (rep L) (rep M) (col S) (ix2 g (at16 n c)) = val_main_v22 (F := Ideal) L M S (ix2 g n) := by
  have h1 := rep_at L g n c
  have h2 := rep_at M g n c
  have h4 := a_re L M S g n c
  have h5 := a_im L M S g n c
  unfold k0_pay10 k0_pay9 k0_pay8
  revert h1 h2 h4 h5
  generalize k0_pay6 (F := Ideal) (rep L) (rep M) (col S) = P; generalize k0_pay7 (F := Ideal) (rep L) (rep M) (col S) = Q
  generalize rep L = A; generalize rep M = A'
  unfold val_main_v22 val_main_v21 val_main_v20 val_main_v19 val_main_v18
  generalize val_main_v9 (F := Ideal) L M S = P'; generalize val_main_v13 (F := Ideal) L M S = Q'
  intro h1 h2 h4 h5
  pointwise [k0_pay3, k0_pay2, val_main_v17, val_main_cst, val_main_v16, val_main_v15, val_main_v14, h1, h2, h4, h5]

theorem f_im : k0_pay11 (F := Ideal) (rep L) (rep M) (col S) (ix2 g (at16 n c)) = val_main_v26 (F := Ideal) L M S (ix2 g n) := by
  have h1 := rep_at L g n c
  have h2 := rep_at M g n c
  have h4 := a_re L M S g n c
  have h5 := a_im L M S g n c
  unfold k0_pay11 k0_pay9 k0_pay8
  revert h1 h2 h4 h5
  generalize k0_pay6 (F := Ideal) (rep L) (rep M) (col S) = P; generalize k0_pay7 (F := Ideal) (rep L) (rep M) (col S) = Q
  generalize rep L = A; generalize rep M = A'
  unfold val_main_v26 val_main_v25 val_main_v24 val_main_v23 val_main_v18
  generalize val_main_v9 (F := Ideal) L M S = P'; generalize val_main_v13 (F := Ideal) L M S = Q'
  intro h1 h2 h4 h5
  pointwise [k0_pay3, k0_pay2, val_main_v17, val_main_cst, val_main_v16, val_main_v15, val_main_v14, h1, h2, h4, h5]

theorem b_re : k0_pay14 (F := Ideal) (rep L) (rep M) (col S) (flat B) (flat C) (ix2 g (at16 n c))
    = val_main_v33 (F := Ideal) L M S B C (ix3 g n c) := by
  have h1 := f_re L M S g n c
  have h2 := f_im L M S g n c
  have h3 := flat_at B g n c
  have h4 := flat_at C g n c
  unfold k0_pay14
  revert h1 h2 h3 h4
  generalize k0_pay10 (F := Ideal) (rep L) (rep M) (col S) = P; generalize k0_pay11 (F := Ideal) (rep L) (rep M) (col S) = Q
  generalize flat B = A; generalize flat C = A'
  unfold val_main_v33 val_main_v32 val_main_v31 val_main_v30 val_main_v29 val_main_v28 val_main_v27
  generalize val_main_v22 (F := Ideal) L M S = P'; generalize val_main_v26 (F := Ideal) L M S = Q'
  intro h1 h2 h3 h4
  pointwise [k0_pay12, k0_pay13, h1, h2, h3, h4]

theorem b_im : k0_pay1 (k0_pay15 (F := Ideal) (rep L) (rep M) (col S) (flat C)) (k0_pay16 (F := Ideal) (rep L) (rep M) (col S) (flat B)) (ix2 g (at16 n c))
    = val_main_v40 (F := Ideal) L M S B C (ix3 g n c) := by
  have h1 := f_re L M S g n c
  have h2 := f_im L M S g n c
  have h3 := flat_at B g n c
  have h4 := flat_at C g n c
  unfold k0_pay1 k0_pay15 k0_pay16
  revert h1 h2 h3 h4
  generalize k0_pay10 (F := Ideal) (rep L) (rep M) (col S) = P; generalize k0_pay11 (F := Ideal) (rep L) (rep M) (col S) = Q
  generalize flat B = A; generalize flat C = A'
  unfold val_main_v40 val_main_v39 val_main_v38 val_main_v37 val_main_v36 val_main_v35 val_main_v34
  generalize val_main_v22 (F := Ideal) L M S = P'; generalize val_main_v26 (F := Ideal) L M S = Q'
  intro h1 h2 h3 h4
  pointwise [k0_pay12, k0_pay13, h1, h2, h3, h4]

end

/-! ## The blocks of the diagonal -/

/-- One where row and column agree, zero elsewhere. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_at (a b : Fin 8) : eye (ix2 a b) = (if a.val = b.val then 1 else 0 : EReal) := by
  have h : ∀ a b : Fin 8, (cmpi .eq (addi (iotaInDim S8x8 32 0) (broadcastInDim S8x8 ![] bcast_S_S8x8 (constantI S_ 32 0#32)))
      (iotaInDim S8x8 32 1) : IVec S8x8 1) (ix2 a b) = if a.val = b.val then 1#1 else 0#1 := by decide +kernel
  have e : eye (ix2 a b) = ((((cmpi .eq (addi (iotaInDim S8x8 32 0) (broadcastInDim S8x8 ![] bcast_S_S8x8 (constantI S_ 32 0#32)))
      (iotaInDim S8x8 32 1) : IVec S8x8 1) (ix2 a b)).toNat : ℝ) : EReal) := rfl
  rw [e, h]
  split_ifs <;> simp

/-- Each row of the array as blocks of the diagonal of a chunk of eight rows. -/
def blocks (X : FVec Ideal S64x1024 .f32) : FVec Ideal S8x128x512 .f32 :=
  shapeCast S8x128x512 (mulf
    (broadcastInDim S8x8x16x8x64 ![0, 1, 2, 3, 4] bcast_S8x8x16x1x64_S8x8x16x8x64_0_1_2_3_4
      (shapeCast S8x8x16x1x64 (transpose S64x16x64 [0, 2, 1] (shapeCast S64x64x16 X shapeCasts_S64x1024_S64x64x16)
        transposes_S64x64x16_S64x16x64_0_2_1) shapeCasts_S64x16x64_S8x8x16x1x64))
    (broadcastInDim S8x8x16x8x64 ![0, 1, 2, 3, 4] bcast_S1x8x1x8x1_S8x8x16x8x64_0_1_2_3_4
      (broadcastInDim S1x8x1x8x1 ![1, 3] bcast_S8x8_S1x8x1x8x1_1_3 eye))) shapeCasts_S8x8x16x8x64_S8x128x512

/-- The chunk of row `g`, and the column of `(g, n)` in it. -/
abbrev chunk (g : Fin 64) : Fin 8 := ⟨g.val / 8, by omega⟩
abbrev part (g : Fin 64) : Fin 8 := ⟨g.val % 8, by omega⟩
abbrev lane (g n : Fin 64) : Fin 512 := ⟨g.val % 8 * 64 + n.val, by omega⟩

theorem blocks_at (X : FVec Ideal S64x1024 .f32) (g n : Fin 64) (l : Fin 128) : blocks X (ix3 (chunk g) l (lane g n))
    = (X (ix2 ⟨g.val / 8 * 8 + l.val / 16, by omega⟩ (at16 n ⟨l.val % 16, by omega⟩)) * eye (ix2 ⟨l.val / 16, by omega⟩ (part g)) : EReal) := by
  unfold blocks
  generalize eye = E
  pointwise
  exact congrArg₂ (fun (a : Fin 1024) (b : Fin 8) =>
      (X (ix2 ⟨g.val / 8 * 8 + l.val / 16, by omega⟩ a) * E (ix2 ⟨l.val / 16, by omega⟩ b) : EReal))
    (Fin.ext (by show (g.val % 8 * 64 + n.val) % 64 * 16 + l.val % 16 = 16 * n.val + l.val % 16; omega))
    (Fin.ext (by show (g.val % 8 * 64 + n.val) / 64 = g.val % 8; omega))

theorem cast_at (X : FVec Ideal S8x8x1x512 .f32) (i : S8x64x64.Idx) :
    shapeCast S8x64x64 X shapeCasts_S8x8x1x512_S8x64x64 i = X (ix4 (i 0) (chunk (i 1)) 0 (lane (i 1) (i 2))) := by
  pointwise

theorem state_at (X : FVec Ideal S8x64x64 .f32) (i : S8x64x64.Idx) :
    shapeCast S8x8x1x512 X shapeCasts_S8x64x64_S8x8x1x512 (ix4 (i 0) (chunk (i 1)) 0 (lane (i 1) (i 2))) = X i := by
  have h2 : (i 2).val < 64 := (i 2).isLt
  have e : (ix3 (i 0) (i 1) (i 2) : S8x64x64.Idx) = i := funext fun d => by fin_cases d <;> rfl
  pointwise
  exact (congrArg₂ (fun (a b : Fin 64) => X (ix3 (i 0) a b))
    (Fin.ext (by show (i 1).val / 8 * 8 + ((i 1).val % 8 * 64 + (i 2).val) / 64 = (i 1).val; omega))
    (Fin.ext (by show ((i 1).val % 8 * 64 + (i 2).val) % 64 = (i 2).val; omega))).trans (congrArg X e)

theorem row_at (X : FVec Ideal S64x1024 .f32) (g n : Fin 64) :
    shapeCast S8x1x512 (Host.slice S64x64 ![0, 0] ![1, 16] X slicesBy_S64x1024_S64x64_0s1_0s16) shapeCasts_S64x64_S8x1x512
      (ix3 (chunk g) 0 (lane g n)) = X (ix2 g (at16 n 0)) := by
  pointwise
  exact congrArg₂ (fun (a : Fin 64) (b : Fin 1024) => X (ix2 a b))
    (Fin.ext (by show g.val / 8 * 8 + (g.val % 8 * 64 + n.val) / 64 = g.val; omega))
    (Fin.ext (by show 16 * ((g.val % 8 * 64 + n.val) % 64) = 16 * n.val + 0; omega))

/-- The rows in the order of the segments. -/
def segs8 (X : FVec Ideal S64x1024 .f32) : FVec Ideal S64x1024 .f32 :=
  shapeCast S64x1024 (transpose S8x1x8x1024 [0, 2, 1, 3] (shapeCast S8x8x1x1024 X shapeCasts_S64x1024_S8x8x1x1024)
    transposes_S8x8x1x1024_S8x1x8x1024_0_2_1_3) shapeCasts_S8x1x8x1024_S64x1024

/-- At the sample that order is the order they have. -/
theorem segs8_at (X : FVec Ideal S64x1024 .f32) (j : S64x1024.Idx) : segs8 X j = X j := by
  pointwise [segs8]

/-- The columns as groups of 16. -/
theorem u_at (X : FVec Ideal S64x1024 .f32) (b k : Fin 8) (g : Fin 64) (c : Fin 16) :
    val_main_v0 (F := Ideal) X (ix4 b k g c) = X (ix2 ⟨b.val * 8 + k.val, by omega⟩ ⟨g.val * 16 + c.val, by omega⟩) := by
  pointwise [val_main_v0]

end Cert.StateIdeal.Val
-- ==== Proof.StateRef.lean ====
module

public import proofs.«01_k».proof.Proof.StateStep
public import proofs.«01_k».proof.Proof.Gen.StateRefIdeal.Read

/-! The state's recurrence at the sample: the reference, as eight steps. -/

@[expose] public section

set_option maxRecDepth 16384

noncomputable section

open Idealize.ShloMosaic Idealize.ShloMosaic.TcCoe Idealize.SL.Sem

namespace Cert.StateRefIdeal.Stage

open Cert.StateRefIdeal Cert.StateRefIdeal.Read Cert.Stages

variable (x0 : FVec Ideal S64x1024 .f32) (x1 x2 : FVec Ideal S8x64x64 .f32) (x3 x4 : FVec Ideal S64x64 .f32)
  (x5 : FVec Ideal S64 .f32) (x6 x7 : FVec Ideal S64x64x16 .f32) (i : S8x64x64.Idx)

/-- The inputs of the steps. -/
theorem in_re (j : S8x8x64x64.Idx) : val_main_v42 (F := Ideal) x0 x3 x4 x5 x6 x7 j
    = (∑ c : Fin 16, val_main_v33 (F := Ideal) x3 x4 x5 x6 x7 (ix3 (j 2) (j 3) c)
        * val_main_v0 (F := Ideal) x0 (ix4 (j 0) (j 1) (j 2) c) : EReal) := by
  generalize hA : val_main_v33 (F := Ideal) x3 x4 x5 x6 x7 = A
  generalize hB : val_main_v0 (F := Ideal) x0 = B
  pointwise [val_main_v42, val_main_v41, hA, hB]

theorem in_im (j : S8x8x64x64.Idx) : val_main_v44 (F := Ideal) x0 x3 x4 x5 x6 x7 j
    = (∑ c : Fin 16, val_main_v40 (F := Ideal) x3 x4 x5 x6 x7 (ix3 (j 2) (j 3) c)
        * val_main_v0 (F := Ideal) x0 (ix4 (j 0) (j 1) (j 2) c) : EReal) := by
  generalize hA : val_main_v40 (F := Ideal) x3 x4 x5 x6 x7 = A
  generalize hB : val_main_v0 (F := Ideal) x0 = B
  pointwise [val_main_v44, val_main_v43, hA, hB]

theorem v54 : (val_main_v54 (F := Ideal) x0 x1 x2 x3 x4 x5 x6 x7 i : EReal) = val_main_v42 (F := Ideal) x0 x3 x4 x5 x6 x7 (ix4 (i 0) 0 (i 1) (i 2)) + (val_main_v9 (F := Ideal) x3 x4 x5 (ix2 (i 1) (i 2)) * x1 i - val_main_v13 (F := Ideal) x3 x4 x5 (ix2 (i 1) (i 2)) * x2 i) := by
  generalize hX : val_main_v42 (F := Ideal) x0 x3 x4 x5 x6 x7 = X
  generalize hA : val_main_v9 (F := Ideal) x3 x4 x5 = A
  generalize hB : val_main_v13 (F := Ideal) x3 x4 x5 = B
  pointwise [val_main_v54, val_main_v53, val_main_v52, val_main_v51, val_main_v50, val_main_v49, val_main_v48, val_main_v47, val_main_v46, val_main_v45, hX, hA, hB]

theorem v64 : (val_main_v64 (F := Ideal) x0 x1 x2 x3 x4 x5 x6 x7 i : EReal) = val_main_v44 (F := Ideal) x0 x3 x4 x5 x6 x7 (ix4 (i 0) 0 (i 1) (i 2)) + (val_main_v9 (F := Ideal) x3 x4 x5 (ix2 (i 1) (i 2)) * x2 i + val_main_v13 (F := Ideal) x3 x4 x5 (ix2 (i 1) (i 2)) * x1 i) := by
  generalize hX : val_main_v44 (F := Ideal) x0 x3 x4 x5 x6 x7 = X
  generalize hA : val_main_v9 (F := Ideal) x3 x4 x5 = A
  generalize hB : val_main_v13 (F := Ideal) x3 x4 x5 = B
  pointwise [val_main_v64, val_main_v63, val_main_v62, val_main_v61, val_main_v60, val_main_v59, val_main_v58, val_main_v57, val_main_v56, val_main_v55, hX, hA, hB]

theorem v74 : (val_main_v74 (F := Ideal) x0 x1 x2 x3 x4 x5 x6 x7 i : EReal) = val_main_v42 (F := Ideal) x0 x3 x4 x5 x6 x7 (ix4 (i 0) 1 (i 1) (i 2)) + (val_main_v9 (F := Ideal) x3 x4 x5 (ix2 (i 1) (i 2)) * val_main_v54 (F := Ideal) x0 x1 x2 x3 x4 x5 x6 x7 i - val_main_v13 (F := Ideal) x3 x4 x5 (ix2 (i 1) (i 2)) * val_main_v64 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v54 (F := Ideal) x0 x1 x2 x3 x4 x5 x6 x7 = P
  generalize hQ : val_main_v64 (F := Ideal) x0 x1 x2 x3 x4 x5 x6 x7 = Q
  pointwise [val_main_v74, val_main_v73, val_main_v72, val_main_v71, val_main_v70, val_main_v69, val_main_v68, val_main_v67, val_main_v66, val_main_v65, hX, hA, hB, hP, hQ]

theorem v84 : (val_main_v84 (F := Ideal) x0 x1 x2 x3 x4 x5 x6 x7 i : EReal) = val_main_v44 (F := Ideal) x0 x3 x4 x5 x6 x7 (ix4 (i 0) 1 (i 1) (i 2)) + (val_main_v9 (F := Ideal) x3 x4 x5 (ix2 (i 1) (i 2)) * val_main_v64 (F := Ideal) x0 x1 x2 x3 x4 x5 x6 x7 i + val_main_v13 (F := Ideal) x3 x4 x5 (ix2 (i 1) (i 2)) * val_main_v54 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v54 (F := Ideal) x0 x1 x2 x3 x4 x5 x6 x7 = P
  generalize hQ : val_main_v64 (F := Ideal) x0 x1 x2 x3 x4 x5 x6 x7 = Q
  pointwise [val_main_v84, val_main_v83, val_main_v82, val_main_v81, val_main_v80, val_main_v79, val_main_v78, val_main_v77, val_main_v76, val_main_v75, hX, hA, hB, hP, hQ]

theorem v94 : (val_main_v94 (F := Ideal) x0 x1 x2 x3 x4 x5 x6 x7 i : EReal) = val_main_v42 (F := Ideal) x0 x3 x4 x5 x6 x7 (ix4 (i 0) 2 (i 1) (i 2)) + (val_main_v9 (F := Ideal) x3 x4 x5 (ix2 (i 1) (i 2)) * val_main_v74 (F := Ideal) x0 x1 x2 x3 x4 x5 x6 x7 i - val_main_v13 (F := Ideal) x3 x4 x5 (ix2 (i 1) (i 2)) * val_main_v84 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v74 (F := Ideal) x0 x1 x2 x3 x4 x5 x6 x7 = P
  generalize hQ : val_main_v84 (F := Ideal) x0 x1 x2 x3 x4 x5 x6 x7 = Q
  pointwise [val_main_v94, val_main_v93, val_main_v92, val_main_v91, val_main_v90, val_main_v89, val_main_v88, val_main_v87, val_main_v86, val_main_v85, hX, hA, hB, hP, hQ]

theorem v104 : (val_main_v104 (F := Ideal) x0 x1 x2 x3 x4 x5 x6 x7 i : EReal) = val_main_v44 (F := Ideal) x0 x3 x4 x5 x6 x7 (ix4 (i 0) 2 (i 1) (i 2)) + (val_main_v9 (F := Ideal) x3 x4 x5 (ix2 (i 1) (i 2)) * val_main_v84 (F := Ideal) x0 x1 x2 x3 x4 x5 x6 x7 i + val_main_v13 (F := Ideal) x3 x4 x5 (ix2 (i 1) (i 2)) * val_main_v74 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v74 (F := Ideal) x0 x1 x2 x3 x4 x5 x6 x7 = P
  generalize hQ : val_main_v84 (F := Ideal) x0 x1 x2 x3 x4 x5 x6 x7 = Q
  pointwise [val_main_v104, val_main_v103, val_main_v102, val_main_v101, val_main_v100, val_main_v99, val_main_v98, val_main_v97, val_main_v96, val_main_v95, hX, hA, hB, hP, hQ]

theorem v114 : (val_main_v114 (F := Ideal) x0 x1 x2 x3 x4 x5 x6 x7 i : EReal) = val_main_v42 (F := Ideal) x0 x3 x4 x5 x6 x7 (ix4 (i 0) 3 (i 1) (i 2)) + (val_main_v9 (F := Ideal) x3 x4 x5 (ix2 (i 1) (i 2)) * val_main_v94 (F := Ideal) x0 x1 x2 x3 x4 x5 x6 x7 i - val_main_v13 (F := Ideal) x3 x4 x5 (ix2 (i 1) (i 2)) * val_main_v104 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v94 (F := Ideal) x0 x1 x2 x3 x4 x5 x6 x7 = P
  generalize hQ : val_main_v104 (F := Ideal) x0 x1 x2 x3 x4 x5 x6 x7 = Q
  pointwise [val_main_v114, val_main_v113, val_main_v112, val_main_v111, val_main_v110, val_main_v109, val_main_v108, val_main_v107, val_main_v106, val_main_v105, hX, hA, hB, hP, hQ]

theorem v124 : (val_main_v124 (F := Ideal) x0 x1 x2 x3 x4 x5 x6 x7 i : EReal) = val_main_v44 (F := Ideal) x0 x3 x4 x5 x6 x7 (ix4 (i 0) 3 (i 1) (i 2)) + (val_main_v9 (F := Ideal) x3 x4 x5 (ix2 (i 1) (i 2)) * val_main_v104 (F := Ideal) x0 x1 x2 x3 x4 x5 x6 x7 i + val_main_v13 (F := Ideal) x3 x4 x5 (ix2 (i 1) (i 2)) * val_main_v94 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v94 (F := Ideal) x0 x1 x2 x3 x4 x5 x6 x7 = P
  generalize hQ : val_main_v104 (F := Ideal) x0 x1 x2 x3 x4 x5 x6 x7 = Q
  pointwise [val_main_v124, val_main_v123, val_main_v122, val_main_v121, val_main_v120, val_main_v119, val_main_v118, val_main_v117, val_main_v116, val_main_v115, hX, hA, hB, hP, hQ]

theorem v134 : (val_main_v134 (F := Ideal) x0 x1 x2 x3 x4 x5 x6 x7 i : EReal) = val_main_v42 (F := Ideal) x0 x3 x4 x5 x6 x7 (ix4 (i 0) 4 (i 1) (i 2)) + (val_main_v9 (F := Ideal) x3 x4 x5 (ix2 (i 1) (i 2)) * val_main_v114 (F := Ideal) x0 x1 x2 x3 x4 x5 x6 x7 i - val_main_v13 (F := Ideal) x3 x4 x5 (ix2 (i 1) (i 2)) * val_main_v124 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v114 (F := Ideal) x0 x1 x2 x3 x4 x5 x6 x7 = P
  generalize hQ : val_main_v124 (F := Ideal) x0 x1 x2 x3 x4 x5 x6 x7 = Q
  pointwise [val_main_v134, val_main_v133, val_main_v132, val_main_v131, val_main_v130, val_main_v129, val_main_v128, val_main_v127, val_main_v126, val_main_v125, hX, hA, hB, hP, hQ]

theorem v144 : (val_main_v144 (F := Ideal) x0 x1 x2 x3 x4 x5 x6 x7 i : EReal) = val_main_v44 (F := Ideal) x0 x3 x4 x5 x6 x7 (ix4 (i 0) 4 (i 1) (i 2)) + (val_main_v9 (F := Ideal) x3 x4 x5 (ix2 (i 1) (i 2)) * val_main_v124 (F := Ideal) x0 x1 x2 x3 x4 x5 x6 x7 i + val_main_v13 (F := Ideal) x3 x4 x5 (ix2 (i 1) (i 2)) * val_main_v114 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v114 (F := Ideal) x0 x1 x2 x3 x4 x5 x6 x7 = P
  generalize hQ : val_main_v124 (F := Ideal) x0 x1 x2 x3 x4 x5 x6 x7 = Q
  pointwise [val_main_v144, val_main_v143, val_main_v142, val_main_v141, val_main_v140, val_main_v139, val_main_v138, val_main_v137, val_main_v136, val_main_v135, hX, hA, hB, hP, hQ]

theorem v154 : (val_main_v154 (F := Ideal) x0 x1 x2 x3 x4 x5 x6 x7 i : EReal) = val_main_v42 (F := Ideal) x0 x3 x4 x5 x6 x7 (ix4 (i 0) 5 (i 1) (i 2)) + (val_main_v9 (F := Ideal) x3 x4 x5 (ix2 (i 1) (i 2)) * val_main_v134 (F := Ideal) x0 x1 x2 x3 x4 x5 x6 x7 i - val_main_v13 (F := Ideal) x3 x4 x5 (ix2 (i 1) (i 2)) * val_main_v144 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v134 (F := Ideal) x0 x1 x2 x3 x4 x5 x6 x7 = P
  generalize hQ : val_main_v144 (F := Ideal) x0 x1 x2 x3 x4 x5 x6 x7 = Q
  pointwise [val_main_v154, val_main_v153, val_main_v152, val_main_v151, val_main_v150, val_main_v149, val_main_v148, val_main_v147, val_main_v146, val_main_v145, hX, hA, hB, hP, hQ]

theorem v164 : (val_main_v164 (F := Ideal) x0 x1 x2 x3 x4 x5 x6 x7 i : EReal) = val_main_v44 (F := Ideal) x0 x3 x4 x5 x6 x7 (ix4 (i 0) 5 (i 1) (i 2)) + (val_main_v9 (F := Ideal) x3 x4 x5 (ix2 (i 1) (i 2)) * val_main_v144 (F := Ideal) x0 x1 x2 x3 x4 x5 x6 x7 i + val_main_v13 (F := Ideal) x3 x4 x5 (ix2 (i 1) (i 2)) * val_main_v134 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v134 (F := Ideal) x0 x1 x2 x3 x4 x5 x6 x7 = P
  generalize hQ : val_main_v144 (F := Ideal) x0 x1 x2 x3 x4 x5 x6 x7 = Q
  pointwise [val_main_v164, val_main_v163, val_main_v162, val_main_v161, val_main_v160, val_main_v159, val_main_v158, val_main_v157, val_main_v156, val_main_v155, hX, hA, hB, hP, hQ]

theorem v174 : (val_main_v174 (F := Ideal) x0 x1 x2 x3 x4 x5 x6 x7 i : EReal) = val_main_v42 (F := Ideal) x0 x3 x4 x5 x6 x7 (ix4 (i 0) 6 (i 1) (i 2)) + (val_main_v9 (F := Ideal) x3 x4 x5 (ix2 (i 1) (i 2)) * val_main_v154 (F := Ideal) x0 x1 x2 x3 x4 x5 x6 x7 i - val_main_v13 (F := Ideal) x3 x4 x5 (ix2 (i 1) (i 2)) * val_main_v164 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v154 (F := Ideal) x0 x1 x2 x3 x4 x5 x6 x7 = P
  generalize hQ : val_main_v164 (F := Ideal) x0 x1 x2 x3 x4 x5 x6 x7 = Q
  pointwise [val_main_v174, val_main_v173, val_main_v172, val_main_v171, val_main_v170, val_main_v169, val_main_v168, val_main_v167, val_main_v166, val_main_v165, hX, hA, hB, hP, hQ]

theorem v184 : (val_main_v184 (F := Ideal) x0 x1 x2 x3 x4 x5 x6 x7 i : EReal) = val_main_v44 (F := Ideal) x0 x3 x4 x5 x6 x7 (ix4 (i 0) 6 (i 1) (i 2)) + (val_main_v9 (F := Ideal) x3 x4 x5 (ix2 (i 1) (i 2)) * val_main_v164 (F := Ideal) x0 x1 x2 x3 x4 x5 x6 x7 i + val_main_v13 (F := Ideal) x3 x4 x5 (ix2 (i 1) (i 2)) * val_main_v154 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v154 (F := Ideal) x0 x1 x2 x3 x4 x5 x6 x7 = P
  generalize hQ : val_main_v164 (F := Ideal) x0 x1 x2 x3 x4 x5 x6 x7 = Q
  pointwise [val_main_v184, val_main_v183, val_main_v182, val_main_v181, val_main_v180, val_main_v179, val_main_v178, val_main_v177, val_main_v176, val_main_v175, hX, hA, hB, hP, hQ]

theorem v194 : (val_main_v194 (F := Ideal) x0 x1 x2 x3 x4 x5 x6 x7 i : EReal) = val_main_v42 (F := Ideal) x0 x3 x4 x5 x6 x7 (ix4 (i 0) 7 (i 1) (i 2)) + (val_main_v9 (F := Ideal) x3 x4 x5 (ix2 (i 1) (i 2)) * val_main_v174 (F := Ideal) x0 x1 x2 x3 x4 x5 x6 x7 i - val_main_v13 (F := Ideal) x3 x4 x5 (ix2 (i 1) (i 2)) * val_main_v184 (F := Ideal) x0 x1 x2 x3 x4 x5 x6 x7 i) := by
  generalize hX : val_main_v42 (F := Ideal) x0 x3 x4 x5 x6 x7 = X
  generalize hA : val_main_v9 (F := Ideal) x3 x4 x5 = A
  generalize hB : val_main_v13 (F := Ideal) x3 x4 x5 = B
  generalize hP : val_main_v174 (F := Ideal) x0 x1 x2 x3 x4 x5 x6 x7 = P
  generalize hQ : val_main_v184 (F := Ideal) x0 x1 x2 x3 x4 x5 x6 x7 = Q
  pointwise [val_main_v194, val_main_v193, val_main_v192, val_main_v191, val_main_v190, val_main_v189, val_main_v188, val_main_v187, val_main_v186, val_main_v185, hX, hA, hB, hP, hQ]

theorem v204 : (val_main_v204 (F := Ideal) x0 x1 x2 x3 x4 x5 x6 x7 i : EReal) = val_main_v44 (F := Ideal) x0 x3 x4 x5 x6 x7 (ix4 (i 0) 7 (i 1) (i 2)) + (val_main_v9 (F := Ideal) x3 x4 x5 (ix2 (i 1) (i 2)) * val_main_v184 (F := Ideal) x0 x1 x2 x3 x4 x5 x6 x7 i + val_main_v13 (F := Ideal) x3 x4 x5 (ix2 (i 1) (i 2)) * val_main_v174 (F := Ideal) x0 x1 x2 x3 x4 x5 x6 x7 i) := by
  generalize hX : val_main_v44 (F := Ideal) x0 x3 x4 x5 x6 x7 = X
  generalize hA : val_main_v9 (F := Ideal) x3 x4 x5 = A
  generalize hB : val_main_v13 (F := Ideal) x3 x4 x5 = B
  generalize hP : val_main_v174 (F := Ideal) x0 x1 x2 x3 x4 x5 x6 x7 = P
  generalize hQ : val_main_v184 (F := Ideal) x0 x1 x2 x3 x4 x5 x6 x7 = Q
  pointwise [val_main_v204, val_main_v203, val_main_v202, val_main_v201, val_main_v200, val_main_v199, val_main_v198, val_main_v197, val_main_v196, val_main_v195, hX, hA, hB, hP, hQ]

/-- The reference's result, the real part. -/
theorem out1 : val_main_v194 (F := Ideal) x0 x1 x2 x3 x4 x5 x6 x7 i = (eight (val_main_v9 (F := Ideal) x3 x4 x5 (ix2 (i 1) (i 2)), val_main_v13 (F := Ideal) x3 x4 x5 (ix2 (i 1) (i 2))) (x1 i, x2 i)
    fun k => (val_main_v42 (F := Ideal) x0 x3 x4 x5 x6 x7 (ix4 (i 0) k (i 1) (i 2)), val_main_v44 (F := Ideal) x0 x3 x4 x5 x6 x7 (ix4 (i 0) k (i 1) (i 2)))).1 := by
  simp only [v204, v194, v184, v174, v164, v154, v144, v134, v124, v114, v104, v94, v84, v74, v64, v54]
  rfl

/-- The reference's result, the imaginary part. -/
theorem out2 : val_main_v204 (F := Ideal) x0 x1 x2 x3 x4 x5 x6 x7 i = (eight (val_main_v9 (F := Ideal) x3 x4 x5 (ix2 (i 1) (i 2)), val_main_v13 (F := Ideal) x3 x4 x5 (ix2 (i 1) (i 2))) (x1 i, x2 i)
    fun k => (val_main_v42 (F := Ideal) x0 x3 x4 x5 x6 x7 (ix4 (i 0) k (i 1) (i 2)), val_main_v44 (F := Ideal) x0 x3 x4 x5 x6 x7 (ix4 (i 0) k (i 1) (i 2)))).2 := by
  simp only [v204, v194, v184, v174, v164, v154, v144, v134, v124, v114, v104, v94, v84, v74, v64, v54]
  rfl

end Cert.StateRefIdeal.Stage
-- ==== Proof.StateRun.lean ====
module

public import proofs.«01_k».proof.Proof.StateVal
public import proofs.«01_k».proof.Proof.StateHost
public import proofs.«01_k».proof.Proof.StateRef

/-! The state's recurrence at the sample: the two results of the run are the reference's. -/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.StateIdeal.Val

open Cert.StateIdeal Cert.StateIdeal.Gen Cert.Stages Cert.StateRefIdeal.Read

variable (m : (ℓ : Loc nD τ sig) → Buf (Elt Ideal) ℓ) (ρ : Dev nD → PrngReg) (c : Dev nD)

/-- The arguments. -/
abbrev X0 : FVec Ideal S64x1024 .f32 := m ((c : Thread nD τ).loc main_arg0)
abbrev X1 : FVec Ideal S8x64x64 .f32 := m ((c : Thread nD τ).loc main_arg1)
abbrev X2 : FVec Ideal S8x64x64 .f32 := m ((c : Thread nD τ).loc main_arg2)
abbrev X3 : FVec Ideal S64x64 .f32 := m ((c : Thread nD τ).loc main_arg3)
abbrev X4 : FVec Ideal S64x64 .f32 := m ((c : Thread nD τ).loc main_arg4)
abbrev X5 : FVec Ideal S64 .f32 := m ((c : Thread nD τ).loc main_arg5)
abbrev X6 : FVec Ideal S64x64x16 .f32 := m ((c : Thread nD τ).loc main_arg6)
abbrev X7 : FVec Ideal S64x64x16 .f32 := m ((c : Thread nD τ).loc main_arg7)

/-! ## What the host operations hand to the calls -/

theorem in_lr : V1 m ρ c main_v3 = rep (X3 m c) := by
  show StableHlo.after hostOps0 (W0 m ρ c) (Proc.devRef .tc main_v3) = _
  simp only [hostOps0]
  after_results_simp
  rfl

theorem in_li : V1 m ρ c main_v5 = rep (X4 m c) := by
  show StableHlo.after hostOps0 (W0 m ρ c) (Proc.devRef .tc main_v5) = _
  simp only [hostOps0]
  after_results_simp
  rfl

theorem in_ls : V1 m ρ c main_v1 = col (X5 m c) := by
  show StableHlo.after hostOps0 (W0 m ρ c) (Proc.devRef .tc main_v1) = _
  simp only [hostOps0]
  after_results_simp
  rfl

theorem in_br : V1 m ρ c main_v6 = flat (X6 m c) := by
  show StableHlo.after hostOps0 (W0 m ρ c) (Proc.devRef .tc main_v6) = _
  simp only [hostOps0]
  after_results_simp
  rfl

theorem in_bi : V1 m ρ c main_v7 = flat (X7 m c) := by
  show StableHlo.after hostOps0 (W0 m ρ c) (Proc.devRef .tc main_v7) = _
  simp only [hostOps0]
  after_results_simp
  rfl

/-! ## The coefficients -/

/-- The four arrays the first call leaves. -/
abbrev AR : FVec Ideal S64x1024 .f32 := k0_pay6 (rep (X3 m c)) (rep (X4 m c)) (col (X5 m c))
abbrev AI : FVec Ideal S64x1024 .f32 := k0_pay7 (rep (X3 m c)) (rep (X4 m c)) (col (X5 m c))
abbrev BR : FVec Ideal S64x1024 .f32 := k0_pay14 (rep (X3 m c)) (rep (X4 m c)) (col (X5 m c)) (flat (X6 m c)) (flat (X7 m c))
abbrev BI : FVec Ideal S64x1024 .f32 := k0_pay1 (k0_pay15 (rep (X3 m c)) (rep (X4 m c)) (col (X5 m c)) (flat (X7 m c))) (k0_pay16 (rep (X3 m c)) (rep (X4 m c)) (col (X5 m c)) (flat (X6 m c)))

theorem out_AR : W2 m ρ c (Proc.devRef .tc main_v8_0) = AR m c := by
  refine ((W2_arr m ρ c 5).trans (final0_5 (V1 m ρ) c)).trans ?_
  rw [in_lr, in_li, in_ls]

theorem out_AI : W2 m ρ c (Proc.devRef .tc main_v8_1) = AI m c := by
  refine ((W2_arr m ρ c 6).trans (final0_6 (V1 m ρ) c)).trans ?_
  rw [in_lr, in_li, in_ls]

theorem out_BR : W2 m ρ c (Proc.devRef .tc main_v8_2) = BR m c := by
  refine ((W2_arr m ρ c 7).trans (final0_7 (V1 m ρ) c)).trans ?_
  rw [in_lr, in_li, in_ls, in_br, in_bi]

theorem out_BI : W2 m ρ c (Proc.devRef .tc main_v8_3) = BI m c := by
  refine ((W2_arr m ρ c 8).trans (final0_8 (V1 m ρ) c)).trans ?_
  rw [in_lr, in_li, in_ls, in_br, in_bi]

/-! ## What the second call is handed -/

theorem in1_u : V3 m ρ c main_v15 = segs8 (X0 m c) := by
  have e : W2 m ρ c (Proc.devRef .tc main_arg0) = X0 m c := W2_args m ρ c main_arg0 (by decide)
  show StableHlo.after hostOps1 (W2 m ρ c) (Proc.devRef .tc main_v15) = _
  simp only [hostOps1]
  after_results_simp
  rw [e]
  rfl

theorem in1_hr : V3 m ρ c main_v71 = shapeCast S8x8x1x512 (X1 m c) shapeCasts_S8x64x64_S8x8x1x512 := by
  have e : W2 m ρ c (Proc.devRef .tc main_arg1) = X1 m c := W2_args m ρ c main_arg1 (by decide)
  show StableHlo.after hostOps1 (W2 m ρ c) (Proc.devRef .tc main_v71) = _
  simp only [hostOps1]
  after_results_simp
  rw [e]
  rfl

theorem in1_hi : V3 m ρ c main_v72 = shapeCast S8x8x1x512 (X2 m c) shapeCasts_S8x64x64_S8x8x1x512 := by
  have e : W2 m ρ c (Proc.devRef .tc main_arg2) = X2 m c := W2_args m ρ c main_arg2 (by decide)
  show StableHlo.after hostOps1 (W2 m ρ c) (Proc.devRef .tc main_v72) = _
  simp only [hostOps1]
  after_results_simp
  rw [e]
  rfl

theorem in1_ar : V3 m ρ c main_v68 = shapeCast S8x1x512 (Host.slice S64x64 ![0, 0] ![1, 16] (AR m c) slicesBy_S64x1024_S64x64_0s1_0s16) shapeCasts_S64x64_S8x1x512 := by
  have e := out_AR m ρ c
  show StableHlo.after hostOps1 (W2 m ρ c) (Proc.devRef .tc main_v68) = _
  simp only [hostOps1]
  after_results_simp
  rw [e]
  rfl

theorem in1_ai : V3 m ρ c main_v69 = shapeCast S8x1x512 (Host.slice S64x64 ![0, 0] ![1, 16] (AI m c) slicesBy_S64x1024_S64x64_0s1_0s16) shapeCasts_S64x64_S8x1x512 := by
  have e := out_AI m ρ c
  show StableHlo.after hostOps1 (W2 m ρ c) (Proc.devRef .tc main_v69) = _
  simp only [hostOps1]
  after_results_simp
  rw [e]
  rfl

theorem in1_br : V3 m ρ c main_v28 = blocks (BR m c) := by
  have e := out_BR m ρ c
  show StableHlo.after hostOps1 (W2 m ρ c) (Proc.devRef .tc main_v28) = _
  simp only [hostOps1]
  after_results_simp
  rw [e]
  rfl

theorem in1_bi : V3 m ρ c main_v41 = blocks (BI m c) := by
  have e := out_BI m ρ c
  show StableHlo.after hostOps1 (W2 m ρ c) (Proc.devRef .tc main_v41) = _
  simp only [hostOps1]
  after_results_simp
  rw [e]
  rfl

/-! ## The scan -/

/-- The sum over a chunk is the reference's sum over a group. -/
theorem sum_eq (U X : FVec Ideal S64x1024 .f32) (B : FVec Ideal S64x64x16 .f32) (h : ∀ g n k, X (ix2 g (at16 n k)) = B (ix3 g n k))
    (b k : Fin 8) (g n : Fin 64) :
    (∑ l : Fin 128, segs8 U (ix2 (urow b k) (ucol (chunk g) l)) * blocks X (ix3 (chunk g) l (lane g n)) : EReal)
      = ∑ j : Fin 16, B (ix3 g n j) * val_main_v0 (F := Ideal) U (ix4 b k g j) := by
  have e : ∀ l : Fin 128, (segs8 U (ix2 (urow b k) (ucol (chunk g) l)) * blocks X (ix3 (chunk g) l (lane g n)) : EReal)
      = U (ix2 (urow b k) (ucol (chunk g) l)) * ((X (ix2 ⟨g.val / 8 * 8 + l.val / 16, by omega⟩ (at16 n ⟨l.val % 16, by omega⟩)))
        * (if l.val / 16 = (part g).val then 1 else 0)) := fun l => by
    rw [segs8_at, blocks_at, eye_at]
  rw [Finset.sum_congr rfl fun l _ => e l,
    sum_block (fun l => U (ix2 (urow b k) (ucol (chunk g) l)))
      (fun l => X (ix2 ⟨g.val / 8 * 8 + l.val / 16, by omega⟩ (at16 n ⟨l.val % 16, by omega⟩))) (part g)]
  refine Finset.sum_congr rfl fun j _ => ?_
  rw [u_at, ← h, mul_comm]
  have hg : (⟨g.val / 8 * 8 + (16 * (part g).val + j.val) / 16, by have := (part g).isLt; omega⟩ : Fin 64) = g :=
    Fin.ext (by show g.val / 8 * 8 + (16 * (g.val % 8) + j.val) / 16 = g.val; omega)
  have hj : (⟨(16 * (part g).val + j.val) % 16, by omega⟩ : Fin 16) = j :=
    Fin.ext (by show (16 * (g.val % 8) + j.val) % 16 = j.val; omega)
  have hu : ucol (chunk g) ⟨16 * (part g).val + j.val, by have := (part g).isLt; omega⟩ = ⟨g.val * 16 + j.val, by omega⟩ :=
    Fin.ext (by show g.val / 8 * 128 + (16 * (g.val % 8) + j.val) = g.val * 16 + j.val; omega)
  dsimp only
  rw [hg, hj, hu]

/-- The state the scan leaves is the reference's. -/
theorem scan_eq (i : S8x64x64.Idx) :
    scanAt (V3 m ρ c main_v15) (V3 m ρ c main_v28) (V3 m ρ c main_v41) (V3 m ρ c main_v68) (V3 m ρ c main_v69)
      (V3 m ρ c main_v71) (V3 m ρ c main_v72) (ix4 (i 0) (chunk (i 1)) 0 (lane (i 1) (i 2)))
    = eight (val_main_v9 (F := Ideal) (X3 m c) (X4 m c) (X5 m c) (ix2 (i 1) (i 2)), val_main_v13 (F := Ideal) (X3 m c) (X4 m c) (X5 m c) (ix2 (i 1) (i 2)))
      (X1 m c i, X2 m c i)
      fun k => (val_main_v42 (F := Ideal) (X0 m c) (X3 m c) (X4 m c) (X5 m c) (X6 m c) (X7 m c) (ix4 (i 0) k (i 1) (i 2)),
        val_main_v44 (F := Ideal) (X0 m c) (X3 m c) (X4 m c) (X5 m c) (X6 m c) (X7 m c) (ix4 (i 0) k (i 1) (i 2))) := by
  rw [in1_u, in1_br, in1_bi, in1_ar, in1_ai, in1_hr, in1_hi]
  unfold scanAt
  have ha := (row_at (AR m c) (i 1) (i 2)).trans (a_re (X3 m c) (X4 m c) (X5 m c) (i 1) (i 2) 0)
  have hb := (row_at (AI m c) (i 1) (i 2)).trans (a_im (X3 m c) (X4 m c) (X5 m c) (i 1) (i 2) 0)
  have hx := state_at (X1 m c) i
  have hy := state_at (X2 m c) i
  have hr : ∀ k : Fin 8, _ := fun k => (sum_eq (X0 m c) (BR m c) _ (fun g n j => b_re (X3 m c) (X4 m c) (X5 m c) (X6 m c) (X7 m c) g n j)
    (i 0) k (i 1) (i 2)).trans (Cert.StateRefIdeal.Stage.in_re (X0 m c) (X3 m c) (X4 m c) (X5 m c) (X6 m c) (X7 m c) (ix4 (i 0) k (i 1) (i 2))).symm
  have hi : ∀ k : Fin 8, _ := fun k => (sum_eq (X0 m c) (BI m c) _ (fun g n j => b_im (X3 m c) (X4 m c) (X5 m c) (X6 m c) (X7 m c) g n j)
    (i 0) k (i 1) (i 2)).trans (Cert.StateRefIdeal.Stage.in_im (X0 m c) (X3 m c) (X4 m c) (X5 m c) (X6 m c) (X7 m c) (ix4 (i 0) k (i 1) (i 2))).symm
  refine congr (congrArg₂ eight (Prod.ext ha hb) (Prod.ext hx hy)) (funext fun k => Prod.ext (hr k) (hi k))

/-! ## The results -/

theorem res_re : W5 m ρ c (Proc.devRef .tc main_v74) = val_main_v194 (F := Ideal) (X0 m c) (X1 m c) (X2 m c) (X3 m c) (X4 m c) (X5 m c) (X6 m c) (X7 m c) := by
  have e := (W4_arr m ρ c 11).trans (final1_11 (V3 m ρ) c)
  show StableHlo.after hostOps2 (W4 m ρ c) (Proc.devRef .tc main_v74) = _
  simp only [hostOps2]
  after_results_simp
  funext i
  refine (cast_at (W4 m ρ c (Proc.devRef .tc main_v73_1)) i).trans ?_
  rw [Cert.StateRefIdeal.Stage.out1, ← scan_eq m ρ c i]
  exact congrFun e _

theorem res_im : W5 m ρ c (Proc.devRef .tc main_v75) = val_main_v204 (F := Ideal) (X0 m c) (X1 m c) (X2 m c) (X3 m c) (X4 m c) (X5 m c) (X6 m c) (X7 m c) := by
  have e := (W4_arr m ρ c 12).trans (final1_12 (V3 m ρ) c)
  show StableHlo.after hostOps2 (W4 m ρ c) (Proc.devRef .tc main_v75) = _
  simp only [hostOps2]
  after_results_simp
  funext i
  refine (cast_at (W4 m ρ c (Proc.devRef .tc main_v73_2)) i).trans ?_
  rw [Cert.StateRefIdeal.Stage.out2, ← scan_eq m ρ c i]
  exact congrFun e _

/-- The model the run is stated in. -/
abbrev Mod := MT nD τ sig Unit (Elt Ideal) ℕ (UR sig nD τ) ℕ

set_option backward.isDefEq.respectTransparency.types false in
/-- Every run ends with each buffer at the last boundary's contents. -/
theorem run_all : θ_run defs (onTc (τ := τ) (main (F := Ideal))) ⟨m, fun _ => 0, ρ⟩ (fun r => ∀ d : Dev nD,
      ∀ b ∈ Pipeline.ucRefs τ sig, r.2.mem ((d : Thread nD τ).1, b) = W5 m ρ d b) := by
  refine Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl, fun _ => .rfl, fun d => ?_⟩)
    (hinit := Pipeline.initEach L lv fun d => ?_)
    (QY := fun d s => ∀ b ∈ Pipeline.ucRefs τ sig, s.mem ((d : Thread nD τ).1, b) = W5 m ρ d b)
    (hfin := fun d s => ?_)
    (hQ := fun s h _ d => h d)
  · iintro H
    imodintro
    isplitl [H]
    · iapply (show (ownU (initOf (Pipeline.cells cfgs cellOf_inj) (Pipeline.launchToks cfgs cellOf_inj)) : sProp Mod)
        ⊢ BI.own (emb₁ (initOf (Pipeline.cells cfgs cellOf_inj) (Pipeline.launchToks cfgs cellOf_inj))) from .rfl)
      iexact H
    · iapply (show (BI.emp : sProp Mod) ⊢ bigSep Finset.univ (fun _ : Dev nD => (BI.emp : sProp Mod)) from by rw [BI.bigSep_emp_const])
      iempintro
  · dsimp only [Pipeline.Seg.post, hseg, Pipeline.HostSeg.ofOps]
    iintro ⟨A, B, C⟩
    isplitl [A B]
    · isplitl [A]
      · iexact A
      · iexact B
    · iexact C
  · rw [show unscopedBufs d (fun b => m ((d : Thread nD τ).loc b)) = StableHlo.held (d : Thread nD τ) (Pipeline.ucRefs τ sig) (W0 m ρ d)
      from Pipeline.unscopedBufs_held d (W0 m ρ d)]
    iintro ⟨⟨A, -, C, -, B, -⟩, -⟩
    imodintro
    isplitl [A]
    · iexact A
    · isplitl [B]
      · iexists _
        iexact B
      · iexists ∅
        iexact C
  · iintro ⟨⟨A, -⟩, S⟩
    unfold StableHlo.held
    imodintro
    iapply (pointsTo_read_all (Pipeline.ucRefs τ sig) (fun b => ((d : Thread nD τ).1, b)) (W5 m ρ d) s)
    isplitl [A] <;> iassumption

/-- Every run ends with the reference's two results, and with the arguments as they were. -/
theorem run : θ_run defs (onTc (τ := τ) (main (F := Ideal))) ⟨m, fun _ => 0, ρ⟩ (fun r => ∀ d : Dev nD,
      r.2.mem ((d.tc : Thread nD τ).loc main_v74) = val_main_v194 (F := Ideal) (X0 m d) (X1 m d) (X2 m d) (X3 m d) (X4 m d) (X5 m d) (X6 m d) (X7 m d)
      ∧ r.2.mem ((d.tc : Thread nD τ).loc main_v75) = val_main_v204 (F := Ideal) (X0 m d) (X1 m d) (X2 m d) (X3 m d) (X4 m d) (X5 m d) (X6 m d) (X7 m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)) :=
  (θ_run _ _ _).mono (fun r h d =>
    ⟨(h d _ (mem_uc main_v74 (by decide))).trans (res_re m ρ d),
     (h d _ (mem_uc main_v75 (by decide))).trans (res_im m ρ d),
     (h d _ (mem_uc main_arg0 (by decide))).trans (W5_main_arg0 m ρ d),
     (h d _ (mem_uc main_arg1 (by decide))).trans (W5_main_arg1 m ρ d),
     (h d _ (mem_uc main_arg2 (by decide))).trans (W5_main_arg2 m ρ d),
     (h d _ (mem_uc main_arg3 (by decide))).trans (W5_main_arg3 m ρ d),
     (h d _ (mem_uc main_arg4 (by decide))).trans (W5_main_arg4 m ρ d),
     (h d _ (mem_uc main_arg5 (by decide))).trans (W5_main_arg5 m ρ d),
     (h d _ (mem_uc main_arg6 (by decide))).trans (W5_main_arg6 m ρ d),
     (h d _ (mem_uc main_arg7 (by decide))).trans (W5_main_arg7 m ρ d),
     (h d _ (mem_uc main_arg8 (by decide))).trans (W5_main_arg8 m ρ d),
     (h d _ (mem_uc main_arg9 (by decide))).trans (W5_main_arg9 m ρ d),
     (h d _ (mem_uc main_arg10 (by decide))).trans (W5_main_arg10 m ρ d)⟩) (run_all m ρ)

end Cert.StateIdeal.Val
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.IdxVal
public import proofs.«01_k».proof.Proof.Gen.Up.Frame
public import proofs.«01_k».proof.Proof.Gen.UpIdeal.Value
public import proofs.«01_k».proof.Proof.Gen.UpRefIdeal.Run
public import proofs.«01_k».proof.Proof.UpVal
public import proofs.«01_k».proof.Proof.Gen.Down.Frame
public import proofs.«01_k».proof.Proof.Gen.DownIdeal.Value
public import proofs.«01_k».proof.Proof.Gen.DownRefIdeal.Run
public import proofs.«01_k».proof.Proof.DownVal
public import proofs.«01_k».proof.Proof.Gen.Head.Frame
public import proofs.«01_k».proof.Proof.Gen.HeadIdeal.Frame
public import proofs.«01_k».proof.Proof.Gen.HeadRefIdeal.Run
public import proofs.«01_k».proof.Proof.Gen.HeadRefIdeal.Read
public import proofs.«01_k».proof.Proof.HeadRun
public import proofs.«01_k».proof.Proof.Gen.HeadS.Frame
public import proofs.«01_k».proof.Proof.Gen.HeadSIdeal.Frame
public import proofs.«01_k».proof.Proof.Gen.HeadSRefIdeal.Run
public import proofs.«01_k».proof.Proof.Gen.HeadSRefIdeal.Read
public import proofs.«01_k».proof.Proof.HeadSRun
public import proofs.«01_k».proof.Proof.Gen.Odd.Frame
public import proofs.«01_k».proof.Proof.Gen.OddIdeal.Frame
public import proofs.«01_k».proof.Proof.Gen.OddRefIdeal.Run
public import proofs.«01_k».proof.Proof.Gen.OddRefIdeal.Read
public import proofs.«01_k».proof.Proof.OddRun
public import proofs.«01_k».proof.Proof.Gen.OddS.Frame
public import proofs.«01_k».proof.Proof.Gen.OddSIdeal.Frame
public import proofs.«01_k».proof.Proof.Gen.OddSRefIdeal.Run
public import proofs.«01_k».proof.Proof.Gen.OddSRefIdeal.Read
public import proofs.«01_k».proof.Proof.OddSRun
public import proofs.«01_k».proof.Proof.Gen.Tail.Frame
public import proofs.«01_k».proof.Proof.Gen.TailIdeal.Frame
public import proofs.«01_k».proof.Proof.Gen.TailRefIdeal.Run
public import proofs.«01_k».proof.Proof.Gen.TailRefIdeal.Read
public import proofs.«01_k».proof.Proof.TailRun
public import proofs.«01_k».proof.Proof.Gen.TailS.Frame
public import proofs.«01_k».proof.Proof.Gen.TailSIdeal.Frame
public import proofs.«01_k».proof.Proof.Gen.TailSRefIdeal.Run
public import proofs.«01_k».proof.Proof.Gen.TailSRefIdeal.Read
public import proofs.«01_k».proof.Proof.TailSRun
public import proofs.«01_k».proof.Proof.Gen.Even.Frame
public import proofs.«01_k».proof.Proof.Gen.EvenIdeal.Frame
public import proofs.«01_k».proof.Proof.Gen.EvenRefIdeal.Run
public import proofs.«01_k».proof.Proof.Gen.EvenRefIdeal.Read
public import proofs.«01_k».proof.Proof.EvenRun
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.MixRun
public import proofs.«01_k».proof.Proof.Gen.State.Frame
public import proofs.«01_k».proof.Proof.Gen.StateIdeal.Frame
public import proofs.«01_k».proof.Proof.Gen.StateRefIdeal.Run
public import proofs.«01_k».proof.Proof.Gen.StateRefIdeal.Read
public import proofs.«01_k».proof.Proof.StateRun
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! ## The indexer's causal scores of the prompt -/

/-- The program terminates, leaves its arguments unchanged and its semaphores at zero. -/
theorem frame_Kernel [Cert.Kernel.Facts] : Cert.quiescent_Kernel := fun m ρ _ => Cert.Kernel.Gen.frame m ρ

/-- The same of the program read over the extended reals. -/
theorem frame_KernelIdeal [Cert.KernelIdeal.Facts] : Cert.quiescent_KernelIdeal := fun m ρ _ => Cert.KernelIdeal.Gen.frame m ρ

/-- The reference terminates and leaves its arguments unchanged; it has no semaphores. -/
theorem frame_ReferenceIdeal [Cert.ReferenceIdeal.Facts] : Cert.quiescent_ReferenceIdeal := fun m g _ =>
  (θ_run _ _ _).mono (fun r h => ⟨fun c => (h c).2, sem_eq_zero_of_no_sems rfl r.2⟩) (Cert.ReferenceIdeal.Value.run m g)

/-- The program and its reference, read over the extended reals, leave the same result. -/
theorem value_Kernel [Cert.KernelIdeal.Facts] [Cert.ReferenceIdeal.Facts] : Cert.algebraic_KernelIdeal_ReferenceIdeal := by
  pair_intro
  · run_from Cert.KernelIdeal.Gen.run_main m g
  · hlo_run
    exact (Cert.KernelIdeal.Val.final m c).symm

/-! ## The gated up projection -/

/-- The program terminates, leaves its arguments unchanged and its semaphores at zero. -/
theorem frame_Up [Cert.Up.Facts] : Cert.quiescent_Up := fun m ρ _ => Cert.Up.Gen.frame m ρ

/-- The same of the program read over the extended reals. -/
theorem frame_UpIdeal [Cert.UpIdeal.Facts] : Cert.quiescent_UpIdeal := fun m ρ _ => Cert.UpIdeal.Gen.frame m ρ

/-- The reference terminates and leaves its arguments unchanged; it has no semaphores. -/
theorem frame_UpRefIdeal [Cert.UpRefIdeal.Facts] : Cert.quiescent_UpRefIdeal := fun m g _ =>
  (θ_run _ _ _).mono (fun r h => ⟨fun c => (h c).2, sem_eq_zero_of_no_sems rfl r.2⟩) (Cert.UpRefIdeal.Value.run m g)

/-- The program and its reference, read over the extended reals, leave the same result. -/
theorem value_Up [Cert.UpIdeal.Facts] [Cert.UpRefIdeal.Facts] : Cert.algebraic_UpIdeal_UpRefIdeal := by
  pair_intro
  · run_from Cert.UpIdeal.Gen.run_main m g
  · hlo_run
    exact (Cert.UpIdeal.Val.final m c).symm

/-! ## The down projection with its residual -/

/-- The program terminates, leaves its arguments unchanged and its semaphores at zero. -/
theorem frame_Down [Cert.Down.Facts] : Cert.quiescent_Down := fun m ρ _ => Cert.Down.Gen.frame m ρ

/-- The same of the program read over the extended reals. -/
theorem frame_DownIdeal [Cert.DownIdeal.Facts] : Cert.quiescent_DownIdeal := fun m ρ _ => Cert.DownIdeal.Gen.frame m ρ

/-- The reference terminates and leaves its arguments unchanged; it has no semaphores. -/
theorem frame_DownRefIdeal [Cert.DownRefIdeal.Facts] : Cert.quiescent_DownRefIdeal := fun m g _ =>
  (θ_run _ _ _).mono (fun r h => ⟨fun c => (h c).2, sem_eq_zero_of_no_sems rfl r.2⟩) (Cert.DownRefIdeal.Value.run m g)

/-- The program and its reference, read over the extended reals, leave the same result. -/
theorem value_Down [Cert.DownIdeal.Facts] [Cert.DownRefIdeal.Facts] : Cert.algebraic_DownIdeal_DownRefIdeal := by
  pair_intro
  · run_from Cert.DownIdeal.Gen.run_main m g
  · hlo_run
    exact (Cert.DownIdeal.Val.final m c).symm

/-! ## The first block's half-step and in-projection at the prompt -/

/-- The program terminates, leaves its arguments unchanged and its semaphores at zero. -/
theorem frame_Head [Cert.Head.Facts] : Cert.quiescent_Head := fun m ρ _ => Cert.Head.Gen.frame m ρ

/-- The same of the program read over the extended reals. -/
theorem frame_HeadIdeal [Cert.HeadIdeal.Facts] : Cert.quiescent_HeadIdeal := fun m ρ _ => Cert.HeadIdeal.Gen.frame m ρ

/-- The reference terminates and leaves its arguments unchanged; it has no semaphores. -/
theorem frame_HeadRefIdeal [Cert.HeadRefIdeal.Facts] : Cert.quiescent_HeadRefIdeal := fun m g _ =>
  (θ_run _ _ _).mono (fun r h => ⟨fun c => (h c).2.2, sem_eq_zero_of_no_sems rfl r.2⟩) (Cert.HeadRefIdeal.Value.run m g)

/-- The program and its reference, read over the extended reals, leave the same two results. -/
theorem value_Head [Cert.HeadIdeal.Facts] [Cert.HeadRefIdeal.Facts] : Cert.algebraic_HeadIdeal_HeadRefIdeal := by
  intro m g m' g' _ h
  have e : ∀ c, Cert.HeadRefIdeal.Value.res_main_v48 m' c = _ ∧ Cert.HeadRefIdeal.Value.res_main_v50 m' c = _ := fun c => by
    rw [Cert.HeadRefIdeal.Read.val_main_v48_eq m' c, Cert.HeadRefIdeal.Read.val_main_v50_eq m' c, (h c).1, (h c).2.1, (h c).2.2.1,
      (h c).2.2.2.1, (h c).2.2.2.2.1, (h c).2.2.2.2.2]
    exact ⟨rfl, rfl⟩
  exact ⟨_, _, Cert.HeadIdeal.Val.run m g, (θ_run _ _ _).mono (fun r k c => ⟨(k c).1.trans (e c).1, (k c).2.1.trans (e c).2,
    (k c).2.2⟩) (Cert.HeadRefIdeal.Value.run m' g')⟩

/-! ## The first block's half-step and in-projection at the sample -/

/-- The program terminates, leaves its arguments unchanged and its semaphores at zero. -/
theorem frame_HeadS [Cert.HeadS.Facts] : Cert.quiescent_HeadS := fun m ρ _ => Cert.HeadS.Gen.frame m ρ

/-- The same of the program read over the extended reals. -/
theorem frame_HeadSIdeal [Cert.HeadSIdeal.Facts] : Cert.quiescent_HeadSIdeal := fun m ρ _ => Cert.HeadSIdeal.Gen.frame m ρ

/-- The reference terminates and leaves its arguments unchanged; it has no semaphores. -/
theorem frame_HeadSRefIdeal [Cert.HeadSRefIdeal.Facts] : Cert.quiescent_HeadSRefIdeal := fun m g _ =>
  (θ_run _ _ _).mono (fun r h => ⟨fun c => (h c).2.2, sem_eq_zero_of_no_sems rfl r.2⟩) (Cert.HeadSRefIdeal.Value.run m g)

/-- The program and its reference, read over the extended reals, leave the same two results. -/
theorem value_HeadS [Cert.HeadSIdeal.Facts] [Cert.HeadSRefIdeal.Facts] : Cert.algebraic_HeadSIdeal_HeadSRefIdeal := by
  intro m g m' g' _ h
  have e : ∀ c, Cert.HeadSRefIdeal.Value.res_main_v48 m' c = _ ∧ Cert.HeadSRefIdeal.Value.res_main_v50 m' c = _ := fun c => by
    rw [Cert.HeadSRefIdeal.Read.val_main_v48_eq m' c, Cert.HeadSRefIdeal.Read.val_main_v50_eq m' c, (h c).1, (h c).2.1, (h c).2.2.1,
      (h c).2.2.2.1, (h c).2.2.2.2.1, (h c).2.2.2.2.2]
    exact ⟨rfl, rfl⟩
  exact ⟨_, _, Cert.HeadSIdeal.Val.run m g, (θ_run _ _ _).mono (fun r k c => ⟨(k c).1.trans (e c).1, (k c).2.1.trans (e c).2,
    (k c).2.2⟩) (Cert.HeadSRefIdeal.Value.run m' g')⟩

/-! ## The second block's half-step and in-projection at the prompt -/

/-- The program terminates, leaves its arguments unchanged and its semaphores at zero. -/
theorem frame_Odd [Cert.Odd.Facts] : Cert.quiescent_Odd := fun m ρ _ => Cert.Odd.Gen.frame m ρ

/-- The same of the program read over the extended reals. -/
theorem frame_OddIdeal [Cert.OddIdeal.Facts] : Cert.quiescent_OddIdeal := fun m ρ _ => Cert.OddIdeal.Gen.frame m ρ

/-- The reference terminates and leaves its arguments unchanged; it has no semaphores. -/
theorem frame_OddRefIdeal [Cert.OddRefIdeal.Facts] : Cert.quiescent_OddRefIdeal := fun m g _ =>
  (θ_run _ _ _).mono (fun r h => ⟨fun c => (h c).2.2.2.2, sem_eq_zero_of_no_sems rfl r.2⟩) (Cert.OddRefIdeal.Value.run m g)

/-- The program and its reference, read over the extended reals, leave the same four results. -/
theorem value_Odd [Cert.OddIdeal.Facts] [Cert.OddRefIdeal.Facts] : Cert.algebraic_OddIdeal_OddRefIdeal := by
  intro m g m' g' _ h
  have e : ∀ c, Cert.OddRefIdeal.Value.res_main_v53 m' c = _ ∧
      Cert.OddRefIdeal.Value.res_main_v49 m' c = _ ∧
      Cert.OddRefIdeal.Value.res_main_v50 m' c = _ ∧
      Cert.OddRefIdeal.Value.res_main_v51 m' c = _ := fun c => by
    rw [Cert.OddRefIdeal.Read.val_main_v53_eq m' c, Cert.OddRefIdeal.Read.val_main_v49_eq m' c,
      Cert.OddRefIdeal.Read.val_main_v50_eq m' c, Cert.OddRefIdeal.Read.val_main_v51_eq m' c, (h c).1, (h c).2.1, (h c).2.2.1,
      (h c).2.2.2.1, (h c).2.2.2.2.1, (h c).2.2.2.2.2]
    exact ⟨rfl, rfl, rfl, rfl⟩
  exact ⟨_, _, _, _, Cert.OddIdeal.Val.run m g, (θ_run _ _ _).mono (fun r k c => ⟨(k c).1.trans (e c).1,
    (k c).2.1.trans (e c).2.1, (k c).2.2.1.trans (e c).2.2.1,
    (k c).2.2.2.1.trans (e c).2.2.2,
    (k c).2.2.2.2⟩) (Cert.OddRefIdeal.Value.run m' g')⟩

/-! ## The second block's half-step and in-projection at the sample -/

/-- The program terminates, leaves its arguments unchanged and its semaphores at zero. -/
theorem frame_OddS [Cert.OddS.Facts] : Cert.quiescent_OddS := fun m ρ _ => Cert.OddS.Gen.frame m ρ

/-- The same of the program read over the extended reals. -/
theorem frame_OddSIdeal [Cert.OddSIdeal.Facts] : Cert.quiescent_OddSIdeal := fun m ρ _ => Cert.OddSIdeal.Gen.frame m ρ

/-- The reference terminates and leaves its arguments unchanged; it has no semaphores. -/
theorem frame_OddSRefIdeal [Cert.OddSRefIdeal.Facts] : Cert.quiescent_OddSRefIdeal := fun m g _ =>
  (θ_run _ _ _).mono (fun r h => ⟨fun c => (h c).2.2.2.2, sem_eq_zero_of_no_sems rfl r.2⟩) (Cert.OddSRefIdeal.Value.run m g)

/-- The program and its reference, read over the extended reals, leave the same four results. -/
theorem value_OddS [Cert.OddSIdeal.Facts] [Cert.OddSRefIdeal.Facts] : Cert.algebraic_OddSIdeal_OddSRefIdeal := by
  intro m g m' g' _ h
  have e : ∀ c, Cert.OddSRefIdeal.Value.res_main_v53 m' c = _ ∧
      Cert.OddSRefIdeal.Value.res_main_v49 m' c = _ ∧
      Cert.OddSRefIdeal.Value.res_main_v50 m' c = _ ∧
      Cert.OddSRefIdeal.Value.res_main_v51 m' c = _ := fun c => by
    rw [Cert.OddSRefIdeal.Read.val_main_v53_eq m' c, Cert.OddSRefIdeal.Read.val_main_v49_eq m' c,
      Cert.OddSRefIdeal.Read.val_main_v50_eq m' c, Cert.OddSRefIdeal.Read.val_main_v51_eq m' c, (h c).1, (h c).2.1,
      (h c).2.2.1, (h c).2.2.2.1, (h c).2.2.2.2.1, (h c).2.2.2.2.2]
    exact ⟨rfl, rfl, rfl, rfl⟩
  exact ⟨_, _, _, _, Cert.OddSIdeal.Val.run m g, (θ_run _ _ _).mono (fun r k c => ⟨(k c).1.trans (e c).1,
    (k c).2.1.trans (e c).2.1, (k c).2.2.1.trans (e c).2.2.1,
    (k c).2.2.2.1.trans (e c).2.2.2,
    (k c).2.2.2.2⟩) (Cert.OddSRefIdeal.Value.run m' g')⟩

/-! ## The end of the second block at the prompt -/

/-- The program terminates, leaves its arguments unchanged and its semaphores at zero. -/
theorem frame_Tail [Cert.Tail.Facts] : Cert.quiescent_Tail := fun m ρ _ => Cert.Tail.Gen.frame m ρ

/-- The same of the program read over the extended reals. -/
theorem frame_TailIdeal [Cert.TailIdeal.Facts] : Cert.quiescent_TailIdeal := fun m ρ _ => Cert.TailIdeal.Gen.frame m ρ

/-- The reference terminates and leaves its arguments unchanged; it has no semaphores. -/
theorem frame_TailRefIdeal [Cert.TailRefIdeal.Facts] : Cert.quiescent_TailRefIdeal := fun m g _ =>
  (θ_run _ _ _).mono (fun r h => ⟨fun c => (h c).2, sem_eq_zero_of_no_sems rfl r.2⟩) (Cert.TailRefIdeal.Value.run m g)

/-- The program and its reference, read over the extended reals, leave the same result. -/
theorem value_Tail [Cert.TailIdeal.Facts] [Cert.TailRefIdeal.Facts] : Cert.algebraic_TailIdeal_TailRefIdeal := by
  intro m g m' g' _ h
  have e : ∀ c, Cert.TailRefIdeal.Value.res_main_v79 m' c = _ := fun c => by
    rw [Cert.TailRefIdeal.Read.val_main_v79_eq m' c, (h c).1, (h c).2.1, (h c).2.2.1, (h c).2.2.2.1, (h c).2.2.2.2.1,
      (h c).2.2.2.2.2.1, (h c).2.2.2.2.2.2.1, (h c).2.2.2.2.2.2.2.1, (h c).2.2.2.2.2.2.2.2.1, (h c).2.2.2.2.2.2.2.2.2.1,
      (h c).2.2.2.2.2.2.2.2.2.2]
  exact ⟨_, Cert.TailIdeal.Val.run m g, (θ_run _ _ _).mono (fun r k c => ⟨(k c).1.trans (e c),
    (k c).2⟩) (Cert.TailRefIdeal.Value.run m' g')⟩

/-! ## The end of the second block at the sample -/

/-- The program terminates, leaves its arguments unchanged and its semaphores at zero. -/
theorem frame_TailS [Cert.TailS.Facts] : Cert.quiescent_TailS := fun m ρ _ => Cert.TailS.Gen.frame m ρ

/-- The same of the program read over the extended reals. -/
theorem frame_TailSIdeal [Cert.TailSIdeal.Facts] : Cert.quiescent_TailSIdeal := fun m ρ _ => Cert.TailSIdeal.Gen.frame m ρ

/-- The reference terminates and leaves its arguments unchanged; it has no semaphores. -/
theorem frame_TailSRefIdeal [Cert.TailSRefIdeal.Facts] : Cert.quiescent_TailSRefIdeal := fun m g _ =>
  (θ_run _ _ _).mono (fun r h => ⟨fun c => (h c).2, sem_eq_zero_of_no_sems rfl r.2⟩) (Cert.TailSRefIdeal.Value.run m g)

/-- The program and its reference, read over the extended reals, leave the same result. -/
theorem value_TailS [Cert.TailSIdeal.Facts] [Cert.TailSRefIdeal.Facts] : Cert.algebraic_TailSIdeal_TailSRefIdeal := by
  intro m g m' g' _ h
  have e : ∀ c, Cert.TailSRefIdeal.Value.res_main_v79 m' c = _ := fun c => by
    rw [Cert.TailSRefIdeal.Read.val_main_v79_eq m' c, (h c).1, (h c).2.1, (h c).2.2.1, (h c).2.2.2.1, (h c).2.2.2.2.1,
      (h c).2.2.2.2.2.1, (h c).2.2.2.2.2.2.1, (h c).2.2.2.2.2.2.2.1, (h c).2.2.2.2.2.2.2.2.1, (h c).2.2.2.2.2.2.2.2.2.1,
      (h c).2.2.2.2.2.2.2.2.2.2]
  exact ⟨_, Cert.TailSIdeal.Val.run m g, (θ_run _ _ _).mono (fun r k c => ⟨(k c).1.trans (e c),
    (k c).2⟩) (Cert.TailSRefIdeal.Value.run m' g')⟩

/-! ## The first block's in-projection at the prompt -/

/-- The program terminates, leaves its arguments unchanged and its semaphores at zero. -/
theorem frame_Even [Cert.Even.Facts] : Cert.quiescent_Even := fun m ρ _ => Cert.Even.Gen.frame m ρ

/-- The same of the program read over the extended reals. -/
theorem frame_EvenIdeal [Cert.EvenIdeal.Facts] : Cert.quiescent_EvenIdeal := fun m ρ _ => Cert.EvenIdeal.Gen.frame m ρ

/-- The reference terminates and leaves its arguments unchanged; it has no semaphores. -/
theorem frame_EvenRefIdeal [Cert.EvenRefIdeal.Facts] : Cert.quiescent_EvenRefIdeal := fun m g _ =>
  (θ_run _ _ _).mono (fun r h => ⟨fun c => (h c).2.2.2.2, sem_eq_zero_of_no_sems rfl r.2⟩) (Cert.EvenRefIdeal.Value.run m g)

/-- The program and its reference, read over the extended reals, leave the same four results. -/
theorem value_Even [Cert.EvenIdeal.Facts] [Cert.EvenRefIdeal.Facts] : Cert.algebraic_EvenIdeal_EvenRefIdeal := by
  intro m g m' g' _ h
  refine ⟨_, _, _, _, Cert.EvenIdeal.Val.run m g, (θ_run _ _ _).mono (fun r k c => ⟨(k c).1.trans ?_, (k c).2.1.trans ?_,
    (k c).2.2.1.trans ?_, (k c).2.2.2.1.trans ?_, (k c).2.2.2.2⟩) (Cert.EvenRefIdeal.Value.run m' g')⟩
  · exact (Cert.EvenRefIdeal.Read.val_main_v5_eq _ _).trans
      (congrArg₂ (Cert.EvenRefIdeal.Read.val_main_v5 (F := Ideal)) (h c).1 (h c).2.1)
  · exact (Cert.EvenRefIdeal.Read.val_main_v6_eq _ _ _).trans
      (congr (congrArg₂ (Cert.EvenRefIdeal.Read.val_main_v6 (F := Ideal)) (h c).1 (h c).2.1) (h c).2.2)
  · exact (Cert.EvenRefIdeal.Read.val_main_v7_eq _ _).trans
      (congrArg₂ (Cert.EvenRefIdeal.Read.val_main_v7 (F := Ideal)) (h c).1 (h c).2.1)
  · exact (Cert.EvenRefIdeal.Read.val_main_v8_eq _ _).trans
      (congrArg₂ (Cert.EvenRefIdeal.Read.val_main_v8 (F := Ideal)) (h c).1 (h c).2.1)

/-! ## The first block's out-projection at the prompt -/

/-- The program terminates, leaves its arguments unchanged and its semaphores at zero. -/
theorem frame_Mix [Cert.Mix.Facts] : Cert.quiescent_Mix := fun m ρ _ => Cert.Mix.Gen.frame m ρ

/-- The same of the program read over the extended reals. -/
theorem frame_MixIdeal [Cert.MixIdeal.Facts] : Cert.quiescent_MixIdeal := fun m ρ _ => Cert.MixIdeal.Gen.frame m ρ

/-- The reference terminates and leaves its arguments unchanged; it has no semaphores. -/
theorem frame_MixRefIdeal [Cert.MixRefIdeal.Facts] : Cert.quiescent_MixRefIdeal := fun m g _ =>
  (θ_run _ _ _).mono (fun r h => ⟨fun c => (h c).2, sem_eq_zero_of_no_sems rfl r.2⟩) (Cert.MixRefIdeal.Value.run m g)

/-- The program and its reference, read over the extended reals, leave the same result. -/
theorem value_Mix [Cert.MixIdeal.Facts] [Cert.MixRefIdeal.Facts] : Cert.algebraic_MixIdeal_MixRefIdeal := by
  intro m g m' g' _ h
  refine ⟨_, Cert.MixIdeal.Val.run m g, (θ_run _ _ _).mono (fun r k c => ⟨(k c).1.trans ?_, (k c).2⟩)
    (Cert.MixRefIdeal.Value.run m' g')⟩
  exact (Cert.MixRefIdeal.Read.val_main_v4_eq _ _ _ _).trans (congr (congr (congrArg₂
    (Cert.MixRefIdeal.Read.val_main_v4 (F := Ideal)) (h c).1 (h c).2.1) (h c).2.2.1) (h c).2.2.2)

/-! ## The state mixer's final state at the sample -/

/-- The program terminates, leaves its arguments unchanged and its semaphores at zero. -/
theorem frame_State [Cert.State.Facts] : Cert.quiescent_State := fun m ρ _ => Cert.State.Gen.frame m ρ

/-- The same of the program read over the extended reals. -/
theorem frame_StateIdeal [Cert.StateIdeal.Facts] : Cert.quiescent_StateIdeal := fun m ρ _ => Cert.StateIdeal.Gen.frame m ρ

/-- The reference terminates and leaves its arguments unchanged; it has no semaphores. -/
theorem frame_StateRefIdeal [Cert.StateRefIdeal.Facts] : Cert.quiescent_StateRefIdeal := fun m g _ =>
  (θ_run _ _ _).mono (fun r h => ⟨fun c => (h c).2.2, sem_eq_zero_of_no_sems rfl r.2⟩) (Cert.StateRefIdeal.Value.run m g)

/-- The program and its reference, read over the extended reals, leave the same two results. -/
theorem value_State [Cert.StateIdeal.Facts] [Cert.StateRefIdeal.Facts] : Cert.algebraic_StateIdeal_StateRefIdeal := by
  intro m g m' g' _ h
  refine ⟨_, _, Cert.StateIdeal.Val.run m g, (θ_run _ _ _).mono (fun r k c => ⟨(k c).1.trans ?_, (k c).2.1.trans ?_,
    (k c).2.2⟩) (Cert.StateRefIdeal.Value.run m' g')⟩
  · exact (Cert.StateRefIdeal.Read.val_main_v194_eq (StableHlo.launchContents m' c)).trans (congr (congr (congr (congr (congr (congr (congrArg₂ (Cert.StateRefIdeal.Read.val_main_v194 (F := Ideal)) (h c).1 (h c).2.1) (h c).2.2.1) (h c).2.2.2.1)
      (h c).2.2.2.2.1) (h c).2.2.2.2.2.1) (h c).2.2.2.2.2.2.1) (h c).2.2.2.2.2.2.2.1)
  · exact (Cert.StateRefIdeal.Read.val_main_v204_eq (StableHlo.launchContents m' c)).trans (congr (congr (congr (congr (congr (congr (congrArg₂ (Cert.StateRefIdeal.Read.val_main_v204 (F := Ideal)) (h c).1 (h c).2.1) (h c).2.2.1) (h c).2.2.2.1)
      (h c).2.2.2.2.1) (h c).2.2.2.2.2.1) (h c).2.2.2.2.2.2.1) (h c).2.2.2.2.2.2.2.1)

/-- The certificate: every claim of every program. -/
theorem claim : Cert.Claim :=
  ⟨Cert.Kernel.Gen.facts, Cert.KernelIdeal.Gen.facts, Cert.ReferenceIdeal.Gen.facts, Cert.Up.Gen.facts, Cert.UpIdeal.Gen.facts, Cert.UpRefIdeal.Gen.facts, Cert.Down.Gen.facts, Cert.DownIdeal.Gen.facts, Cert.DownRefIdeal.Gen.facts, Cert.Head.Gen.facts, Cert.HeadIdeal.Gen.facts, Cert.HeadRefIdeal.Gen.facts, Cert.HeadS.Gen.facts, Cert.HeadSIdeal.Gen.facts, Cert.HeadSRefIdeal.Gen.facts, Cert.Odd.Gen.facts, Cert.OddIdeal.Gen.facts, Cert.OddRefIdeal.Gen.facts, Cert.OddS.Gen.facts, Cert.OddSIdeal.Gen.facts, Cert.OddSRefIdeal.Gen.facts, Cert.Tail.Gen.facts, Cert.TailIdeal.Gen.facts, Cert.TailRefIdeal.Gen.facts, Cert.TailS.Gen.facts, Cert.TailSIdeal.Gen.facts, Cert.TailSRefIdeal.Gen.facts, Cert.Even.Gen.facts, Cert.EvenIdeal.Gen.facts, Cert.EvenRefIdeal.Gen.facts, Cert.Mix.Gen.facts, Cert.MixIdeal.Gen.facts, Cert.MixRefIdeal.Gen.facts, Cert.State.Gen.facts, Cert.StateIdeal.Gen.facts, Cert.StateRefIdeal.Gen.facts,
   frame_Kernel, frame_KernelIdeal, frame_ReferenceIdeal, frame_Up, frame_UpIdeal, frame_UpRefIdeal, frame_Down, frame_DownIdeal, frame_DownRefIdeal, frame_Head, frame_HeadIdeal, frame_HeadRefIdeal, frame_HeadS, frame_HeadSIdeal, frame_HeadSRefIdeal, frame_Odd, frame_OddIdeal, frame_OddRefIdeal, frame_OddS, frame_OddSIdeal, frame_OddSRefIdeal, frame_Tail, frame_TailIdeal, frame_TailRefIdeal, frame_TailS, frame_TailSIdeal, frame_TailSRefIdeal, frame_Even, frame_EvenIdeal, frame_EvenRefIdeal, frame_Mix, frame_MixIdeal, frame_MixRefIdeal, frame_State, frame_StateIdeal, frame_StateRefIdeal,
   trivial, value_Kernel, trivial, value_Up, trivial, value_Down, trivial, value_Head, trivial, value_HeadS, trivial, value_Odd, trivial, value_OddS, trivial, value_Tail, trivial, value_TailS, trivial, value_Even, trivial, value_Mix, trivial, value_State⟩

end Cert.Proof

end
